-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "qscale" .f32 0x3E0293EE#32 (((11863283 / 134217728) * (Real.log 2)⁻¹ : ℝ) : EReal)

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v23)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v129) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v23)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v23) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v89) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_queries_and_keys.lean ====
abbrev S4x4096x4x4x128 : Shape := ⟨5, ![4, 4096, 4, 4, 128]⟩
abbrev S4x4096x4x128 : Shape := ⟨4, ![4, 4096, 4, 128]⟩
abbrev S4x256x4x4x128 : Shape := ⟨5, ![4, 256, 4, 4, 128]⟩
abbrev S4x256x4x128 : Shape := ⟨4, ![4, 256, 4, 128]⟩
abbrev S_ : Shape := ⟨0, ![]⟩

class Facts : Prop where
  bcast_S_S4x4096x4x4x128 : S_.BroadcastsInDim S4x4096x4x4x128 (![] : Fin 0 → Fin S4x4096x4x4x128.rank)
  reducesTo_S4x4096x4x4x128_S_d0_1_2_3_4 : S4x4096x4x4x128.ReducesTo [0, 1, 2, 3, 4] S_
  h_S_ : 0 < S_.numel
  bcast_S_S4x4096x4x128 : S_.BroadcastsInDim S4x4096x4x128 (![] : Fin 0 → Fin S4x4096x4x128.rank)
  reducesTo_S4x4096x4x128_S_d0_1_2_3 : S4x4096x4x128.ReducesTo [0, 1, 2, 3] S_
  bcast_S_S4x256x4x128 : S_.BroadcastsInDim S4x256x4x128 (![] : Fin 0 → Fin S4x256x4x128.rank)
  reducesTo_S4x256x4x128_S_d0_1_2_3 : S4x256x4x128.ReducesTo [0, 1, 2, 3] S_

variable [Facts]

def fn {F : FTy → Type} [FloatOps F] (main_arg0 : FVec F S4x4096x4x4x128 .f32) (main_arg1 : FVec F S4x4096x4x128 .f32) (main_arg2 : FVec F S4x4096x4x128 .f32) (main_arg3 : FVec F S4x256x4x4x128 .f32) (main_arg4 : FVec F S4x256x4x128 .f32) (main_arg5 : FVec F S4x256x4x128 .f32) : IVec S_ 1 :=
  let main_v0 : FVec F S4x4096x4x4x128 .f32 := Host.absf main_arg0
  let main_cst : FVec F S_ .f32 := constant S_ .f32 0x7F800000#32
  let main_v1 : FVec F S4x4096x4x4x128 .f32 := broadcastInDim S4x4096x4x4x128 ![] bcast_S_S4x4096x4x4x128 main_cst
  let main_v2 : IVec S4x4096x4x4x128 1 := cmpf .olt main_v0 main_v1
  let main_c : IVec S_ 1 := constantI S_ 1 1#1
  let main_v3 : IVec S_ 1 := (fun x v => Host.reduce IntOp.andi x v reducesTo_S4x4096x4x4x128_S_d0_1_2_3_4 h_S_) main_v2 main_c
  let main_v4 : FVec F S4x4096x4x128 .f32 := Host.absf main_arg1
  let main_cst_0 : FVec F S_ .f32 := constant S_ .f32 0x7F800000#32
  let main_v5 : FVec F S4x4096x4x128 .f32 := broadcastInDim S4x4096x4x128 ![] bcast_S_S4x4096x4x128 main_cst_0
  let main_v6 : IVec S4x4096x4x128 1 := cmpf .olt main_v4 main_v5
  let main_c_1 : IVec S_ 1 := constantI S_ 1 1#1
  let main_v7 : IVec S_ 1 := (fun x v => Host.reduce IntOp.andi x v reducesTo_S4x4096x4x128_S_d0_1_2_3 h_S_) main_v6 main_c_1
  let main_v8 : IVec S_ 1 := andi main_v3 main_v7
  let main_v9 : FVec F S4x256x4x128 .f32 := Host.absf main_arg4
  let main_cst_2 : FVec F S_ .f32 := constant S_ .f32 0x7F800000#32
  let main_v10 : FVec F S4x256x4x128 .f32 := broadcastInDim S4x256x4x128 ![] bcast_S_S4x256x4x128 main_cst_2
  let main_v11 : IVec S4x256x4x128 1 := cmpf .olt main_v9 main_v10
  let main_c_3 : IVec S_ 1 := constantI S_ 1 1#1
  let main_v12 : IVec S_ 1 := (fun x v => Host.reduce IntOp.andi x v reducesTo_S4x256x4x128_S_d0_1_2_3 h_S_) main_v11 main_c_3
  let main_v13 : IVec S_ 1 := andi main_v8 main_v12
  main_v13
-- ==== Kernel.lean ====
abbrev S4x4096x4x4x128 : Shape := ⟨5, ![4, 4096, 4, 4, 128]⟩
abbrev S4x4096x4x128 : Shape := ⟨4, ![4, 4096, 4, 128]⟩
abbrev S4x256x4x4x128 : Shape := ⟨5, ![4, 256, 4, 4, 128]⟩
abbrev S4x256x4x128 : Shape := ⟨4, ![4, 256, 4, 128]⟩
abbrev S16384x2048 : Shape := ⟨2, ![16384, 2048]⟩
abbrev S1024x2048 : Shape := ⟨2, ![1024, 2048]⟩
abbrev S17408x2048 : Shape := ⟨2, ![17408, 2048]⟩
abbrev S16384x512 : Shape := ⟨2, ![16384, 512]⟩
abbrev S1024x512 : Shape := ⟨2, ![1024, 512]⟩
abbrev S17408x512 : Shape := ⟨2, ![17408, 512]⟩
abbrev S32x512x512 : Shape := ⟨3, ![32, 512, 512]⟩
abbrev S4x256x512 : Shape := ⟨3, ![4, 256, 512]⟩
abbrev S4x512x256 : Shape := ⟨3, ![4, 512, 256]⟩
abbrev S1024x128 : Shape := ⟨2, ![1024, 128]⟩
abbrev S256x128 : Shape := ⟨2, ![256, 128]⟩
abbrev S1x128x256 : Shape := ⟨3, ![1, 128, 256]⟩
abbrev S4096x128 : Shape := ⟨2, ![4096, 128]⟩
abbrev S8x128x512 : Shape := ⟨3, ![8, 128, 512]⟩
abbrev S1x256 : Shape := ⟨2, ![1, 256]⟩
abbrev S128x256 : Shape := ⟨2, ![128, 256]⟩
abbrev S512x256 : Shape := ⟨2, ![512, 256]⟩
abbrev S256x256 : Shape := ⟨2, ![256, 256]⟩
abbrev S512x128 : Shape := ⟨2, ![512, 128]⟩
abbrev S256 : Shape := ⟨1, ![256]⟩
abbrev S1x128x512 : Shape := ⟨3, ![1, 128, 512]⟩
abbrev S128x512 : Shape := ⟨2, ![128, 512]⟩

abbrev nBuf : Space → Nat
  | .hbm => 20
  | .vmem => 40
  | .smem => 0
  | _ => 0

abbrev bufTy : (tb : Table) → Fin (tcTables nBuf tb) → BufTy
  | .hbm, ⟨0, _⟩ => ⟨S4x4096x4x4x128, .f32⟩
  | .hbm, ⟨1, _⟩ => ⟨S4x4096x4x128, .f32⟩
  | .hbm, ⟨2, _⟩ => ⟨S4x4096x4x128, .f32⟩
  | .hbm, ⟨3, _⟩ => ⟨S4x256x4x4x128, .f32⟩
  | .hbm, ⟨4, _⟩ => ⟨S4x256x4x128, .f32⟩
  | .hbm, ⟨5, _⟩ => ⟨S4x256x4x128, .f32⟩
  | .hbm, ⟨6, _⟩ => ⟨S16384x2048, .f32⟩
  | .hbm, ⟨7, _⟩ => ⟨S1024x2048, .f32⟩
  | .hbm, ⟨8, _⟩ => ⟨S17408x2048, .f32⟩
  | .hbm, ⟨9, _⟩ => ⟨S16384x512, .f32⟩
  | .hbm, ⟨10, _⟩ => ⟨S1024x512, .f32⟩
  | .hbm, ⟨11, _⟩ => ⟨S17408x512, .f32⟩
  | .hbm, ⟨12, _⟩ => ⟨S17408x512, .bf16⟩
  | .hbm, ⟨13, _⟩ => ⟨S32x512x512, .f32⟩
  | .hbm, ⟨14, _⟩ => ⟨S32x512x512, .f32⟩
  | .hbm, ⟨15, _⟩ => ⟨S32x512x512, .bf16⟩
  | .hbm, ⟨16, _⟩ => ⟨S4x256x512, .f32⟩
  | .hbm, ⟨17, _⟩ => ⟨S4x512x256, .f32⟩
  | .hbm, ⟨18, _⟩ => ⟨S4x512x256, .bf16⟩
  | .hbm, ⟨19, _⟩ => ⟨S16384x2048, .bf16⟩
  | .local _ .vmem, ⟨0, _⟩ => ⟨S1024x128, .f32⟩
  | .local _ .vmem, ⟨1, _⟩ => ⟨S1024x128, .f32⟩
  | .local _ .vmem, ⟨2, _⟩ => ⟨S256x128, .bf16⟩
  | .local _ .vmem, ⟨3, _⟩ => ⟨S256x128, .bf16⟩
  | .local _ .vmem, ⟨4, _⟩ => ⟨S1x128x256, .bf16⟩
  | .local _ .vmem, ⟨5, _⟩ => ⟨S1x128x256, .bf16⟩
  | .local _ .vmem, ⟨6, _⟩ => ⟨S4096x128, .bf16⟩
  | .local _ .vmem, ⟨7, _⟩ => ⟨S4096x128, .bf16⟩
  | .local _ .vmem, ⟨8, _⟩ => ⟨S8x128x512, .bf16⟩
  | .local _ .vmem, ⟨9, _⟩ => ⟨S8x128x512, .bf16⟩
  | .local _ .vmem, ⟨10, _⟩ => ⟨S1024x128, .bf16⟩
  | .local _ .vmem, ⟨11, _⟩ => ⟨S1024x128, .bf16⟩
  | .local _ .vmem, ⟨12, _⟩ => ⟨S1x256, .f32⟩
  | .local _ .vmem, ⟨13, _⟩ => ⟨S1x256, .f32⟩
  | .local _ .vmem, ⟨14, _⟩ => ⟨S128x256, .f32⟩
  | .local _ .vmem, ⟨15, _⟩ => ⟨S512x256, .f32⟩
  | .local _ .vmem, ⟨16, _⟩ => ⟨S512x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S128x256, .f32⟩
  | .local _ .vmem, ⟨22, _⟩ => ⟨S512x256, .f32⟩
  | .local _ .vmem, ⟨23, _⟩ => ⟨S512x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S128x256, .f32⟩
  | .local _ .vmem, ⟨29, _⟩ => ⟨S512x256, .f32⟩
  | .local _ .vmem, ⟨30, _⟩ => ⟨S512x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S128x256, .f32⟩
  | .local _ .vmem, ⟨36, _⟩ => ⟨S512x256, .f32⟩
  | .local _ .vmem, ⟨37, _⟩ => ⟨S512x256, .f32⟩
  | .local _ .vmem, ⟨38, _⟩ => ⟨S1x256, .f32⟩
  | .local _ .vmem, ⟨39, _⟩ => ⟨S1x256, .f32⟩
  | _, _ => ⟨S4x4096x4x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_scratch11 : Ref sig .tc := ⟨.vmem, 23, rfl⟩
abbrev cc0_scratch12 : Ref sig .tc := ⟨.vmem, 24, rfl⟩
abbrev cc0_scratch13 : Ref sig .tc := ⟨.vmem, 25, rfl⟩
abbrev cc0_scratch14 : Ref sig .tc := ⟨.vmem, 26, rfl⟩
abbrev cc0_scratch15 : Ref sig .tc := ⟨.vmem, 27, rfl⟩
abbrev cc0_scratch16 : Ref sig .tc := ⟨.vmem, 28, rfl⟩
abbrev cc0_scratch17 : Ref sig .tc := ⟨.vmem, 29, rfl⟩
abbrev cc0_scratch18 : Ref sig .tc := ⟨.vmem, 30, rfl⟩
abbrev cc0_scratch19 : Ref sig .tc := ⟨.vmem, 31, rfl⟩
abbrev cc0_scratch20 : Ref sig .tc := ⟨.vmem, 32, rfl⟩
abbrev cc0_scratch21 : Ref sig .tc := ⟨.vmem, 33, rfl⟩
abbrev cc0_scratch22 : Ref sig .tc := ⟨.vmem, 34, rfl⟩
abbrev cc0_scratch23 : Ref sig .tc := ⟨.vmem, 35, rfl⟩
abbrev cc0_scratch24 : Ref sig .tc := ⟨.vmem, 36, rfl⟩
abbrev cc0_scratch25 : Ref sig .tc := ⟨.vmem, 37, rfl⟩
abbrev cc0_scratch26 : Ref sig .tc := ⟨.vmem, 38, rfl⟩
abbrev cc0_scratch27 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 4], ![false, false, false]⟩

def k0_mult1 : BitVec 32 :=
  let c0_i32 : BitVec 32 := 0#32
  c0_i32
@[reducible] def k0_t1_loop : Scf.Loop 32 :=
  let c0_i32_89 : BitVec 32 := 0#32
  let c3_i32 : BitVec 32 := 3#32
  let v160 : BitVec 32 := Scalar.addi c0_i32_89 c3_i32
  let c1_i32 : BitVec 32 := 1#32
  ⟨c0_i32_89, v160, c1_i32⟩
def k0_mult2 (k0_t1 : Fin k0_t1_loop.trips) : BitVec 32 :=
  let c2_i32 : BitVec 32 := 2#32
  let c0_i32_89 : BitVec 32 := 0#32
  let c1_i32 : BitVec 32 := 1#32
  let arg37 : BitVec 32 := Scf.iv c0_i32_89 c1_i32 k0_t1
  let v485 : BitVec 32 := Scalar.muli c2_i32 arg37
  let c1_i32_300 : BitVec 32 := 1#32
  let v486 : BitVec 32 := Scalar.addi v485 c1_i32_300
  let c512_i32 : BitVec 32 := 512#32
  let v487 : BitVec 32 := Scalar.muli v486 c512_i32
  v487
def k0_off1 (k0_t1 : Fin k0_t1_loop.trips) (c1_i32_300 : BitVec 32) : Fin 2 → Nat :=
  let c2_i32 : BitVec 32 := 2#32
  let c0_i32_89 : BitVec 32 := 0#32
  let c1_i32 : BitVec 32 := 1#32
  let arg37 : BitVec 32 := Scf.iv c0_i32_89 c1_i32 k0_t1
  let v485 : BitVec 32 := Scalar.muli c2_i32 arg37
  let v486 : BitVec 32 := Scalar.addi v485 c1_i32_300
  let c512_i32 : BitVec 32 := 512#32
  let v487 : BitVec 32 := Scalar.muli v486 c512_i32
  let v488 : BitVec 32 := v487
  let v489 : Index := Scalar.indexCast v488
  let c0_301 : Index := 0#32
  ![v489.toNat, 0]
def k0_off2 (k0_t1 : Fin k0_t1_loop.trips) : Fin 3 → Nat :=
  let c2_i32 : BitVec 32 := 2#32
  let c0_i32_89 : BitVec 32 := 0#32
  let c1_i32 : BitVec 32 := 1#32
  let arg37 : BitVec 32 := Scf.iv c0_i32_89 c1_i32 k0_t1
  let v485 : BitVec 32 := Scalar.muli c2_i32 arg37
  let v556 : Index := Scalar.indexCast v485
  let c0_354 : Index := 0#32
  let c0_355 : Index := 0#32
  ![v556.toNat, 0, 0]
def k0_mult3 (k0_t1 : Fin k0_t1_loop.trips) : BitVec 32 :=
  let c2_i32 : BitVec 32 := 2#32
  let c0_i32_89 : BitVec 32 := 0#32
  let c1_i32 : BitVec 32 := 1#32
  let arg37 : BitVec 32 := Scf.iv c0_i32_89 c1_i32 k0_t1
  let v485 : BitVec 32 := Scalar.muli c2_i32 arg37
  let c2_i32_412 : BitVec 32 := 2#32
  let v667 : BitVec 32 := Scalar.addi v485 c2_i32_412
  let c512_i32_413 : BitVec 32 := 512#32
  let v668 : BitVec 32 := Scalar.muli v667 c512_i32_413
  v668
def k0_off3 (k0_t1 : Fin k0_t1_loop.trips) : Fin 3 → Nat :=
  let c2_i32 : BitVec 32 := 2#32
  let c0_i32_89 : BitVec 32 := 0#32
  let c1_i32 : BitVec 32 := 1#32
  let arg37 : BitVec 32 := Scf.iv c0_i32_89 c1_i32 k0_t1
  let v485 : BitVec 32 := Scalar.muli c2_i32 arg37
  let c1_i32_467 : BitVec 32 := 1#32
  let v737 : BitVec 32 := Scalar.addi v485 c1_i32_467
  let v738 : Index := Scalar.indexCast v737
  let c0_468 : Index := 0#32
  let c0_469 : Index := 0#32
  ![v738.toNat, 0, 0]
def k0_mult4 : BitVec 32 :=
  let c3584_i32 : BitVec 32 := 3584#32
  c3584_i32
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c4_i32 : BitVec 32 := 4#32
  let v1 : BitVec 32 := Scalar.divsi arg1 c4_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.muli v17 c1_i32_4
  let c0_i32_5 : BitVec 32 := 0#32
  let v19 : BitVec 32 := Scalar.addi c0_i32_5 v18
  let c0_i32_6 : BitVec 32 := 0#32
  ![v0.toNat, v19.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli v16 c1_i32_4
  let c0_i32_5 : BitVec 32 := 0#32
  let v18 : BitVec 32 := Scalar.addi c0_i32_5 v17
  let c0_i32_6 : BitVec 32 := 0#32
  ![arg0.toNat, v18.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "qscale" => some (((11863283 / 134217728) * (Real.log 2)⁻¹ : ℝ) : EReal)
  | _ => none
-- ==== ReferenceIdeal.lean ====
abbrev S4x4096x4x4x128 : Shape := ⟨5, ![4, 4096, 4, 4, 128]⟩
abbrev S4x4096x4x128 : Shape := ⟨4, ![4, 4096, 4, 128]⟩
abbrev S4x256x4x4x128 : Shape := ⟨5, ![4, 256, 4, 4, 128]⟩
abbrev S4x256x4x128 : Shape := ⟨4, ![4, 256, 4, 128]⟩
abbrev S4x4352x4x128 : Shape := ⟨4, ![4, 4352, 4, 128]⟩
abbrev S4x4x4352x4096x4 : Shape := ⟨5, ![4, 4, 4352, 4096, 4]⟩
abbrev S4x4x4x4096x4352 : Shape := ⟨5, ![4, 4, 4, 4096, 4352]⟩
abbrev S_ : Shape := ⟨0, ![]⟩
abbrev S4x4x4x4096 : Shape := ⟨4, ![4, 4, 4, 4096]⟩
abbrev S4x4x4x4096x1 : Shape := ⟨5, ![4, 4, 4, 4096, 1]⟩
abbrev S4x4x128x4x4096 : Shape := ⟨5, ![4, 4, 128, 4, 4096]⟩
abbrev S16384x2048 : Shape := ⟨2, ![16384, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x4x4x128, .f32⟩
  | .hbm, ⟨1, _⟩ => ⟨S4x4096x4x128, .f32⟩
  | .hbm, ⟨2, _⟩ => ⟨S4x4096x4x128, .f32⟩
  | .hbm, ⟨3, _⟩ => ⟨S4x256x4x4x128, .f32⟩
  | .hbm, ⟨4, _⟩ => ⟨S4x256x4x128, .f32⟩
  | .hbm, ⟨5, _⟩ => ⟨S4x256x4x128, .f32⟩
  | .hbm, ⟨6, _⟩ => ⟨S4x4352x4x128, .f32⟩
  | .hbm, ⟨7, _⟩ => ⟨S4x4352x4x128, .f32⟩
  | .hbm, ⟨8, _⟩ => ⟨S4x4x4352x4096x4, .f32⟩
  | .hbm, ⟨9, _⟩ => ⟨S4x4x4x4096x4352, .f32⟩
  | .hbm, ⟨10, _⟩ => ⟨S_, .f32⟩
  | .hbm, ⟨11, _⟩ => ⟨S4x4x4x4096x4352, .f32⟩
  | .hbm, ⟨12, _⟩ => ⟨S4x4x4x4096x4352, .f32⟩
  | .hbm, ⟨13, _⟩ => ⟨S_, .f32⟩
  | .hbm, ⟨14, _⟩ => ⟨S4x4x4x4096, .f32⟩
  | .hbm, ⟨15, _⟩ => ⟨S_, .f32⟩
  | .hbm, ⟨16, _⟩ => ⟨S4x4x4x4096, .f32⟩
  | .hbm, ⟨17, _⟩ => ⟨S4x4x4x4096, .f32⟩
  | .hbm, ⟨18, _⟩ => ⟨S4x4x4x4096x1, .f32⟩
  | .hbm, ⟨19, _⟩ => ⟨S4x4x4x4096x4352, .f32⟩
  | .hbm, ⟨20, _⟩ => ⟨S4x4x4x4096x4352, .f32⟩
  | .hbm, ⟨21, _⟩ => ⟨S4x4x4x4096x4352, .f32⟩
  | .hbm, ⟨22, _⟩ => ⟨S_, .f32⟩
  | .hbm, ⟨23, _⟩ => ⟨S4x4x4x4096, .f32⟩
  | .hbm, ⟨24, _⟩ => ⟨S4x4x4x4096x1, .f32⟩
  | .hbm, ⟨25, _⟩ => ⟨S4x4x4x4096x4352, .f32⟩
  | .hbm, ⟨26, _⟩ => ⟨S4x4x4x4096x4352, .f32⟩
  | .hbm, ⟨27, _⟩ => ⟨S4x4x128x4x4096, .f32⟩
  | .hbm, ⟨28, _⟩ => ⟨S4x4096x4x4x128, .f32⟩
  | .hbm, ⟨29, _⟩ => ⟨S16384x2048, .f32⟩
  | .hbm, ⟨30, _⟩ => ⟨S16384x2048, .bf16⟩
  | _, _ => ⟨S4x4096x4x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel2.lean ====
abbrev S4x4096x4096 : Shape := ⟨3, ![4, 4096, 4096]⟩
abbrev S4x256x4096 : Shape := ⟨3, ![4, 256, 4096]⟩
abbrev S4096x11008 : Shape := ⟨2, ![4096, 11008]⟩
abbrev S16384x4096 : Shape := ⟨2, ![16384, 4096]⟩
abbrev S1024x4096 : Shape := ⟨2, ![1024, 4096]⟩
abbrev S17408x4096 : Shape := ⟨2, ![17408, 4096]⟩
abbrev S17408x11008 : Shape := ⟨2, ![17408, 11008]⟩
abbrev S4096x256 : Shape := ⟨2, ![4096, 256]⟩
abbrev S1024x256 : Shape := ⟨2, ![1024, 256]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S4x256x4096, .f32⟩
  | .hbm, ⟨2, _⟩ => ⟨S4096x11008, .f32⟩
  | .hbm, ⟨3, _⟩ => ⟨S4096x11008, .f32⟩
  | .hbm, ⟨4, _⟩ => ⟨S16384x4096, .f32⟩
  | .hbm, ⟨5, _⟩ => ⟨S1024x4096, .f32⟩
  | .hbm, ⟨6, _⟩ => ⟨S17408x4096, .f32⟩
  | .hbm, ⟨7, _⟩ => ⟨S17408x4096, .bf16⟩
  | .hbm, ⟨8, _⟩ => ⟨S17408x11008, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S1024x256, .bf16⟩
  | .local _ .vmem, ⟨7, _⟩ => ⟨S1024x256, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![17, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4x4096x4096 : Shape := ⟨3, ![4, 4096, 4096]⟩
abbrev S4x256x4096 : Shape := ⟨3, ![4, 256, 4096]⟩
abbrev S4096x11008 : Shape := ⟨2, ![4096, 11008]⟩
abbrev S4x4096x11008 : Shape := ⟨3, ![4, 4096, 11008]⟩
abbrev S_ : Shape := ⟨0, ![]⟩
abbrev S4x256x11008 : Shape := ⟨3, ![4, 256, 11008]⟩
abbrev S16384x11008 : Shape := ⟨2, ![16384, 11008]⟩
abbrev S1024x11008 : Shape := ⟨2, ![1024, 11008]⟩
abbrev S17408x11008 : Shape := ⟨2, ![17408, 11008]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x256x4096, .f32⟩
  | .hbm, ⟨2, _⟩ => ⟨S4096x11008, .f32⟩
  | .hbm, ⟨3, _⟩ => ⟨S4096x11008, .f32⟩
  | .hbm, ⟨4, _⟩ => ⟨S4x4096x11008, .f32⟩
  | .hbm, ⟨5, _⟩ => ⟨S4x4096x11008, .f32⟩
  | .hbm, ⟨6, _⟩ => ⟨S4x4096x11008, .f32⟩
  | .hbm, ⟨7, _⟩ => ⟨S_, .f32⟩
  | .hbm, ⟨8, _⟩ => ⟨S4x4096x11008, .f32⟩
  | .hbm, ⟨9, _⟩ => ⟨S4x4096x11008, .f32⟩
  | .hbm, ⟨10, _⟩ => ⟨S_, .f32⟩
  | .hbm, ⟨11, _⟩ => ⟨S4x4096x11008, .f32⟩
  | .hbm, ⟨12, _⟩ => ⟨S4x4096x11008, .f32⟩
  | .hbm, ⟨13, _⟩ => ⟨S4x4096x11008, .f32⟩
  | .hbm, ⟨14, _⟩ => ⟨S4x4096x11008, .f32⟩
  | .hbm, ⟨15, _⟩ => ⟨S4x4096x11008, .f32⟩
  | .hbm, ⟨16, _⟩ => ⟨S4x256x11008, .f32⟩
  | .hbm, ⟨17, _⟩ => ⟨S4x256x11008, .f32⟩
  | .hbm, ⟨18, _⟩ => ⟨S4x256x11008, .f32⟩
  | .hbm, ⟨19, _⟩ => ⟨S_, .f32⟩
  | .hbm, ⟨20, _⟩ => ⟨S4x256x11008, .f32⟩
  | .hbm, ⟨21, _⟩ => ⟨S4x256x11008, .f32⟩
  | .hbm, ⟨22, _⟩ => ⟨S_, .f32⟩
  | .hbm, ⟨23, _⟩ => ⟨S4x256x11008, .f32⟩
  | .hbm, ⟨24, _⟩ => ⟨S4x256x11008, .f32⟩
  | .hbm, ⟨25, _⟩ => ⟨S4x256x11008, .f32⟩
  | .hbm, ⟨26, _⟩ => ⟨S4x256x11008, .f32⟩
  | .hbm, ⟨27, _⟩ => ⟨S4x256x11008, .f32⟩
  | .hbm, ⟨28, _⟩ => ⟨S16384x11008, .f32⟩
  | .hbm, ⟨29, _⟩ => ⟨S1024x11008, .f32⟩
  | .hbm, ⟨30, _⟩ => ⟨S17408x11008, .f32⟩
  | .hbm, ⟨31, _⟩ => ⟨S17408x11008, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== Kernel3.lean ====
abbrev S4x4096x11008 : Shape := ⟨3, ![4, 4096, 11008]⟩
abbrev S4x256x11008 : Shape := ⟨3, ![4, 256, 11008]⟩
abbrev S11008x4096 : Shape := ⟨2, ![11008, 4096]⟩
abbrev S4x4096x4096 : Shape := ⟨3, ![4, 4096, 4096]⟩
abbrev S4x256x4096 : Shape := ⟨3, ![4, 256, 4096]⟩
abbrev S4x1x4096 : Shape := ⟨3, ![4, 1, 4096]⟩
abbrev S1x1x4096 : Shape := ⟨3, ![1, 1, 4096]⟩
abbrev S5x1x4096 : Shape := ⟨3, ![5, 1, 4096]⟩
abbrev S_ : Shape := ⟨0, ![]⟩
abbrev S3x1x4096 : Shape := ⟨3, ![3, 1, 4096]⟩
abbrev S8x1x4096 : Shape := ⟨3, ![8, 1, 4096]⟩
abbrev S16384x11008 : Shape := ⟨2, ![16384, 11008]⟩
abbrev S1024x11008 : Shape := ⟨2, ![1024, 11008]⟩
abbrev S17408x11008 : Shape := ⟨2, ![17408, 11008]⟩
abbrev S16384x4096 : Shape := ⟨2, ![16384, 4096]⟩
abbrev S1024x4096 : Shape := ⟨2, ![1024, 4096]⟩
abbrev S17408x4096 : Shape := ⟨2, ![17408, 4096]⟩
abbrev S512x11008 : Shape := ⟨2, ![512, 11008]⟩
abbrev S11008x512 : Shape := ⟨2, ![11008, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 20
  | .vmem => 10
  | .smem => 0
  | _ => 0

abbrev bufTy : (tb : Table) → Fin (tcTables nBuf tb) → BufTy
  | .hbm, ⟨0, _⟩ => ⟨S4x4096x11008, .f32⟩
  | .hbm, ⟨1, _⟩ => ⟨S4x256x11008, .f32⟩
  | .hbm, ⟨2, _⟩ => ⟨S11008x4096, .f32⟩
  | .hbm, ⟨3, _⟩ => ⟨S4x4096x4096, .f32⟩
  | .hbm, ⟨4, _⟩ => ⟨S4x256x4096, .f32⟩
  | .hbm, ⟨5, _⟩ => ⟨S4x1x4096, .f32⟩
  | .hbm, ⟨6, _⟩ => ⟨S1x1x4096, .f32⟩
  | .hbm, ⟨7, _⟩ => ⟨S5x1x4096, .f32⟩
  | .hbm, ⟨8, _⟩ => ⟨S_, .f32⟩
  | .hbm, ⟨9, _⟩ => ⟨S3x1x4096, .f32⟩
  | .hbm, ⟨10, _⟩ => ⟨S8x1x4096, .f32⟩
  | .hbm, ⟨11, _⟩ => ⟨S16384x11008, .f32⟩
  | .hbm, ⟨12, _⟩ => ⟨S1024x11008, .f32⟩
  | .hbm, ⟨13, _⟩ => ⟨S17408x11008, .f32⟩
  | .hbm, ⟨14, _⟩ => ⟨S17408x11008, .bf16⟩
  | .hbm, ⟨15, _⟩ => ⟨S11008x4096, .bf16⟩
  | .hbm, ⟨16, _⟩ => ⟨S16384x4096, .f32⟩
  | .hbm, ⟨17, _⟩ => ⟨S1024x4096, .f32⟩
  | .hbm, ⟨18, _⟩ => ⟨S17408x4096, .f32⟩
  | .hbm, ⟨19, _⟩ => ⟨S17408x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | _, _ => ⟨S4x4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![34, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  ![v18.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S4x4096x11008 : Shape := ⟨3, ![4, 4096, 11008]⟩
abbrev S4x256x11008 : Shape := ⟨3, ![4, 256, 11008]⟩
abbrev S11008x4096 : Shape := ⟨2, ![11008, 4096]⟩
abbrev S4x4096x4096 : Shape := ⟨3, ![4, 4096, 4096]⟩
abbrev S4x256x4096 : Shape := ⟨3, ![4, 256, 4096]⟩
abbrev S4x1x4096 : Shape := ⟨3, ![4, 1, 4096]⟩
abbrev S1x1x4096 : Shape := ⟨3, ![1, 1, 4096]⟩
abbrev S16384x4096 : Shape := ⟨2, ![16384, 4096]⟩
abbrev S1024x4096 : Shape := ⟨2, ![1024, 4096]⟩
abbrev S17408x4096 : Shape := ⟨2, ![17408, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x11008, .f32⟩
  | .hbm, ⟨1, _⟩ => ⟨S4x256x11008, .f32⟩
  | .hbm, ⟨2, _⟩ => ⟨S11008x4096, .f32⟩
  | .hbm, ⟨3, _⟩ => ⟨S4x4096x4096, .f32⟩
  | .hbm, ⟨4, _⟩ => ⟨S4x256x4096, .f32⟩
  | .hbm, ⟨5, _⟩ => ⟨S4x1x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | .hbm, ⟨11, _⟩ => ⟨S4x256x4096, .f32⟩
  | .hbm, ⟨12, _⟩ => ⟨S4x256x4096, .f32⟩
  | .hbm, ⟨13, _⟩ => ⟨S4x256x4096, .f32⟩
  | .hbm, ⟨14, _⟩ => ⟨S4x256x4096, .f32⟩
  | .hbm, ⟨15, _⟩ => ⟨S16384x4096, .f32⟩
  | .hbm, ⟨16, _⟩ => ⟨S1024x4096, .f32⟩
  | .hbm, ⟨17, _⟩ => ⟨S17408x4096, .f32⟩
  | _, _ => ⟨S4x4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Kernel4.lean ====
abbrev S36864x4096 : Shape := ⟨2, ![36864, 4096]⟩
abbrev S8 : Shape := ⟨1, ![8]⟩
abbrev S8x4096x3584 : Shape := ⟨3, ![8, 4096, 3584]⟩
abbrev S_ : Shape := ⟨0, ![]⟩
abbrev S72 : Shape := ⟨1, ![72]⟩
abbrev S72x1 : Shape := ⟨2, ![72, 1]⟩
abbrev S1x8 : Shape := ⟨2, ![1, 8]⟩
abbrev S72x8 : Shape := ⟨2, ![72, 8]⟩
abbrev S1 : Shape := ⟨1, ![1]⟩
abbrev S36864x3584 : Shape := ⟨2, ![36864, 3584]⟩
abbrev S512x4096 : Shape := ⟨2, ![512, 4096]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 68
  | .vmem => 10
  | .smem => 2
  | _ => 0

abbrev bufTy : (tb : Table) → Fin (tcTables nBuf tb) → BufTy
  | .hbm, ⟨0, _⟩ => ⟨S36864x4096, .f32⟩
  | .hbm, ⟨1, _⟩ => ⟨S8, .i32⟩
  | .hbm, ⟨2, _⟩ => ⟨S8x4096x3584, .f32⟩
  | .hbm, ⟨3, _⟩ => ⟨S8x4096x3584, .f32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S_, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S8, .i32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i1⟩
  | .hbm, ⟨23, _⟩ => ⟨S8, .i1⟩
  | .hbm, ⟨24, _⟩ => ⟨S_, .i32⟩
  | .hbm, ⟨25, _⟩ => ⟨S8, .i32⟩
  | .hbm, ⟨26, _⟩ => ⟨S8, .i32⟩
  | .hbm, ⟨27, _⟩ => ⟨S8, .i32⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S_, .i32⟩
  | .hbm, ⟨32, _⟩ => ⟨S_, .i32⟩
  | .hbm, ⟨33, _⟩ => ⟨S8, .i32⟩
  | .hbm, ⟨34, _⟩ => ⟨S72, .i32⟩
  | .hbm, ⟨35, _⟩ => ⟨S_, .i32⟩
  | .hbm, ⟨36, _⟩ => ⟨S72, .i32⟩
  | .hbm, ⟨37, _⟩ => ⟨S72, .i32⟩
  | .hbm, ⟨38, _⟩ => ⟨S72x1, .i32⟩
  | .hbm, ⟨39, _⟩ => ⟨S1x8, .i32⟩
  | .hbm, ⟨40, _⟩ => ⟨S72x8, .i32⟩
  | .hbm, ⟨41, _⟩ => ⟨S72x8, .i32⟩
  | .hbm, ⟨42, _⟩ => ⟨S72x8, .i1⟩
  | .hbm, ⟨43, _⟩ => ⟨S72x8, .i32⟩
  | .hbm, ⟨44, _⟩ => ⟨S_, .i32⟩
  | .hbm, ⟨45, _⟩ => ⟨S72, .i32⟩
  | .hbm, ⟨46, _⟩ => ⟨S_, .i32⟩
  | .hbm, ⟨47, _⟩ => ⟨S72, .i32⟩
  | .hbm, ⟨48, _⟩ => ⟨S1, .i32⟩
  | .hbm, ⟨49, _⟩ => ⟨S_, .i32⟩
  | .hbm, ⟨50, _⟩ => ⟨S_, .i32⟩
  | .hbm, ⟨51, _⟩ => ⟨S1, .i32⟩
  | .hbm, ⟨52, _⟩ => ⟨S1, .i32⟩
  | .hbm, ⟨53, _⟩ => ⟨S1, .i32⟩
  | .hbm, ⟨54, _⟩ => ⟨S_, .i32⟩
  | .hbm, ⟨55, _⟩ => ⟨S1, .i32⟩
  | .hbm, ⟨56, _⟩ => ⟨S1, .i1⟩
  | .hbm, ⟨57, _⟩ => ⟨S1, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S1, .i1⟩
  | .hbm, ⟨62, _⟩ => ⟨S1, .i1⟩
  | .hbm, ⟨63, _⟩ => ⟨S_, .i32⟩
  | .hbm, ⟨64, _⟩ => ⟨S1, .i32⟩
  | .hbm, ⟨65, _⟩ => ⟨S1, .i32⟩
  | .hbm, ⟨66, _⟩ => ⟨S36864x4096, .bf16⟩
  | .hbm, ⟨67, _⟩ => ⟨S36864x3584, .bf16⟩
  | .local _ .vmem, ⟨0, _⟩ => ⟨S512x4096, .bf16⟩
  | .local _ .vmem, ⟨1, _⟩ => ⟨S512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x4096x512, .f32⟩
  | .local _ .vmem, ⟨5, _⟩ => ⟨S1x4096x512, .f32⟩
  | .local _ .vmem, ⟨6, _⟩ => ⟨S512x512, .bf16⟩
  | .local _ .vmem, ⟨7, _⟩ => ⟨S512x512, .bf16⟩
  | .local _ .vmem, ⟨8, _⟩ => ⟨S4096x512, .bf16⟩
  | .local _ .vmem, ⟨9, _⟩ => ⟨S4096x512, .bf16⟩
  | .local _ .smem, ⟨0, _⟩ => ⟨S72, .i32⟩
  | .local _ .smem, ⟨1, _⟩ => ⟨S1, .i32⟩
  | _, _ => ⟨S36864x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v20 : Ref sig .tc := ⟨.hbm, 48, rfl⟩
abbrev main_c_6 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_c : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_0 : Ref sig .tc := ⟨.hbm, 63, rfl⟩
abbrev main_call2_v12 : Ref sig .tc := ⟨.hbm, 64, rfl⟩
abbrev main_call2_v13 : Ref sig .tc := ⟨.hbm, 65, rfl⟩
abbrev main_v22 : Ref sig .tc := ⟨.hbm, 66, rfl⟩
abbrev main_v23 : Ref sig .tc := ⟨.hbm, 67, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 72], ![false, false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S36864x4096 : Shape := ⟨2, ![36864, 4096]⟩
abbrev S8 : Shape := ⟨1, ![8]⟩
abbrev S8x4096x3584 : Shape := ⟨3, ![8, 4096, 3584]⟩
abbrev S_ : Shape := ⟨0, ![]⟩
abbrev S36864 : Shape := ⟨1, ![36864]⟩
abbrev S36864x1 : Shape := ⟨2, ![36864, 1]⟩
abbrev S1x8 : Shape := ⟨2, ![1, 8]⟩
abbrev S36864x8 : Shape := ⟨2, ![36864, 8]⟩
abbrev S1 : Shape := ⟨1, ![1]⟩
abbrev S36864x3584 : Shape := ⟨2, ![36864, 3584]⟩
abbrev S1x4096x3584 : Shape := ⟨3, ![1, 4096, 3584]⟩
abbrev S4096x3584 : Shape := ⟨2, ![4096, 3584]⟩

abbrev nBuf : Space → Nat
  | .hbm => 275
  | .vmem => 0
  | .smem => 0
  | _ => 0

abbrev hbmTy0_0 (i : Nat) : BufTy := match i % 128 with
  | 0 => ⟨S36864x4096, .f32⟩
  | 1 => ⟨S8, .i32⟩
  | 2 => ⟨S8x4096x3584, .f32⟩
  | 3 => ⟨S8x4096x3584, .f32⟩
  | 4 => ⟨S_, .i32⟩
  | 5 => ⟨S8, .i32⟩
  | 6 => ⟨S8, .i32⟩
  | 7 => ⟨S_, .i32⟩
  | 8 => ⟨S8, .i32⟩
  | 9 => ⟨S8, .i32⟩
  | 10 => ⟨S_, .i32⟩
  | 11 => ⟨S_, .i32⟩
  | 12 => ⟨S8, .i32⟩
  | 13 => ⟨S8, .i32⟩
  | 14 => ⟨S8, .i32⟩
  | 15 => ⟨S_, .i32⟩
  | 16 => ⟨S8, .i32⟩
  | 17 => ⟨S8, .i1⟩
  | 18 => ⟨S8, .i32⟩
  | 19 => ⟨S8, .i32⟩
  | 20 => ⟨S_, .i32⟩
  | 21 => ⟨S8, .i32⟩
  | 22 => ⟨S8, .i1⟩
  | 23 => ⟨S8, .i1⟩
  | 24 => ⟨S_, .i32⟩
  | 25 => ⟨S8, .i32⟩
  | 26 => ⟨S8, .i32⟩
  | 27 => ⟨S8, .i32⟩
  | 28 => ⟨S_, .i32⟩
  | 29 => ⟨S8, .i32⟩
  | 30 => ⟨S8, .i32⟩
  | 31 => ⟨S_, .i32⟩
  | 32 => ⟨S_, .i32⟩
  | 33 => ⟨S8, .i32⟩
  | 34 => ⟨S36864, .i32⟩
  | 35 => ⟨S_, .i32⟩
  | 36 => ⟨S_, .i32⟩
  | 37 => ⟨S36864, .i32⟩
  | 38 => ⟨S36864, .i32⟩
  | 39 => ⟨S36864, .i32⟩
  | 40 => ⟨S_, .i32⟩
  | 41 => ⟨S36864, .i32⟩
  | 42 => ⟨S36864, .i1⟩
  | 43 => ⟨S36864, .i32⟩
  | 44 => ⟨S36864, .i32⟩
  | 45 => ⟨S_, .i32⟩
  | 46 => ⟨S36864, .i32⟩
  | 47 => ⟨S36864, .i1⟩
  | 48 => ⟨S36864, .i1⟩
  | 49 => ⟨S_, .i32⟩
  | 50 => ⟨S36864, .i32⟩
  | 51 => ⟨S36864, .i32⟩
  | 52 => ⟨S36864, .i32⟩
  | 53 => ⟨S_, .i32⟩
  | 54 => ⟨S36864, .i32⟩
  | 55 => ⟨S36864, .i32⟩
  | 56 => ⟨S36864x1, .i32⟩
  | 57 => ⟨S1x8, .i32⟩
  | 58 => ⟨S36864x8, .i32⟩
  | 59 => ⟨S36864x8, .i32⟩
  | 60 => ⟨S36864x8, .i1⟩
  | 61 => ⟨S36864x8, .i32⟩
  | 62 => ⟨S_, .i32⟩
  | 63 => ⟨S36864, .i32⟩
  | 64 => ⟨S_, .i32⟩
  | 65 => ⟨S36864, .i32⟩
  | 66 => ⟨S36864, .i32⟩
  | 67 => ⟨S_, .i32⟩
  | 68 => ⟨S_, .i32⟩
  | 69 => ⟨S36864, .i32⟩
  | 70 => ⟨S36864, .i32⟩
  | 71 => ⟨S36864, .i32⟩
  | 72 => ⟨S_, .i32⟩
  | 73 => ⟨S36864, .i32⟩
  | 74 => ⟨S36864, .i1⟩
  | 75 => ⟨S36864, .i32⟩
  | 76 => ⟨S36864, .i32⟩
  | 77 => ⟨S_, .i32⟩
  | 78 => ⟨S36864, .i32⟩
  | 79 => ⟨S36864, .i1⟩
  | 80 => ⟨S36864, .i1⟩
  | 81 => ⟨S_, .i32⟩
  | 82 => ⟨S36864, .i32⟩
  | 83 => ⟨S36864, .i32⟩
  | 84 => ⟨S36864, .i32⟩
  | 85 => ⟨S1, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S_, .i1⟩
  | 96 => ⟨S_, .i1⟩
  | 97 => ⟨S_, .i32⟩
  | 98 => ⟨S_, .i32⟩
  | 99 => ⟨S_, .i32⟩
  | 100 => ⟨S36864, .i32⟩
  | 101 => ⟨S36864, .i1⟩
  | 102 => ⟨S36864x1, .i32⟩
  | 103 => ⟨S1x8, .i32⟩
  | 104 => ⟨S36864x8, .i32⟩
  | 105 => ⟨S36864x8, .i32⟩
  | 106 => ⟨S36864x8, .i1⟩
  | 107 => ⟨S36864x8, .f32⟩
  | 108 => ⟨S36864x1, .i1⟩
  | 109 => ⟨S36864x1, .f32⟩
  | 110 => ⟨S36864x8, .f32⟩
  | 111 => ⟨S36864x8, .f32⟩
  | 112 => ⟨S_, .f32⟩
  | 113 => ⟨S36864x3584, .f32⟩
  | 114 => ⟨S36864x1, .f32⟩
  | 115 => ⟨S1x4096x3584, .f32⟩
  | 116 => ⟨S4096x3584, .f32⟩
  | 117 => ⟨S36864x3584, .f32⟩
  | 118 => ⟨S36864x3584, .f32⟩
  | 119 => ⟨S36864x3584, .f32⟩
  | 120 => ⟨S_, .f32⟩
  | 121 => ⟨S36864x3584, .f32⟩
  | 122 => ⟨S36864x3584, .f32⟩
  | 123 => ⟨S_, .f32⟩
  | 124 => ⟨S36864x3584, .f32⟩
  | 125 => ⟨S36864x3584, .f32⟩
  | 126 => ⟨S36864x3584, .f32⟩
  | 127 => ⟨S1x4096x3584, .f32⟩
  | _ => ⟨S36864x4096, .f32⟩

abbrev hbmTy0_1 (i : Nat) : BufTy := match i % 128 with
  | 0 => ⟨S4096x3584, .f32⟩
  | 1 => ⟨S36864x3584, .f32⟩
  | 2 => ⟨S36864x3584, .f32⟩
  | 3 => ⟨S36864x3584, .f32⟩
  | 4 => ⟨S36864x3584, .f32⟩
  | 5 => ⟨S36864x3584, .f32⟩
  | 6 => ⟨S36864x1, .f32⟩
  | 7 => ⟨S1x4096x3584, .f32⟩
  | 8 => ⟨S4096x3584, .f32⟩
  | 9 => ⟨S36864x3584, .f32⟩
  | 10 => ⟨S36864x3584, .f32⟩
  | 11 => ⟨S36864x3584, .f32⟩
  | 12 => ⟨S_, .f32⟩
  | 13 => ⟨S36864x3584, .f32⟩
  | 14 => ⟨S36864x3584, .f32⟩
  | 15 => ⟨S_, .f32⟩
  | 16 => ⟨S36864x3584, .f32⟩
  | 17 => ⟨S36864x3584, .f32⟩
  | 18 => ⟨S36864x3584, .f32⟩
  | 19 => ⟨S1x4096x3584, .f32⟩
  | 20 => ⟨S4096x3584, .f32⟩
  | 21 => ⟨S36864x3584, .f32⟩
  | 22 => ⟨S36864x3584, .f32⟩
  | 23 => ⟨S36864x3584, .f32⟩
  | 24 => ⟨S36864x3584, .f32⟩
  | 25 => ⟨S36864x3584, .f32⟩
  | 26 => ⟨S36864x1, .f32⟩
  | 27 => ⟨S1x4096x3584, .f32⟩
  | 28 => ⟨S4096x3584, .f32⟩
  | 29 => ⟨S36864x3584, .f32⟩
  | 30 => ⟨S36864x3584, .f32⟩
  | 31 => ⟨S36864x3584, .f32⟩
  | 32 => ⟨S_, .f32⟩
  | 33 => ⟨S36864x3584, .f32⟩
  | 34 => ⟨S36864x3584, .f32⟩
  | 35 => ⟨S_, .f32⟩
  | 36 => ⟨S36864x3584, .f32⟩
  | 37 => ⟨S36864x3584, .f32⟩
  | 38 => ⟨S36864x3584, .f32⟩
  | 39 => ⟨S1x4096x3584, .f32⟩
  | 40 => ⟨S4096x3584, .f32⟩
  | 41 => ⟨S36864x3584, .f32⟩
  | 42 => ⟨S36864x3584, .f32⟩
  | 43 => ⟨S36864x3584, .f32⟩
  | 44 => ⟨S36864x3584, .f32⟩
  | 45 => ⟨S36864x3584, .f32⟩
  | 46 => ⟨S36864x1, .f32⟩
  | 47 => ⟨S1x4096x3584, .f32⟩
  | 48 => ⟨S4096x3584, .f32⟩
  | 49 => ⟨S36864x3584, .f32⟩
  | 50 => ⟨S36864x3584, .f32⟩
  | 51 => ⟨S36864x3584, .f32⟩
  | 52 => ⟨S_, .f32⟩
  | 53 => ⟨S36864x3584, .f32⟩
  | 54 => ⟨S36864x3584, .f32⟩
  | 55 => ⟨S_, .f32⟩
  | 56 => ⟨S36864x3584, .f32⟩
  | 57 => ⟨S36864x3584, .f32⟩
  | 58 => ⟨S36864x3584, .f32⟩
  | 59 => ⟨S1x4096x3584, .f32⟩
  | 60 => ⟨S4096x3584, .f32⟩
  | 61 => ⟨S36864x3584, .f32⟩
  | 62 => ⟨S36864x3584, .f32⟩
  | 63 => ⟨S36864x3584, .f32⟩
  | 64 => ⟨S36864x3584, .f32⟩
  | 65 => ⟨S36864x3584, .f32⟩
  | 66 => ⟨S36864x1, .f32⟩
  | 67 => ⟨S1x4096x3584, .f32⟩
  | 68 => ⟨S4096x3584, .f32⟩
  | 69 => ⟨S36864x3584, .f32⟩
  | 70 => ⟨S36864x3584, .f32⟩
  | 71 => ⟨S36864x3584, .f32⟩
  | 72 => ⟨S_, .f32⟩
  | 73 => ⟨S36864x3584, .f32⟩
  | 74 => ⟨S36864x3584, .f32⟩
  | 75 => ⟨S_, .f32⟩
  | 76 => ⟨S36864x3584, .f32⟩
  | 77 => ⟨S36864x3584, .f32⟩
  | 78 => ⟨S36864x3584, .f32⟩
  | 79 => ⟨S1x4096x3584, .f32⟩
  | 80 => ⟨S4096x3584, .f32⟩
  | 81 => ⟨S36864x3584, .f32⟩
  | 82 => ⟨S36864x3584, .f32⟩
  | 83 => ⟨S36864x3584, .f32⟩
  | 84 => ⟨S36864x3584, .f32⟩
  | 85 => ⟨S36864x3584, .f32⟩
  | 86 => ⟨S36864x1, .f32⟩
  | 87 => ⟨S1x4096x3584, .f32⟩
  | 88 => ⟨S4096x3584, .f32⟩
  | 89 => ⟨S36864x3584, .f32⟩
  | 90 => ⟨S36864x3584, .f32⟩
  | 91 => ⟨S36864x3584, .f32⟩
  | 92 => ⟨S_, .f32⟩
  | 93 => ⟨S36864x3584, .f32⟩
  | 94 => ⟨S36864x3584, .f32⟩
  | 95 => ⟨S_, .f32⟩
  | 96 => ⟨S36864x3584, .f32⟩
  | 97 => ⟨S36864x3584, .f32⟩
  | 98 => ⟨S36864x3584, .f32⟩
  | 99 => ⟨S1x4096x3584, .f32⟩
  | 100 => ⟨S4096x3584, .f32⟩
  | 101 => ⟨S36864x3584, .f32⟩
  | 102 => ⟨S36864x3584, .f32⟩
  | 103 => ⟨S36864x3584, .f32⟩
  | 104 => ⟨S36864x3584, .f32⟩
  | 105 => ⟨S36864x3584, .f32⟩
  | 106 => ⟨S36864x1, .f32⟩
  | 107 => ⟨S1x4096x3584, .f32⟩
  | 108 => ⟨S4096x3584, .f32⟩
  | 109 => ⟨S36864x3584, .f32⟩
  | 110 => ⟨S36864x3584, .f32⟩
  | 111 => ⟨S36864x3584, .f32⟩
  | 112 => ⟨S_, .f32⟩
  | 113 => ⟨S36864x3584, .f32⟩
  | 114 => ⟨S36864x3584, .f32⟩
  | 115 => ⟨S_, .f32⟩
  | 116 => ⟨S36864x3584, .f32⟩
  | 117 => ⟨S36864x3584, .f32⟩
  | 118 => ⟨S36864x3584, .f32⟩
  | 119 => ⟨S1x4096x3584, .f32⟩
  | 120 => ⟨S4096x3584, .f32⟩
  | 121 => ⟨S36864x3584, .f32⟩
  | 122 => ⟨S36864x3584, .f32⟩
  | 123 => ⟨S36864x3584, .f32⟩
  | 124 => ⟨S36864x3584, .f32⟩
  | 125 => ⟨S36864x3584, .f32⟩
  | 126 => ⟨S36864x1, .f32⟩
  | 127 => ⟨S1x4096x3584, .f32⟩
  | _ => ⟨S36864x4096, .f32⟩

abbrev hbmTy0_2 (i : Nat) : BufTy := match i % 128 with
  | 0 => ⟨S4096x3584, .f32⟩
  | 1 => ⟨S36864x3584, .f32⟩
  | 2 => ⟨S36864x3584, .f32⟩
  | 3 => ⟨S36864x3584, .f32⟩
  | 4 => ⟨S_, .f32⟩
  | 5 => ⟨S36864x3584, .f32⟩
  | 6 => ⟨S36864x3584, .f32⟩
  | 7 => ⟨S_, .f32⟩
  | 8 => ⟨S36864x3584, .f32⟩
  | 9 => ⟨S36864x3584, .f32⟩
  | 10 => ⟨S36864x3584, .f32⟩
  | 11 => ⟨S1x4096x3584, .f32⟩
  | 12 => ⟨S4096x3584, .f32⟩
  | 13 => ⟨S36864x3584, .f32⟩
  | 14 => ⟨S36864x3584, .f32⟩
  | 15 => ⟨S36864x3584, .f32⟩
  | 16 => ⟨S36864x3584, .f32⟩
  | 17 => ⟨S36864x3584, .f32⟩
  | 18 => ⟨S36864x3584, .bf16⟩
  | _ => ⟨S36864x4096, .f32⟩

abbrev hbmTy (i : Nat) : BufTy := match i / 128 with
  | 0 => hbmTy0_0 i
  | 1 => hbmTy0_1 i
  | 2 => hbmTy0_2 i
  | _ => ⟨S36864x4096, .f32⟩

abbrev bufTy : (tb : Table) → Fin (tcTables nBuf tb) → BufTy
  | .hbm, ⟨i, _⟩ => hbmTy i
  | _, _ => ⟨S36864x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_c : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_0 : Ref sig .tc := ⟨.hbm, 49, rfl⟩
abbrev main_call2_v12 : Ref sig .tc := ⟨.hbm, 50, rfl⟩
abbrev main_call2_v13 : Ref sig .tc := ⟨.hbm, 51, rfl⟩
abbrev main_v9 : Ref sig .tc := ⟨.hbm, 52, rfl⟩
abbrev main_c_4 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_c_5 : Ref sig .tc := ⟨.hbm, 62, rfl⟩
abbrev main_v18 : Ref sig .tc := ⟨.hbm, 63, rfl⟩
abbrev main_c_6 : Ref sig .tc := ⟨.hbm, 64, rfl⟩
abbrev main_v19 : Ref sig .tc := ⟨.hbm, 65, rfl⟩
abbrev main_v20 : Ref sig .tc := ⟨.hbm, 66, rfl⟩
abbrev main_c_7 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_v5 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_c : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_c_0 : Ref sig .tc := ⟨.hbm, 81, rfl⟩
abbrev main_call3_v12 : Ref sig .tc := ⟨.hbm, 82, rfl⟩
abbrev main_call3_v13 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_c_8 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_c : Ref sig .tc := ⟨.hbm, 94, rfl⟩
abbrev main_call4_v6 : Ref sig .tc := ⟨.hbm, 95, rfl⟩
abbrev main_call4_v7 : Ref sig .tc := ⟨.hbm, 96, rfl⟩
abbrev main_call4_c_0 : Ref sig .tc := ⟨.hbm, 97, rfl⟩
abbrev main_call4_v8 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_v27 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_cst : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_call6_v0 : Ref sig .tc := ⟨.hbm, 118, rfl⟩
abbrev main_call6_v1 : Ref sig .tc := ⟨.hbm, 119, rfl⟩
abbrev main_call6_cst : Ref sig .tc := ⟨.hbm, 120, rfl⟩
abbrev main_call6_v2 : Ref sig .tc := ⟨.hbm, 121, rfl⟩
abbrev main_call6_v3 : Ref sig .tc := ⟨.hbm, 122, rfl⟩
abbrev main_call6_cst_0 : Ref sig .tc := ⟨.hbm, 123, rfl⟩
abbrev main_call6_v4 : Ref sig .tc := ⟨.hbm, 124, rfl⟩
abbrev main_call6_v5 : Ref sig .tc := ⟨.hbm, 125, rfl⟩
abbrev main_v37 : Ref sig .tc := ⟨.hbm, 126, rfl⟩
abbrev main_v38 : Ref sig .tc := ⟨.hbm, 127, rfl⟩
abbrev main_v39 : Ref sig .tc := ⟨.hbm, 128, rfl⟩
abbrev main_v40 : Ref sig .tc := ⟨.hbm, 129, rfl⟩
abbrev main_v41 : Ref sig .tc := ⟨.hbm, 130, rfl⟩
abbrev main_v42 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_call7_v0 : Ref sig .tc := ⟨.hbm, 138, rfl⟩
abbrev main_call7_v1 : Ref sig .tc := ⟨.hbm, 139, rfl⟩
abbrev main_call7_cst : Ref sig .tc := ⟨.hbm, 140, rfl⟩
abbrev main_call7_v2 : Ref sig .tc := ⟨.hbm, 141, rfl⟩
abbrev main_call7_v3 : Ref sig .tc := ⟨.hbm, 142, rfl⟩
abbrev main_call7_cst_0 : Ref sig .tc := ⟨.hbm, 143, rfl⟩
abbrev main_call7_v4 : Ref sig .tc := ⟨.hbm, 144, rfl⟩
abbrev main_call7_v5 : Ref sig .tc := ⟨.hbm, 145, rfl⟩
abbrev main_v49 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_call8_v0 : Ref sig .tc := ⟨.hbm, 158, rfl⟩
abbrev main_call8_v1 : Ref sig .tc := ⟨.hbm, 159, rfl⟩
abbrev main_call8_cst : Ref sig .tc := ⟨.hbm, 160, rfl⟩
abbrev main_call8_v2 : Ref sig .tc := ⟨.hbm, 161, rfl⟩
abbrev main_call8_v3 : Ref sig .tc := ⟨.hbm, 162, rfl⟩
abbrev main_call8_cst_0 : Ref sig .tc := ⟨.hbm, 163, rfl⟩
abbrev main_call8_v4 : Ref sig .tc := ⟨.hbm, 164, rfl⟩
abbrev main_call8_v5 : Ref sig .tc := ⟨.hbm, 165, rfl⟩
abbrev main_v61 : Ref sig .tc := ⟨.hbm, 166, rfl⟩
abbrev main_v62 : Ref sig .tc := ⟨.hbm, 167, rfl⟩
abbrev main_v63 : Ref sig .tc := ⟨.hbm, 168, rfl⟩
abbrev main_v64 : Ref sig .tc := ⟨.hbm, 169, rfl⟩
abbrev main_v65 : Ref sig .tc := ⟨.hbm, 170, rfl⟩
abbrev main_v66 : Ref sig .tc := ⟨.hbm, 171, rfl⟩
abbrev main_v67 : Ref sig .tc := ⟨.hbm, 172, rfl⟩
abbrev main_v68 : Ref sig .tc := ⟨.hbm, 173, rfl⟩
abbrev main_v69 : Ref sig .tc := ⟨.hbm, 174, rfl⟩
abbrev main_v70 : Ref sig .tc := ⟨.hbm, 175, rfl⟩
abbrev main_v71 : Ref sig .tc := ⟨.hbm, 176, rfl⟩
abbrev main_v72 : Ref sig .tc := ⟨.hbm, 177, rfl⟩
abbrev main_call9_v0 : Ref sig .tc := ⟨.hbm, 178, rfl⟩
abbrev main_call9_v1 : Ref sig .tc := ⟨.hbm, 179, rfl⟩
abbrev main_call9_cst : Ref sig .tc := ⟨.hbm, 180, rfl⟩
abbrev main_call9_v2 : Ref sig .tc := ⟨.hbm, 181, rfl⟩
abbrev main_call9_v3 : Ref sig .tc := ⟨.hbm, 182, rfl⟩
abbrev main_call9_cst_0 : Ref sig .tc := ⟨.hbm, 183, rfl⟩
abbrev main_call9_v4 : Ref sig .tc := ⟨.hbm, 184, rfl⟩
abbrev main_call9_v5 : Ref sig .tc := ⟨.hbm, 185, rfl⟩
abbrev main_v73 : Ref sig .tc := ⟨.hbm, 186, rfl⟩
abbrev main_v74 : Ref sig .tc := ⟨.hbm, 187, rfl⟩
abbrev main_v75 : Ref sig .tc := ⟨.hbm, 188, rfl⟩
abbrev main_v76 : Ref sig .tc := ⟨.hbm, 189, rfl⟩
abbrev main_v77 : Ref sig .tc := ⟨.hbm, 190, rfl⟩
abbrev main_v78 : Ref sig .tc := ⟨.hbm, 191, rfl⟩
abbrev main_v79 : Ref sig .tc := ⟨.hbm, 192, rfl⟩
abbrev main_v80 : Ref sig .tc := ⟨.hbm, 193, rfl⟩
abbrev main_v81 : Ref sig .tc := ⟨.hbm, 194, rfl⟩
abbrev main_v82 : Ref sig .tc := ⟨.hbm, 195, rfl⟩
abbrev main_v83 : Ref sig .tc := ⟨.hbm, 196, rfl⟩
abbrev main_v84 : Ref sig .tc := ⟨.hbm, 197, rfl⟩
abbrev main_call10_v0 : Ref sig .tc := ⟨.hbm, 198, rfl⟩
abbrev main_call10_v1 : Ref sig .tc := ⟨.hbm, 199, rfl⟩
abbrev main_call10_cst : Ref sig .tc := ⟨.hbm, 200, rfl⟩
abbrev main_call10_v2 : Ref sig .tc := ⟨.hbm, 201, rfl⟩
abbrev main_call10_v3 : Ref sig .tc := ⟨.hbm, 202, rfl⟩
abbrev main_call10_cst_0 : Ref sig .tc := ⟨.hbm, 203, rfl⟩
abbrev main_call10_v4 : Ref sig .tc := ⟨.hbm, 204, rfl⟩
abbrev main_call10_v5 : Ref sig .tc := ⟨.hbm, 205, rfl⟩
abbrev main_v85 : Ref sig .tc := ⟨.hbm, 206, rfl⟩
abbrev main_v86 : Ref sig .tc := ⟨.hbm, 207, rfl⟩
abbrev main_v87 : Ref sig .tc := ⟨.hbm, 208, rfl⟩
abbrev main_v88 : Ref sig .tc := ⟨.hbm, 209, rfl⟩
abbrev main_v89 : Ref sig .tc := ⟨.hbm, 210, rfl⟩
abbrev main_v90 : Ref sig .tc := ⟨.hbm, 211, rfl⟩
abbrev main_v91 : Ref sig .tc := ⟨.hbm, 212, rfl⟩
abbrev main_v92 : Ref sig .tc := ⟨.hbm, 213, rfl⟩
abbrev main_v93 : Ref sig .tc := ⟨.hbm, 214, rfl⟩
abbrev main_v94 : Ref sig .tc := ⟨.hbm, 215, rfl⟩
abbrev main_v95 : Ref sig .tc := ⟨.hbm, 216, rfl⟩
abbrev main_v96 : Ref sig .tc := ⟨.hbm, 217, rfl⟩
abbrev main_call11_v0 : Ref sig .tc := ⟨.hbm, 218, rfl⟩
abbrev main_call11_v1 : Ref sig .tc := ⟨.hbm, 219, rfl⟩
abbrev main_call11_cst : Ref sig .tc := ⟨.hbm, 220, rfl⟩
abbrev main_call11_v2 : Ref sig .tc := ⟨.hbm, 221, rfl⟩
abbrev main_call11_v3 : Ref sig .tc := ⟨.hbm, 222, rfl⟩
abbrev main_call11_cst_0 : Ref sig .tc := ⟨.hbm, 223, rfl⟩
abbrev main_call11_v4 : Ref sig .tc := ⟨.hbm, 224, rfl⟩
abbrev main_call11_v5 : Ref sig .tc := ⟨.hbm, 225, rfl⟩
abbrev main_v97 : Ref sig .tc := ⟨.hbm, 226, rfl⟩
abbrev main_v98 : Ref sig .tc := ⟨.hbm, 227, rfl⟩
abbrev main_v99 : Ref sig .tc := ⟨.hbm, 228, rfl⟩
abbrev main_v100 : Ref sig .tc := ⟨.hbm, 229, rfl⟩
abbrev main_v101 : Ref sig .tc := ⟨.hbm, 230, rfl⟩
abbrev main_v102 : Ref sig .tc := ⟨.hbm, 231, rfl⟩
abbrev main_v103 : Ref sig .tc := ⟨.hbm, 232, rfl⟩
abbrev main_v104 : Ref sig .tc := ⟨.hbm, 233, rfl⟩
abbrev main_v105 : Ref sig .tc := ⟨.hbm, 234, rfl⟩
abbrev main_v106 : Ref sig .tc := ⟨.hbm, 235, rfl⟩
abbrev main_v107 : Ref sig .tc := ⟨.hbm, 236, rfl⟩
abbrev main_v108 : Ref sig .tc := ⟨.hbm, 237, rfl⟩
abbrev main_call12_v0 : Ref sig .tc := ⟨.hbm, 238, rfl⟩
abbrev main_call12_v1 : Ref sig .tc := ⟨.hbm, 239, rfl⟩
abbrev main_call12_cst : Ref sig .tc := ⟨.hbm, 240, rfl⟩
abbrev main_call12_v2 : Ref sig .tc := ⟨.hbm, 241, rfl⟩
abbrev main_call12_v3 : Ref sig .tc := ⟨.hbm, 242, rfl⟩
abbrev main_call12_cst_0 : Ref sig .tc := ⟨.hbm, 243, rfl⟩
abbrev main_call12_v4 : Ref sig .tc := ⟨.hbm, 244, rfl⟩
abbrev main_call12_v5 : Ref sig .tc := ⟨.hbm, 245, rfl⟩
abbrev main_v109 : Ref sig .tc := ⟨.hbm, 246, rfl⟩
abbrev main_v110 : Ref sig .tc := ⟨.hbm, 247, rfl⟩
abbrev main_v111 : Ref sig .tc := ⟨.hbm, 248, rfl⟩
abbrev main_v112 : Ref sig .tc := ⟨.hbm, 249, rfl⟩
abbrev main_v113 : Ref sig .tc := ⟨.hbm, 250, rfl⟩
abbrev main_v114 : Ref sig .tc := ⟨.hbm, 251, rfl⟩
abbrev main_v115 : Ref sig .tc := ⟨.hbm, 252, rfl⟩
abbrev main_v116 : Ref sig .tc := ⟨.hbm, 253, rfl⟩
abbrev main_v117 : Ref sig .tc := ⟨.hbm, 254, rfl⟩
abbrev main_v118 : Ref sig .tc := ⟨.hbm, 255, rfl⟩
abbrev main_v119 : Ref sig .tc := ⟨.hbm, 256, rfl⟩
abbrev main_v120 : Ref sig .tc := ⟨.hbm, 257, rfl⟩
abbrev main_call13_v0 : Ref sig .tc := ⟨.hbm, 258, rfl⟩
abbrev main_call13_v1 : Ref sig .tc := ⟨.hbm, 259, rfl⟩
abbrev main_call13_cst : Ref sig .tc := ⟨.hbm, 260, rfl⟩
abbrev main_call13_v2 : Ref sig .tc := ⟨.hbm, 261, rfl⟩
abbrev main_call13_v3 : Ref sig .tc := ⟨.hbm, 262, rfl⟩
abbrev main_call13_cst_0 : Ref sig .tc := ⟨.hbm, 263, rfl⟩
abbrev main_call13_v4 : Ref sig .tc := ⟨.hbm, 264, rfl⟩
abbrev main_call13_v5 : Ref sig .tc := ⟨.hbm, 265, rfl⟩
abbrev main_v121 : Ref sig .tc := ⟨.hbm, 266, rfl⟩
abbrev main_v122 : Ref sig .tc := ⟨.hbm, 267, rfl⟩
abbrev main_v123 : Ref sig .tc := ⟨.hbm, 268, rfl⟩
abbrev main_v124 : Ref sig .tc := ⟨.hbm, 269, rfl⟩
abbrev main_v125 : Ref sig .tc := ⟨.hbm, 270, rfl⟩
abbrev main_v126 : Ref sig .tc := ⟨.hbm, 271, rfl⟩
abbrev main_v127 : Ref sig .tc := ⟨.hbm, 272, rfl⟩
abbrev main_v128 : Ref sig .tc := ⟨.hbm, 273, rfl⟩
abbrev main_v129 : Ref sig .tc := ⟨.hbm, 274, rfl⟩

abbrev nD : Nat := 1
abbrev τ : Topo := Topo.v7x

variable {F : FTy → Type} [FloatOps F]
-- ==== Kernel5.lean ====
abbrev S36864x3584 : Shape := ⟨2, ![36864, 3584]⟩
abbrev S8 : Shape := ⟨1, ![8]⟩
abbrev S8x3584x4096 : Shape := ⟨3, ![8, 3584, 4096]⟩
abbrev S_ : Shape := ⟨0, ![]⟩
abbrev S72 : Shape := ⟨1, ![72]⟩
abbrev S72x1 : Shape := ⟨2, ![72, 1]⟩
abbrev S1x8 : Shape := ⟨2, ![1, 8]⟩
abbrev S72x8 : Shape := ⟨2, ![72, 8]⟩
abbrev S1 : Shape := ⟨1, ![1]⟩
abbrev S36864x4096 : Shape := ⟨2, ![36864, 4096]⟩
abbrev S512x3584 : Shape := ⟨2, ![512, 3584]⟩
abbrev S1x3584x1024 : Shape := ⟨3, ![1, 3584, 1024]⟩
abbrev S512x1024 : Shape := ⟨2, ![512, 1024]⟩
abbrev S3584x1024 : Shape := ⟨2, ![3584, 1024]⟩

abbrev nBuf : Space → Nat
  | .hbm => 67
  | .vmem => 7
  | .smem => 2
  | _ => 0

abbrev bufTy : (tb : Table) → Fin (tcTables nBuf tb) → BufTy
  | .hbm, ⟨0, _⟩ => ⟨S36864x3584, .f32⟩
  | .hbm, ⟨1, _⟩ => ⟨S8, .i32⟩
  | .hbm, ⟨2, _⟩ => ⟨S8x3584x4096, .f32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i1⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S8, .i1⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S8, .i32⟩
  | .hbm, ⟨27, _⟩ => ⟨S_, .i32⟩
  | .hbm, ⟨28, _⟩ => ⟨S8, .i32⟩
  | .hbm, ⟨29, _⟩ => ⟨S8, .i32⟩
  | .hbm, ⟨30, _⟩ => ⟨S_, .i32⟩
  | .hbm, ⟨31, _⟩ => ⟨S_, .i32⟩
  | .hbm, ⟨32, _⟩ => ⟨S8, .i32⟩
  | .hbm, ⟨33, _⟩ => ⟨S72, .i32⟩
  | .hbm, ⟨34, _⟩ => ⟨S_, .i32⟩
  | .hbm, ⟨35, _⟩ => ⟨S72, .i32⟩
  | .hbm, ⟨36, _⟩ => ⟨S72, .i32⟩
  | .hbm, ⟨37, _⟩ => ⟨S72x1, .i32⟩
  | .hbm, ⟨38, _⟩ => ⟨S1x8, .i32⟩
  | .hbm, ⟨39, _⟩ => ⟨S72x8, .i32⟩
  | .hbm, ⟨40, _⟩ => ⟨S72x8, .i32⟩
  | .hbm, ⟨41, _⟩ => ⟨S72x8, .i1⟩
  | .hbm, ⟨42, _⟩ => ⟨S72x8, .i32⟩
  | .hbm, ⟨43, _⟩ => ⟨S_, .i32⟩
  | .hbm, ⟨44, _⟩ => ⟨S72, .i32⟩
  | .hbm, ⟨45, _⟩ => ⟨S_, .i32⟩
  | .hbm, ⟨46, _⟩ => ⟨S72, .i32⟩
  | .hbm, ⟨47, _⟩ => ⟨S1, .i32⟩
  | .hbm, ⟨48, _⟩ => ⟨S_, .i32⟩
  | .hbm, ⟨49, _⟩ => ⟨S_, .i32⟩
  | .hbm, ⟨50, _⟩ => ⟨S1, .i32⟩
  | .hbm, ⟨51, _⟩ => ⟨S1, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S1, .i1⟩
  | .hbm, ⟨56, _⟩ => ⟨S1, .i32⟩
  | .hbm, ⟨57, _⟩ => ⟨S1, .i32⟩
  | .hbm, ⟨58, _⟩ => ⟨S_, .i32⟩
  | .hbm, ⟨59, _⟩ => ⟨S1, .i32⟩
  | .hbm, ⟨60, _⟩ => ⟨S1, .i1⟩
  | .hbm, ⟨61, _⟩ => ⟨S1, .i1⟩
  | .hbm, ⟨62, _⟩ => ⟨S_, .i32⟩
  | .hbm, ⟨63, _⟩ => ⟨S1, .i32⟩
  | .hbm, ⟨64, _⟩ => ⟨S1, .i32⟩
  | .hbm, ⟨65, _⟩ => ⟨S36864x3584, .bf16⟩
  | .hbm, ⟨66, _⟩ => ⟨S36864x4096, .bf16⟩
  | .local _ .vmem, ⟨0, _⟩ => ⟨S512x3584, .bf16⟩
  | .local _ .vmem, ⟨1, _⟩ => ⟨S512x3584, .bf16⟩
  | .local _ .vmem, ⟨2, _⟩ => ⟨S1x3584x1024, .f32⟩
  | .local _ .vmem, ⟨3, _⟩ => ⟨S1x3584x1024, .f32⟩
  | .local _ .vmem, ⟨4, _⟩ => ⟨S512x1024, .bf16⟩
  | .local _ .vmem, ⟨5, _⟩ => ⟨S512x1024, .bf16⟩
  | .local _ .vmem, ⟨6, _⟩ => ⟨S3584x1024, .bf16⟩
  | .local _ .smem, ⟨0, _⟩ => ⟨S72, .i32⟩
  | .local _ .smem, ⟨1, _⟩ => ⟨S1, .i32⟩
  | _, _ => ⟨S36864x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_c_2 : Ref sig .tc := ⟨.hbm, 27, rfl⟩
abbrev main_v5 : Ref sig .tc := ⟨.hbm, 28, rfl⟩
abbrev main_v6 : Ref sig .tc := ⟨.hbm, 29, rfl⟩
abbrev main_call1_call0_c : Ref sig .tc := ⟨.hbm, 30, rfl⟩
abbrev main_call1_call0_v0 : Ref sig .tc := ⟨.hbm, 31, rfl⟩
abbrev main_v7 : Ref sig .tc := ⟨.hbm, 32, rfl⟩
abbrev main_v8 : Ref sig .tc := ⟨.hbm, 33, rfl⟩
abbrev main_c_3 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_4 : Ref sig .tc := ⟨.hbm, 43, rfl⟩
abbrev main_v17 : Ref sig .tc := ⟨.hbm, 44, rfl⟩
abbrev main_c_5 : Ref sig .tc := ⟨.hbm, 45, rfl⟩
abbrev main_v18 : Ref sig .tc := ⟨.hbm, 46, rfl⟩
abbrev main_v20 : Ref sig .tc := ⟨.hbm, 47, rfl⟩
abbrev main_c_6 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_c : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_0 : Ref sig .tc := ⟨.hbm, 62, rfl⟩
abbrev main_call2_v12 : Ref sig .tc := ⟨.hbm, 63, rfl⟩
abbrev main_call2_v13 : Ref sig .tc := ⟨.hbm, 64, rfl⟩
abbrev main_v22 : Ref sig .tc := ⟨.hbm, 65, rfl⟩
abbrev main_v23 : Ref sig .tc := ⟨.hbm, 66, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 72], ![false, false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x3584x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S36864x3584 : Shape := ⟨2, ![36864, 3584]⟩
abbrev S8 : Shape := ⟨1, ![8]⟩
abbrev S8x3584x4096 : Shape := ⟨3, ![8, 3584, 4096]⟩
abbrev S_ : Shape := ⟨0, ![]⟩
abbrev S36864 : Shape := ⟨1, ![36864]⟩
abbrev S36864x1 : Shape := ⟨2, ![36864, 1]⟩
abbrev S1x8 : Shape := ⟨2, ![1, 8]⟩
abbrev S36864x8 : Shape := ⟨2, ![36864, 8]⟩
abbrev S1 : Shape := ⟨1, ![1]⟩
abbrev S36864x4096 : Shape := ⟨2, ![36864, 4096]⟩
abbrev S1x3584x4096 : Shape := ⟨3, ![1, 3584, 4096]⟩
abbrev S3584x4096 : Shape := ⟨2, ![3584, 4096]⟩

abbrev nBuf : Space → Nat
  | .hbm => 170
  | .vmem => 0
  | .smem => 0
  | _ => 0

abbrev hbmTy0_0 (i : Nat) : BufTy := match i % 128 with
  | 0 => ⟨S36864x3584, .f32⟩
  | 1 => ⟨S8, .i32⟩
  | 2 => ⟨S8x3584x4096, .f32⟩
  | 3 => ⟨S_, .i32⟩
  | 4 => ⟨S8, .i32⟩
  | 5 => ⟨S8, .i32⟩
  | 6 => ⟨S_, .i32⟩
  | 7 => ⟨S8, .i32⟩
  | 8 => ⟨S8, .i32⟩
  | 9 => ⟨S_, .i32⟩
  | 10 => ⟨S_, .i32⟩
  | 11 => ⟨S8, .i32⟩
  | 12 => ⟨S8, .i32⟩
  | 13 => ⟨S8, .i32⟩
  | 14 => ⟨S_, .i32⟩
  | 15 => ⟨S8, .i32⟩
  | 16 => ⟨S8, .i1⟩
  | 17 => ⟨S8, .i32⟩
  | 18 => ⟨S8, .i32⟩
  | 19 => ⟨S_, .i32⟩
  | 20 => ⟨S8, .i32⟩
  | 21 => ⟨S8, .i1⟩
  | 22 => ⟨S8, .i1⟩
  | 23 => ⟨S_, .i32⟩
  | 24 => ⟨S8, .i32⟩
  | 25 => ⟨S8, .i32⟩
  | 26 => ⟨S8, .i32⟩
  | 27 => ⟨S_, .i32⟩
  | 28 => ⟨S8, .i32⟩
  | 29 => ⟨S8, .i32⟩
  | 30 => ⟨S_, .i32⟩
  | 31 => ⟨S_, .i32⟩
  | 32 => ⟨S8, .i32⟩
  | 33 => ⟨S36864, .i32⟩
  | 34 => ⟨S_, .i32⟩
  | 35 => ⟨S_, .i32⟩
  | 36 => ⟨S36864, .i32⟩
  | 37 => ⟨S36864, .i32⟩
  | 38 => ⟨S36864, .i32⟩
  | 39 => ⟨S_, .i32⟩
  | 40 => ⟨S36864, .i32⟩
  | 41 => ⟨S36864, .i1⟩
  | 42 => ⟨S36864, .i32⟩
  | 43 => ⟨S36864, .i32⟩
  | 44 => ⟨S_, .i32⟩
  | 45 => ⟨S36864, .i32⟩
  | 46 => ⟨S36864, .i1⟩
  | 47 => ⟨S36864, .i1⟩
  | 48 => ⟨S_, .i32⟩
  | 49 => ⟨S36864, .i32⟩
  | 50 => ⟨S36864, .i32⟩
  | 51 => ⟨S36864, .i32⟩
  | 52 => ⟨S_, .i32⟩
  | 53 => ⟨S36864, .i32⟩
  | 54 => ⟨S36864, .i32⟩
  | 55 => ⟨S36864x1, .i32⟩
  | 56 => ⟨S1x8, .i32⟩
  | 57 => ⟨S36864x8, .i32⟩
  | 58 => ⟨S36864x8, .i32⟩
  | 59 => ⟨S36864x8, .i1⟩
  | 60 => ⟨S36864x8, .i32⟩
  | 61 => ⟨S_, .i32⟩
  | 62 => ⟨S36864, .i32⟩
  | 63 => ⟨S_, .i32⟩
  | 64 => ⟨S36864, .i32⟩
  | 65 => ⟨S36864, .i32⟩
  | 66 => ⟨S_, .i32⟩
  | 67 => ⟨S_, .i32⟩
  | 68 => ⟨S36864, .i32⟩
  | 69 => ⟨S36864, .i32⟩
  | 70 => ⟨S36864, .i32⟩
  | 71 => ⟨S_, .i32⟩
  | 72 => ⟨S36864, .i32⟩
  | 73 => ⟨S36864, .i1⟩
  | 74 => ⟨S36864, .i32⟩
  | 75 => ⟨S36864, .i32⟩
  | 76 => ⟨S_, .i32⟩
  | 77 => ⟨S36864, .i32⟩
  | 78 => ⟨S36864, .i1⟩
  | 79 => ⟨S36864, .i1⟩
  | 80 => ⟨S_, .i32⟩
  | 81 => ⟨S36864, .i32⟩
  | 82 => ⟨S36864, .i32⟩
  | 83 => ⟨S36864, .i32⟩
  | 84 => ⟨S1, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i1⟩
  | 95 => ⟨S_, .i1⟩
  | 96 => ⟨S_, .i32⟩
  | 97 => ⟨S_, .i32⟩
  | 98 => ⟨S_, .i32⟩
  | 99 => ⟨S36864, .i32⟩
  | 100 => ⟨S36864, .i1⟩
  | 101 => ⟨S36864x1, .i32⟩
  | 102 => ⟨S1x8, .i32⟩
  | 103 => ⟨S36864x8, .i32⟩
  | 104 => ⟨S36864x8, .i32⟩
  | 105 => ⟨S36864x8, .i1⟩
  | 106 => ⟨S36864x8, .f32⟩
  | 107 => ⟨S36864x1, .i1⟩
  | 108 => ⟨S36864x1, .f32⟩
  | 109 => ⟨S36864x8, .f32⟩
  | 110 => ⟨S36864x8, .f32⟩
  | 111 => ⟨S_, .f32⟩
  | 112 => ⟨S36864x4096, .f32⟩
  | 113 => ⟨S36864x1, .f32⟩
  | 114 => ⟨S1x3584x4096, .f32⟩
  | 115 => ⟨S3584x4096, .f32⟩
  | 116 => ⟨S36864x4096, .f32⟩
  | 117 => ⟨S36864x4096, .f32⟩
  | 118 => ⟨S36864x4096, .f32⟩
  | 119 => ⟨S36864x4096, .f32⟩
  | 120 => ⟨S36864x1, .f32⟩
  | 121 => ⟨S1x3584x4096, .f32⟩
  | 122 => ⟨S3584x4096, .f32⟩
  | 123 => ⟨S36864x4096, .f32⟩
  | 124 => ⟨S36864x4096, .f32⟩
  | 125 => ⟨S36864x4096, .f32⟩
  | 126 => ⟨S36864x4096, .f32⟩
  | 127 => ⟨S36864x1, .f32⟩
  | _ => ⟨S36864x3584, .f32⟩

abbrev hbmTy0_1 (i : Nat) : BufTy := match i % 128 with
  | 0 => ⟨S1x3584x4096, .f32⟩
  | 1 => ⟨S3584x4096, .f32⟩
  | 2 => ⟨S36864x4096, .f32⟩
  | 3 => ⟨S36864x4096, .f32⟩
  | 4 => ⟨S36864x4096, .f32⟩
  | 5 => ⟨S36864x4096, .f32⟩
  | 6 => ⟨S36864x1, .f32⟩
  | 7 => ⟨S1x3584x4096, .f32⟩
  | 8 => ⟨S3584x4096, .f32⟩
  | 9 => ⟨S36864x4096, .f32⟩
  | 10 => ⟨S36864x4096, .f32⟩
  | 11 => ⟨S36864x4096, .f32⟩
  | 12 => ⟨S36864x4096, .f32⟩
  | 13 => ⟨S36864x1, .f32⟩
  | 14 => ⟨S1x3584x4096, .f32⟩
  | 15 => ⟨S3584x4096, .f32⟩
  | 16 => ⟨S36864x4096, .f32⟩
  | 17 => ⟨S36864x4096, .f32⟩
  | 18 => ⟨S36864x4096, .f32⟩
  | 19 => ⟨S36864x4096, .f32⟩
  | 20 => ⟨S36864x1, .f32⟩
  | 21 => ⟨S1x3584x4096, .f32⟩
  | 22 => ⟨S3584x4096, .f32⟩
  | 23 => ⟨S36864x4096, .f32⟩
  | 24 => ⟨S36864x4096, .f32⟩
  | 25 => ⟨S36864x4096, .f32⟩
  | 26 => ⟨S36864x4096, .f32⟩
  | 27 => ⟨S36864x1, .f32⟩
  | 28 => ⟨S1x3584x4096, .f32⟩
  | 29 => ⟨S3584x4096, .f32⟩
  | 30 => ⟨S36864x4096, .f32⟩
  | 31 => ⟨S36864x4096, .f32⟩
  | 32 => ⟨S36864x4096, .f32⟩
  | 33 => ⟨S36864x4096, .f32⟩
  | 34 => ⟨S36864x1, .f32⟩
  | 35 => ⟨S1x3584x4096, .f32⟩
  | 36 => ⟨S3584x4096, .f32⟩
  | 37 => ⟨S36864x4096, .f32⟩
  | 38 => ⟨S36864x4096, .f32⟩
  | 39 => ⟨S36864x4096, .f32⟩
  | 40 => ⟨S36864x4096, .f32⟩
  | 41 => ⟨S36864x4096, .bf16⟩
  | _ => ⟨S36864x3584, .f32⟩

abbrev hbmTy (i : Nat) : BufTy := match i / 128 with
  | 0 => hbmTy0_0 i
  | 1 => hbmTy0_1 i
  | _ => ⟨S36864x3584, .f32⟩

abbrev bufTy : (tb : Table) → Fin (tcTables nBuf tb) → BufTy
  | .hbm, ⟨i, _⟩ => hbmTy i
  | _, _ => ⟨S36864x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_c_2 : Ref sig .tc := ⟨.hbm, 27, rfl⟩
abbrev main_v5 : Ref sig .tc := ⟨.hbm, 28, rfl⟩
abbrev main_v6 : Ref sig .tc := ⟨.hbm, 29, rfl⟩
abbrev main_call1_call0_c : Ref sig .tc := ⟨.hbm, 30, rfl⟩
abbrev main_call1_call0_v0 : Ref sig .tc := ⟨.hbm, 31, rfl⟩
abbrev main_v7 : Ref sig .tc := ⟨.hbm, 32, rfl⟩
abbrev main_v8 : Ref sig .tc := ⟨.hbm, 33, rfl⟩
abbrev main_c_3 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_c : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_0 : Ref sig .tc := ⟨.hbm, 48, rfl⟩
abbrev main_call2_v12 : Ref sig .tc := ⟨.hbm, 49, rfl⟩
abbrev main_call2_v13 : Ref sig .tc := ⟨.hbm, 50, rfl⟩
abbrev main_v9 : Ref sig .tc := ⟨.hbm, 51, rfl⟩
abbrev main_c_4 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_c_5 : Ref sig .tc := ⟨.hbm, 61, rfl⟩
abbrev main_v18 : Ref sig .tc := ⟨.hbm, 62, rfl⟩
abbrev main_c_6 : Ref sig .tc := ⟨.hbm, 63, rfl⟩
abbrev main_v19 : Ref sig .tc := ⟨.hbm, 64, rfl⟩
abbrev main_v20 : Ref sig .tc := ⟨.hbm, 65, rfl⟩
abbrev main_c_7 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_c : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_0 : Ref sig .tc := ⟨.hbm, 80, rfl⟩
abbrev main_call3_v12 : Ref sig .tc := ⟨.hbm, 81, rfl⟩
abbrev main_call3_v13 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_c_8 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_call4_v5 : Ref sig .tc := ⟨.hbm, 92, rfl⟩
abbrev main_call4_c : Ref sig .tc := ⟨.hbm, 93, rfl⟩
abbrev main_call4_v6 : Ref sig .tc := ⟨.hbm, 94, rfl⟩
abbrev main_call4_v7 : Ref sig .tc := ⟨.hbm, 95, rfl⟩
abbrev main_call4_c_0 : Ref sig .tc := ⟨.hbm, 96, rfl⟩
abbrev main_call4_v8 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_v27 : Ref sig .tc := ⟨.hbm, 106, rfl⟩
abbrev main_v28 : Ref sig .tc := ⟨.hbm, 107, rfl⟩
abbrev main_v29 : Ref sig .tc := ⟨.hbm, 108, rfl⟩
abbrev main_v30 : Ref sig .tc := ⟨.hbm, 109, rfl⟩
abbrev main_v31 : Ref sig .tc := ⟨.hbm, 110, rfl⟩
abbrev main_cst : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_v36 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩

abbrev nD : Nat := 1
abbrev τ : Topo := Topo.v7x

variable {F : FTy → Type} [FloatOps F]
-- ==== Proof.Chain.lean ====
/- THE ONLINE SOFTMAX OF ONE CHAIN OF QUERIES, as the kernel computes it. The kernel cuts its 1024 queries into four
   chains of 256 rows; each chain keeps, per query, the running maximum, the running denominator and the running weighted
   sum of the values, and takes one block of keys after another: the scores of a block (keys by queries), their maximum
   per query, and the update of the three running quantities. Here these are named once; what the other chains and
   the other places of the body print are the same terms. -/
module

public import proofs.«01_k».proof.Proof.Gen.KernelIdeal.Frame
public import proofs.«01_k».proof.Proof.Gen.KernelIdeal.Loops
public import Idealize.ShloMosaic.Lib.Pipeline.ValueKit

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The rows of chain `j` of a block of 1024 queries. -/
def qrows (q : Vec F S1024x128 .f32) (j : ℕ) : Vec F S256x128 .f32 :=
  fun x => q (ix2 ⟨(256 * j + (x 0).val) % 1024, Nat.mod_lt _ (by decide)⟩ (x 1))

/-- The `n`-th chunk of 512 keys. -/
def kchunk (k : Vec F S4096x128 .bf16) (n : ℕ) : Vec F S512x128 .bf16 :=
  fun x => k (ix2 ⟨(512 * n + (x 0).val) % 4096, Nat.mod_lt _ (by decide)⟩ (x 1))

/-- The `n`-th chunk of 512 values, transposed. -/
def vchunk (v : Vec F S8x128x512 .bf16) (n : ℕ) : Vec F S1x128x512 .bf16 :=
  fun x => v (ix3 ⟨n % 8, Nat.mod_lt _ (by decide)⟩ (x 1) (x 2))

theorem ld_q (q : Vec F S1024x128 .f32) (j : ℕ) (hj : j < 4) {off : Fin 2 → ℕ} (ho : off = ![256 * j, 0])
    (inb : ∀ a, off a + S256x128.size a ≤ S1024x128.size a) :
    View.ld q (Rect.unit (s := S1024x128) off S256x128.size inb) = qrows q j := by
  subst ho
  funext x
  unfold qrows
  have h0 : (x 0).val < 256 := (x 0).isLt
  show q _ = q _
  congr 1
  funext a
  apply Fin.ext
  match a with
  | ⟨0, _⟩ => show 256 * j + 1 * (x 0).val = (256 * j + (x 0).val) % 1024; omega
  | ⟨1, _⟩ => show 0 + 1 * (x 1).val = (x 1).val; omega

theorem ld_k (k : Vec F S4096x128 .bf16) (n : ℕ) (hn : n < 8) {off : Fin 2 → ℕ} (ho : off = ![512 * n, 0])
    (inb : ∀ a, off a + S512x128.size a ≤ S4096x128.size a) :
    View.ld k (Rect.unit (s := S4096x128) off S512x128.size inb) = kchunk k n := by
  subst ho
  funext x
  unfold kchunk
  have h0 : (x 0).val < 512 := (x 0).isLt
  show k _ = k _
  congr 1
  funext a
  apply Fin.ext
  match a with
  | ⟨0, _⟩ => show 512 * n + 1 * (x 0).val = (512 * n + (x 0).val) % 4096; omega
  | ⟨1, _⟩ => show 0 + 1 * (x 1).val = (x 1).val; omega

theorem ld_v (v : Vec F S8x128x512 .bf16) (n : ℕ) (hn : n < 8) {off : Fin 3 → ℕ} (ho : off = ![n, 0, 0])
    (inb : ∀ a, off a + S1x128x512.size a ≤ S8x128x512.size a) :
    View.ld v (Rect.unit (s := S8x128x512) off S1x128x512.size inb) = vchunk v n := by
  subst ho
  funext x
  unfold vchunk
  have h0 : (x 0).val < 1 := (x 0).isLt
  show v _ = v _
  congr 1
  funext a
  apply Fin.ext
  match a with
  | ⟨0, _⟩ => show n + 1 * (x 0).val = n % 8; omega
  | ⟨1, _⟩ => show 0 + 1 * (x 1).val = (x 1).val; omega
  | ⟨2, _⟩ => show 0 + 1 * (x 2).val = (x 2).val; omega

/-! ## One block of keys -/

/-- The scores of 512 keys against a chain's queries, and their maximum per query. -/
def scores (k : Vec F S512x128 .bf16) (q : Vec F S256x128 .f32) : Vec F S512x256 .f32 := k0_pay7 k q
def colmax (k : Vec F S512x128 .bf16) (q : Vec F S256x128 .f32) : Vec F S1x256 .f32 := k0_pay9 (k0_pay8 k q)

/-- The running maximum, the running denominator and the running weighted sum after one more block. -/
def newM (t m : Vec F S1x256 .f32) : Vec F S1x256 .f32 := k0_pay20 t m
def newL (s : Vec F S512x256 .f32) (t m l : Vec F S1x256 .f32) : Vec F S1x256 .f32 := k0_pay21 s t m l
def newA (s : Vec F S512x256 .f32) (t : Vec F S1x256 .f32) (v : Vec F S1x128x512 .bf16) (m : Vec F S1x256 .f32)
    (a : Vec F S128x256 .f32) : Vec F S128x256 .f32 := k0_pay23 (k0_pay22 s t v m a)

/-- What a chain carries from block to block. -/
structure St (F : FTy → Type) [FloatOps F] where
  m : Vec F S1x256 .f32
  l : Vec F S1x256 .f32
  a : Vec F S128x256 .f32

/-- One block of keys and values taken in. -/
def St.take (σ : St F) (k : Vec F S512x128 .bf16) (v : Vec F S1x128x512 .bf16) (q : Vec F S256x128 .f32) : St F where
  m := newM (colmax k q) σ.m
  l := newL (scores k q) (colmax k q) σ.m σ.l
  a := newA (scores k q) (colmax k q) v σ.m σ.a

/-- The first block: the 256 context keys, from which the three quantities start. -/
def ctxS (k : Vec F S256x128 .bf16) (q : Vec F S256x128 .f32) : FVec F S256x256 .f32 := k0_pay89 k q
def St.first (k : Vec F S256x128 .bf16) (v : Vec F S1x128x256 .bf16) (q : Vec F S256x128 .f32) : St F where
  m := k0_pay113 (ctxS k q)
  l := k0_pay114 (k0_pay111 (ctxS k q))
  a := k0_pay115 (k0_pay112 (ctxS k q) v)

/-- The state after the context block and `n` chunks. -/
def St.upto (kc : Vec F S256x128 .bf16) (vc : Vec F S1x128x256 .bf16) (k : Vec F S4096x128 .bf16) (v : Vec F S8x128x512 .bf16)
    (q : Vec F S256x128 .f32) : ℕ → St F
  | 0 => St.first kc vc q
  | n + 1 => (St.upto kc vc k v q n).take (kchunk k n) (vchunk v n) q

/-- What a chain hands out: the weighted sum over the denominator, transposed back to rows of queries. -/
def St.out (σ : St F) : Vec F S256x128 .bf16 := k0_pay209 σ.a σ.l

/-- A whole buffer held at the contents `X`. -/
abbrev rawAt (c : Dev nD) {sp : Space} {S : Shape} {e : EltTy} (M : Memref sig .tc sp S e) (h : M.IsWhole) (X : S.Idx → Elt F e) :
    sProp (MT nD τ sig Unit (Elt F) ℕ (UR sig nD τ) ℕ) :=
  M.view.loc (c : Thread nD τ) ↦[M.view.set]{fullShare} h.unread X

theorem owns_raw (c : Dev nD) {sp : Space} {S : Shape} {e : EltTy} {M : Memref sig .tc sp S e} (h : M.IsWhole) (X : S.Idx → Elt F e) :
    (owns (c : Thread nD τ) M fullShare X : sProp (MT nD τ sig Unit (Elt F) ℕ (UR sig nD τ) ℕ)) ⊢ rawAt c M h X := by
  unfold owns
  iintro ⟨%f, %hf, H⟩
  obtain rfl := h.eq_unread hf
  iexact H

/-- A store of a whole buffer leaves its payload, whatever was there and whatever was stored before. -/
theorem read_writes_whole {sp : Space} {S : Shape} {e : EltTy} (w : View sig .tc sp S e) (f : w.ty.Contents (Elt F))
    {off : Fin S.rank → ℕ} (h : ∀ a, off a = 0) (inb : ∀ a, off a + S.size a ≤ S.size a) (x : S.Idx → Elt F e)
    (L : List (View.Piece (Elt F) S e)) :
    w.read (Elt F) (w.writes (Elt F) f ((⟨Rect.unit off S.size inb, x⟩ : View.Piece (Elt F) S e) :: L)) = x := by
  have h' : off = fun _ => 0 := funext h
  rw [View.read_writes_eq_canon _ _ _ (fun y => ⟨_, List.mem_cons_self, View.mem_set_unit_zero h' inb y⟩)]
  exact View.canon_cons_unit_zero h' inb x L

end Cert.KernelIdeal.Run

end
-- ==== Proof.Trip.lean ====
/- ONE TRIP of the loop over the chunks of keys, at a symbolic trip number: each chain takes in the two chunks whose scores
   were computed ahead (the second of them in this very trip) and leaves the scores of the chunk after them. -/
module

public import proofs.«01_k».proof.Proof.Chain

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]
local notation "𝕄" => MT nD τ sig Unit (Elt F) ℕ (UR sig nD τ) ℕ

theorem off_k1 (k : Fin k0_t1_loop.trips) : k0_off1 k 1#32 = ![512 * (2 * k.val + 1), 0] :=
  (k0_off1_eq k ⟨0, by decide⟩).trans (by congr 1; show 1024 * k.val + 512 * 0 + 512 = _; omega)
theorem off_k2 (k : Fin k0_t1_loop.trips) : k0_off1 k 2#32 = ![512 * (2 * k.val + 2), 0] :=
  (k0_off1_eq k ⟨1, by decide⟩).trans (by congr 1; show 1024 * k.val + 512 * 1 + 512 = _; omega)
theorem trips_lt (k : Fin k0_t1_loop.trips) : k.val < 3 := lt_of_lt_of_le k.isLt k0_t1_abs.2.1

theorem ld_k1 (x : Vec F S4096x128 .bf16) (k : Fin k0_t1_loop.trips) (inb : ∀ a, k0_off1 k 1#32 a + S512x128.size a ≤ S4096x128.size a) :
    View.ld x (Rect.unit (s := S4096x128) (k0_off1 k 1#32) (no_index S512x128.size) inb) = kchunk x (2 * k.val + 1) :=
  ld_k x _ (by have := trips_lt k; omega) (off_k1 k) inb
theorem ld_k2 (x : Vec F S4096x128 .bf16) (k : Fin k0_t1_loop.trips) (inb : ∀ a, k0_off1 k 2#32 a + S512x128.size a ≤ S4096x128.size a) :
    View.ld x (Rect.unit (s := S4096x128) (k0_off1 k 2#32) (no_index S512x128.size) inb) = kchunk x (2 * k.val + 2) :=
  ld_k x _ (by have := trips_lt k; omega) (off_k2 k) inb
theorem ld_v1 (x : Vec F S8x128x512 .bf16) (k : Fin k0_t1_loop.trips) (inb : ∀ a, k0_off2 k a + S1x128x512.size a ≤ S8x128x512.size a) :
    View.ld x (Rect.unit (s := S8x128x512) (k0_off2 k) (no_index S1x128x512.size) inb) = vchunk x (2 * k.val) :=
  ld_v x _ (by have := trips_lt k; omega) (k0_off2_eq k) inb
theorem ld_v2 (x : Vec F S8x128x512 .bf16) (k : Fin k0_t1_loop.trips) (inb : ∀ a, k0_off3 k a + S1x128x512.size a ≤ S8x128x512.size a) :
    View.ld x (Rect.unit (s := S8x128x512) (k0_off3 k) (no_index S1x128x512.size) inb) = vchunk x (2 * k.val + 1) :=
  ld_v x _ (by have := trips_lt k; omega) (k0_off3_eq k) inb
theorem ld_q0 (x : Vec F S1024x128 .f32) (inb : ∀ a, (![0, 0] : Fin 2 → ℕ) a + S256x128.size a ≤ S1024x128.size a) :
    View.ld x (Rect.unit (s := S1024x128) ![0, 0] (no_index S256x128.size) inb) = qrows x 0 := ld_q x 0 (by decide) rfl inb
theorem ld_q1 (x : Vec F S1024x128 .f32) (inb : ∀ a, (![256, 0] : Fin 2 → ℕ) a + S256x128.size a ≤ S1024x128.size a) :
    View.ld x (Rect.unit (s := S1024x128) ![256, 0] (no_index S256x128.size) inb) = qrows x 1 := ld_q x 1 (by decide) rfl inb
theorem ld_q2 (x : Vec F S1024x128 .f32) (inb : ∀ a, (![512, 0] : Fin 2 → ℕ) a + S256x128.size a ≤ S1024x128.size a) :
    View.ld x (Rect.unit (s := S1024x128) ![512, 0] (no_index S256x128.size) inb) = qrows x 2 := ld_q x 2 (by decide) rfl inb
theorem ld_q3 (x : Vec F S1024x128 .f32) (inb : ∀ a, (![768, 0] : Fin 2 → ℕ) a + S256x128.size a ≤ S1024x128.size a) :
    View.ld x (Rect.unit (s := S1024x128) ![768, 0] (no_index S256x128.size) inb) = qrows x 3 := ld_q x 3 (by decide) rfl inb

set_option maxHeartbeats 2000000 in
/-- The trip: what each buffer holds afterwards, from any contents before. -/
theorem trip (c : Dev nD) (i : grid0.Coords) (arg3 : Memref sig .tc .vmem S1024x128 .f32) (harg3 : arg3.IsWhole) (arg4 : Memref sig .tc .vmem S256x128 .bf16) (harg4 : arg4.IsWhole) (arg5 : Memref sig .tc .vmem S1x128x256 .bf16) (harg5 : arg5.IsWhole) (arg6 : Memref sig .tc .vmem S4096x128 .bf16) (harg6 : arg6.IsWhole) (arg7 : Memref sig .tc .vmem S8x128x512 .bf16) (harg7 : arg7.IsWhole) (arg8 : Memref sig .tc .vmem S1024x128 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S512x256 .f32) (harg12 : arg12.IsWhole) (arg13 : Memref sig .tc .vmem S512x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S128x256 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x256 .f32) (harg23 : arg23.IsWhole) (arg24 : Memref sig .tc .vmem S1x256 .f32) (harg24 : arg24.IsWhole) (arg25 : Memref sig .tc .vmem S128x256 .f32) (harg25 : arg25.IsWhole) (arg26 : Memref sig .tc .vmem S512x256 .f32) (harg26 : arg26.IsWhole) (arg27 : Memref sig .tc .vmem S512x256 .f32) (harg27 : arg27.IsWhole) (arg28 : Memref sig .tc .vmem S1x256 .f32) (harg28 : arg28.IsWhole) (arg29 : Memref sig .tc .vmem S1x256 .f32) (harg29 : arg29.IsWhole) (arg30 : Memref sig .tc .vmem S1x256 .f32) (harg30 : arg30.IsWhole) (arg31 : Memref sig .tc .vmem S1x256 .f32) (harg31 : arg31.IsWhole) (arg32 : Memref sig .tc .vmem S128x256 .f32) (harg32 : arg32.IsWhole) (arg33 : Memref sig .tc .vmem S512x256 .f32) (harg33 : arg33.IsWhole) (arg34 : Memref sig .tc .vmem S512x256 .f32) (harg34 : arg34.IsWhole) (arg35 : Memref sig .tc .vmem S1x256 .f32) (harg35 : arg35.IsWhole) (arg36 : Memref sig .tc .vmem S1x256 .f32) (harg36 : arg36.IsWhole)
    (v25 : FVec F S256x256 .f32) (v87 : FVec F S128x256 .bf16) (v130 : FVec F S1x256 .f32) (v132 : FVec F S128x256 .f32) (k : Fin k0_t1_loop.trips)
    (x3 : Vec F S1024x128 .f32) (x6 : Vec F S4096x128 .bf16) (x7 : Vec F S8x128x512 .bf16) (x9 : Vec F S1x256 .f32) (x10 : Vec F S1x256 .f32) (x11 : Vec F S128x256 .f32) (x12 : Vec F S512x256 .f32) (x13 : Vec F S512x256 .f32) (x14 : Vec F S1x256 .f32) (x15 : Vec F S1x256 .f32) (x16 : Vec F S1x256 .f32) (x17 : Vec F S1x256 .f32) (x18 : Vec F S128x256 .f32) (x19 : Vec F S512x256 .f32) (x20 : Vec F S512x256 .f32) (x21 : Vec F S1x256 .f32) (x22 : Vec F S1x256 .f32) (x23 : Vec F S1x256 .f32) (x24 : Vec F S1x256 .f32) (x25 : Vec F S128x256 .f32) (x26 : Vec F S512x256 .f32) (x27 : Vec F S512x256 .f32) (x28 : Vec F S1x256 .f32) (x29 : Vec F S1x256 .f32) (x30 : Vec F S1x256 .f32) (x31 : Vec F S1x256 .f32) (x32 : Vec F S128x256 .f32) (x33 : Vec F S512x256 .f32) (x34 : Vec F S512x256 .f32) (x35 : Vec F S1x256 .f32) (x36 : Vec F S1x256 .f32) (K : Unit → sProp 𝕄) :
    iprop(rawAt c arg3 harg3 x3 ∗ rawAt c arg6 harg6 x6 ∗ rawAt c arg7 harg7 x7 ∗ rawAt c arg9 harg9 x9 ∗ rawAt c arg10 harg10 x10 ∗ rawAt c arg11 harg11 x11 ∗ rawAt c arg12 harg12 x12 ∗ rawAt c arg13 harg13 x13 ∗ rawAt c arg14 harg14 x14 ∗ rawAt c arg15 harg15 x15 ∗ rawAt c arg16 harg16 x16 ∗ rawAt c arg17 harg17 x17 ∗ rawAt c arg18 harg18 x18 ∗ rawAt c arg19 harg19 x19 ∗ rawAt c arg20 harg20 x20 ∗ rawAt c arg21 harg21 x21 ∗ rawAt c arg22 harg22 x22 ∗ rawAt c arg23 harg23 x23 ∗ rawAt c arg24 harg24 x24 ∗ rawAt c arg25 harg25 x25 ∗ rawAt c arg26 harg26 x26 ∗ rawAt c arg27 harg27 x27 ∗ rawAt c arg28 harg28 x28 ∗ rawAt c arg29 harg29 x29 ∗ rawAt c arg30 harg30 x30 ∗ rawAt c arg31 harg31 x31 ∗ rawAt c arg32 harg32 x32 ∗ rawAt c arg33 harg33 x33 ∗ rawAt c arg34 harg34 x34 ∗ rawAt c arg35 harg35 x35 ∗ rawAt c arg36 harg36 x36
      ∗ (iprop(owns (c : Thread nD τ) arg3 fullShare x3
          ∗ owns (c : Thread nD τ) arg6 fullShare x6
          ∗ owns (c : Thread nD τ) arg7 fullShare x7
          ∗ owns (c : Thread nD τ) arg9 fullShare (newM (colmax (kchunk x6 (2 * k.val + 1)) (qrows x3 0)) (newM x14 x9))
          ∗ owns (c : Thread nD τ) arg10 fullShare (newL (scores (kchunk x6 (2 * k.val + 1)) (qrows x3 0)) (colmax (kchunk x6 (2 * k.val + 1)) (qrows x3 0)) (newM x14 x9) (newL x12 x14 x9 x10))
          ∗ owns (c : Thread nD τ) arg11 fullShare (newA (scores (kchunk x6 (2 * k.val + 1)) (qrows x3 0)) (colmax (kchunk x6 (2 * k.val + 1)) (qrows x3 0)) (vchunk x7 (2 * k.val + 1)) (newM x14 x9) (newA x12 x14 (vchunk x7 (2 * k.val)) x9 x11))
          ∗ owns (c : Thread nD τ) arg12 fullShare (scores (kchunk x6 (2 * k.val + 2)) (qrows x3 0))
          ∗ owns (c : Thread nD τ) arg13 fullShare (scores (kchunk x6 (2 * k.val + 1)) (qrows x3 0))
          ∗ owns (c : Thread nD τ) arg14 fullShare (colmax (kchunk x6 (2 * k.val + 2)) (qrows x3 0))
          ∗ owns (c : Thread nD τ) arg15 fullShare (colmax (kchunk x6 (2 * k.val + 1)) (qrows x3 0))
          ∗ owns (c : Thread nD τ) arg16 fullShare (newM (colmax (kchunk x6 (2 * k.val + 1)) (qrows x3 1)) (newM x21 x16))
          ∗ owns (c : Thread nD τ) arg17 fullShare (newL (scores (kchunk x6 (2 * k.val + 1)) (qrows x3 1)) (colmax (kchunk x6 (2 * k.val + 1)) (qrows x3 1)) (newM x21 x16) (newL x19 x21 x16 x17))
          ∗ owns (c : Thread nD τ) arg18 fullShare (newA (scores (kchunk x6 (2 * k.val + 1)) (qrows x3 1)) (colmax (kchunk x6 (2 * k.val + 1)) (qrows x3 1)) (vchunk x7 (2 * k.val + 1)) (newM x21 x16) (newA x19 x21 (vchunk x7 (2 * k.val)) x16 x18))
          ∗ owns (c : Thread nD τ) arg19 fullShare (scores (kchunk x6 (2 * k.val + 2)) (qrows x3 1))
          ∗ owns (c : Thread nD τ) arg20 fullShare (scores (kchunk x6 (2 * k.val + 1)) (qrows x3 1))
          ∗ owns (c : Thread nD τ) arg21 fullShare (colmax (kchunk x6 (2 * k.val + 2)) (qrows x3 1))
          ∗ owns (c : Thread nD τ) arg22 fullShare (colmax (kchunk x6 (2 * k.val + 1)) (qrows x3 1))
          ∗ owns (c : Thread nD τ) arg23 fullShare (newM (colmax (kchunk x6 (2 * k.val + 1)) (qrows x3 2)) (newM x28 x23))
          ∗ owns (c : Thread nD τ) arg24 fullShare (newL (scores (kchunk x6 (2 * k.val + 1)) (qrows x3 2)) (colmax (kchunk x6 (2 * k.val + 1)) (qrows x3 2)) (newM x28 x23) (newL x26 x28 x23 x24))
          ∗ owns (c : Thread nD τ) arg25 fullShare (newA (scores (kchunk x6 (2 * k.val + 1)) (qrows x3 2)) (colmax (kchunk x6 (2 * k.val + 1)) (qrows x3 2)) (vchunk x7 (2 * k.val + 1)) (newM x28 x23) (newA x26 x28 (vchunk x7 (2 * k.val)) x23 x25))
          ∗ owns (c : Thread nD τ) arg26 fullShare (scores (kchunk x6 (2 * k.val + 2)) (qrows x3 2))
          ∗ owns (c : Thread nD τ) arg27 fullShare (scores (kchunk x6 (2 * k.val + 1)) (qrows x3 2))
          ∗ owns (c : Thread nD τ) arg28 fullShare (colmax (kchunk x6 (2 * k.val + 2)) (qrows x3 2))
          ∗ owns (c : Thread nD τ) arg29 fullShare (colmax (kchunk x6 (2 * k.val + 1)) (qrows x3 2))
          ∗ owns (c : Thread nD τ) arg30 fullShare (newM (colmax (kchunk x6 (2 * k.val + 1)) (qrows x3 3)) (newM x35 x30))
          ∗ owns (c : Thread nD τ) arg31 fullShare (newL (scores (kchunk x6 (2 * k.val + 1)) (qrows x3 3)) (colmax (kchunk x6 (2 * k.val + 1)) (qrows x3 3)) (newM x35 x30) (newL x33 x35 x30 x31))
          ∗ owns (c : Thread nD τ) arg32 fullShare (newA (scores (kchunk x6 (2 * k.val + 1)) (qrows x3 3)) (colmax (kchunk x6 (2 * k.val + 1)) (qrows x3 3)) (vchunk x7 (2 * k.val + 1)) (newM x35 x30) (newA x33 x35 (vchunk x7 (2 * k.val)) x30 x32))
          ∗ owns (c : Thread nD τ) arg33 fullShare (scores (kchunk x6 (2 * k.val + 2)) (qrows x3 3))
          ∗ owns (c : Thread nD τ) arg34 fullShare (scores (kchunk x6 (2 * k.val + 1)) (qrows x3 3))
          ∗ owns (c : Thread nD τ) arg35 fullShare (colmax (kchunk x6 (2 * k.val + 2)) (qrows x3 3))
          ∗ owns (c : Thread nD τ) arg36 fullShare (colmax (kchunk x6 (2 * k.val + 1)) (qrows x3 3))) -∗ K ()))
      ⊢ wp frame (wpE (defs₀ (F := F)) Variants.none c none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v25 v87 v130 v132 k ()) K := by
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨H3, H6, H7, H9, H10, H11, H12, H13, H14, H15, H16, H17, H18, H19, H20, H21, H22, H23, H24, H25, H26, H27, H28, H29, H30, H31, H32, H33, H34, H35, H36, HK⟩
  sl_exec
  sl_step
  iapply HK
  isplitl [H3]
  · iexists _; isplitr; · ipureintro; exact harg3.read_unread _
    iexact H3
  isplitl [H6]
  · iexists _; isplitr; · ipureintro; exact harg6.read_unread _
    iexact H6
  isplitl [H7]
  · iexists _; isplitr; · ipureintro; exact harg7.read_unread _
    iexact H7
  isplitl [H9]
  · iexists _; isplitr; swap; · iexact H9
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H10]
  · iexists _; isplitr; swap; · iexact H10
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H11]
  · iexists _; isplitr; swap; · iexact H11
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H12]
  · iexists _; isplitr; swap; · iexact H12
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H13]
  · iexists _; isplitr; swap; · iexact H13
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H14]
  · iexists _; isplitr; swap; · iexact H14
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H15]
  · iexists _; isplitr; swap; · iexact H15
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H16]
  · iexists _; isplitr; swap; · iexact H16
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H17]
  · iexists _; isplitr; swap; · iexact H17
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H18]
  · iexists _; isplitr; swap; · iexact H18
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H19]
  · iexists _; isplitr; swap; · iexact H19
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H20]
  · iexists _; isplitr; swap; · iexact H20
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H21]
  · iexists _; isplitr; swap; · iexact H21
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H22]
  · iexists _; isplitr; swap; · iexact H22
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H23]
  · iexists _; isplitr; swap; · iexact H23
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H24]
  · iexists _; isplitr; swap; · iexact H24
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H25]
  · iexists _; isplitr; swap; · iexact H25
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H26]
  · iexists _; isplitr; swap; · iexact H26
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H27]
  · iexists _; isplitr; swap; · iexact H27
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H28]
  · iexists _; isplitr; swap; · iexact H28
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H29]
  · iexists _; isplitr; swap; · iexact H29
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H30]
  · iexists _; isplitr; swap; · iexact H30
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H31]
  · iexists _; isplitr; swap; · iexact H31
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H32]
  · iexists _; isplitr; swap; · iexact H32
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H33]
  · iexists _; isplitr; swap; · iexact H33
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H34]
  · iexists _; isplitr; swap; · iexact H34
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  isplitl [H35]
  · iexists _; isplitr; swap; · iexact H35
    ipureintro
    frame_open; rw [read_writes_whole _ _ (by decide)]
    simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl
  iexists _; isplitr; swap; · iexact H36
  ipureintro
  frame_open; rw [read_writes_whole _ _ (by decide)]
  simp (disch := decide) only [View.readAt_eq_ld, Memref.IsWhole.read_unread, ld_k1, ld_k2, ld_v1, ld_v2, ld_q0, ld_q1, ld_q2, ld_q3,
      View.ld_unit_lit', View.readCov_unit_lit', View.readCov_cons_unit_lit']; rfl

end Cert.KernelIdeal.Run
end
-- ==== Proof.Loop.lean ====
/- THE LOOP over the chunks of keys: before trip `n` every chain has taken in the context and the chunks below `2n` and holds
   the scores of chunk `2n`. -/
module

public import proofs.«01_k».proof.Proof.Trip

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]
local notation "𝕄" => MT nD τ sig Unit (Elt F) ℕ (UR sig nD τ) ℕ

/-- What the buffers hold before trip `n`. -/
def inv (c : Dev nD) {arg3 : Memref sig .tc .vmem S1024x128 .f32} (harg3 : arg3.IsWhole) {arg6 : Memref sig .tc .vmem S4096x128 .bf16} (harg6 : arg6.IsWhole) {arg7 : Memref sig .tc .vmem S8x128x512 .bf16} (harg7 : arg7.IsWhole) {arg9 : Memref sig .tc .vmem S1x256 .f32} (harg9 : arg9.IsWhole) {arg10 : Memref sig .tc .vmem S1x256 .f32} (harg10 : arg10.IsWhole) {arg11 : Memref sig .tc .vmem S128x256 .f32} (harg11 : arg11.IsWhole) {arg12 : Memref sig .tc .vmem S512x256 .f32} (harg12 : arg12.IsWhole) {arg13 : Memref sig .tc .vmem S512x256 .f32} (harg13 : arg13.IsWhole) {arg14 : Memref sig .tc .vmem S1x256 .f32} (harg14 : arg14.IsWhole) {arg15 : Memref sig .tc .vmem S1x256 .f32} (harg15 : arg15.IsWhole) {arg16 : Memref sig .tc .vmem S1x256 .f32} (harg16 : arg16.IsWhole) {arg17 : Memref sig .tc .vmem S1x256 .f32} (harg17 : arg17.IsWhole) {arg18 : Memref sig .tc .vmem S128x256 .f32} (harg18 : arg18.IsWhole) {arg19 : Memref sig .tc .vmem S512x256 .f32} (harg19 : arg19.IsWhole) {arg20 : Memref sig .tc .vmem S512x256 .f32} (harg20 : arg20.IsWhole) {arg21 : Memref sig .tc .vmem S1x256 .f32} (harg21 : arg21.IsWhole) {arg22 : Memref sig .tc .vmem S1x256 .f32} (harg22 : arg22.IsWhole) {arg23 : Memref sig .tc .vmem S1x256 .f32} (harg23 : arg23.IsWhole) {arg24 : Memref sig .tc .vmem S1x256 .f32} (harg24 : arg24.IsWhole) {arg25 : Memref sig .tc .vmem S128x256 .f32} (harg25 : arg25.IsWhole) {arg26 : Memref sig .tc .vmem S512x256 .f32} (harg26 : arg26.IsWhole) {arg27 : Memref sig .tc .vmem S512x256 .f32} (harg27 : arg27.IsWhole) {arg28 : Memref sig .tc .vmem S1x256 .f32} (harg28 : arg28.IsWhole) {arg29 : Memref sig .tc .vmem S1x256 .f32} (harg29 : arg29.IsWhole) {arg30 : Memref sig .tc .vmem S1x256 .f32} (harg30 : arg30.IsWhole) {arg31 : Memref sig .tc .vmem S1x256 .f32} (harg31 : arg31.IsWhole) {arg32 : Memref sig .tc .vmem S128x256 .f32} (harg32 : arg32.IsWhole) {arg33 : Memref sig .tc .vmem S512x256 .f32} (harg33 : arg33.IsWhole) {arg34 : Memref sig .tc .vmem S512x256 .f32} (harg34 : arg34.IsWhole) {arg35 : Memref sig .tc .vmem S1x256 .f32} (harg35 : arg35.IsWhole) {arg36 : Memref sig .tc .vmem S1x256 .f32} (harg36 : arg36.IsWhole)
    (x3 : Vec F S1024x128 .f32) (x4 : Vec F S256x128 .bf16) (x5 : Vec F S1x128x256 .bf16) (x6 : Vec F S4096x128 .bf16) (x7 : Vec F S8x128x512 .bf16) (n : ℕ) : sProp 𝕄 :=
  iprop(rawAt c arg3 harg3 x3
    ∗ rawAt c arg6 harg6 x6
    ∗ rawAt c arg7 harg7 x7
    ∗ rawAt c arg9 harg9 (St.upto x4 x5 x6 x7 (qrows x3 0) (2 * n)).m
    ∗ rawAt c arg10 harg10 (St.upto x4 x5 x6 x7 (qrows x3 0) (2 * n)).l
    ∗ rawAt c arg11 harg11 (St.upto x4 x5 x6 x7 (qrows x3 0) (2 * n)).a
    ∗ rawAt c arg12 harg12 (scores (kchunk x6 (2 * n)) (qrows x3 0))
    ∗ (∃ d, rawAt c arg13 harg13 d)
    ∗ rawAt c arg14 harg14 (colmax (kchunk x6 (2 * n)) (qrows x3 0))
    ∗ (∃ d, rawAt c arg15 harg15 d)
    ∗ rawAt c arg16 harg16 (St.upto x4 x5 x6 x7 (qrows x3 1) (2 * n)).m
    ∗ rawAt c arg17 harg17 (St.upto x4 x5 x6 x7 (qrows x3 1) (2 * n)).l
    ∗ rawAt c arg18 harg18 (St.upto x4 x5 x6 x7 (qrows x3 1) (2 * n)).a
    ∗ rawAt c arg19 harg19 (scores (kchunk x6 (2 * n)) (qrows x3 1))
    ∗ (∃ d, rawAt c arg20 harg20 d)
    ∗ rawAt c arg21 harg21 (colmax (kchunk x6 (2 * n)) (qrows x3 1))
    ∗ (∃ d, rawAt c arg22 harg22 d)
    ∗ rawAt c arg23 harg23 (St.upto x4 x5 x6 x7 (qrows x3 2) (2 * n)).m
    ∗ rawAt c arg24 harg24 (St.upto x4 x5 x6 x7 (qrows x3 2) (2 * n)).l
    ∗ rawAt c arg25 harg25 (St.upto x4 x5 x6 x7 (qrows x3 2) (2 * n)).a
    ∗ rawAt c arg26 harg26 (scores (kchunk x6 (2 * n)) (qrows x3 2))
    ∗ (∃ d, rawAt c arg27 harg27 d)
    ∗ rawAt c arg28 harg28 (colmax (kchunk x6 (2 * n)) (qrows x3 2))
    ∗ (∃ d, rawAt c arg29 harg29 d)
    ∗ rawAt c arg30 harg30 (St.upto x4 x5 x6 x7 (qrows x3 3) (2 * n)).m
    ∗ rawAt c arg31 harg31 (St.upto x4 x5 x6 x7 (qrows x3 3) (2 * n)).l
    ∗ rawAt c arg32 harg32 (St.upto x4 x5 x6 x7 (qrows x3 3) (2 * n)).a
    ∗ rawAt c arg33 harg33 (scores (kchunk x6 (2 * n)) (qrows x3 3))
    ∗ (∃ d, rawAt c arg34 harg34 d)
    ∗ rawAt c arg35 harg35 (colmax (kchunk x6 (2 * n)) (qrows x3 3))
    ∗ (∃ d, rawAt c arg36 harg36 d))

theorem upto_two (kc : Vec F S256x128 .bf16) (vc : Vec F S1x128x256 .bf16) (k : Vec F S4096x128 .bf16) (v : Vec F S8x128x512 .bf16)
    (q : Vec F S256x128 .f32) (n : ℕ) :
    St.upto kc vc k v q (2 * (n + 1))
      = ((St.upto kc vc k v q (2 * n)).take (kchunk k (2 * n)) (vchunk v (2 * n)) q).take (kchunk k (2 * n + 1)) (vchunk v (2 * n + 1)) q := rfl

set_option maxHeartbeats 2000000 in
theorem inv_step (c : Dev nD) (i : grid0.Coords) (arg3 : Memref sig .tc .vmem S1024x128 .f32) (harg3 : arg3.IsWhole) (arg4 : Memref sig .tc .vmem S256x128 .bf16) (harg4 : arg4.IsWhole) (arg5 : Memref sig .tc .vmem S1x128x256 .bf16) (harg5 : arg5.IsWhole) (arg6 : Memref sig .tc .vmem S4096x128 .bf16) (harg6 : arg6.IsWhole) (arg7 : Memref sig .tc .vmem S8x128x512 .bf16) (harg7 : arg7.IsWhole) (arg8 : Memref sig .tc .vmem S1024x128 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S512x256 .f32) (harg12 : arg12.IsWhole) (arg13 : Memref sig .tc .vmem S512x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S128x256 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x256 .f32) (harg23 : arg23.IsWhole) (arg24 : Memref sig .tc .vmem S1x256 .f32) (harg24 : arg24.IsWhole) (arg25 : Memref sig .tc .vmem S128x256 .f32) (harg25 : arg25.IsWhole) (arg26 : Memref sig .tc .vmem S512x256 .f32) (harg26 : arg26.IsWhole) (arg27 : Memref sig .tc .vmem S512x256 .f32) (harg27 : arg27.IsWhole) (arg28 : Memref sig .tc .vmem S1x256 .f32) (harg28 : arg28.IsWhole) (arg29 : Memref sig .tc .vmem S1x256 .f32) (harg29 : arg29.IsWhole) (arg30 : Memref sig .tc .vmem S1x256 .f32) (harg30 : arg30.IsWhole) (arg31 : Memref sig .tc .vmem S1x256 .f32) (harg31 : arg31.IsWhole) (arg32 : Memref sig .tc .vmem S128x256 .f32) (harg32 : arg32.IsWhole) (arg33 : Memref sig .tc .vmem S512x256 .f32) (harg33 : arg33.IsWhole) (arg34 : Memref sig .tc .vmem S512x256 .f32) (harg34 : arg34.IsWhole) (arg35 : Memref sig .tc .vmem S1x256 .f32) (harg35 : arg35.IsWhole) (arg36 : Memref sig .tc .vmem S1x256 .f32) (harg36 : arg36.IsWhole)
    (v25 : FVec F S256x256 .f32) (v87 : FVec F S128x256 .bf16) (v130 : FVec F S1x256 .f32) (v132 : FVec F S128x256 .f32) (x3 : Vec F S1024x128 .f32) (x4 : Vec F S256x128 .bf16) (x5 : Vec F S1x128x256 .bf16) (x6 : Vec F S4096x128 .bf16) (x7 : Vec F S8x128x512 .bf16) (k : Fin k0_t1_loop.trips) (acc : Unit) :
    inv c harg3 harg6 harg7 harg9 harg10 harg11 harg12 harg13 harg14 harg15 harg16 harg17 harg18 harg19 harg20 harg21 harg22 harg23 harg24 harg25 harg26 harg27 harg28 harg29 harg30 harg31 harg32 harg33 harg34 harg35 harg36 x3 x4 x5 x6 x7 k.val
      ⊢ wp frame (wpE (defs₀ (F := F)) Variants.none c none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v25 v87 v130 v132 k acc)
        (fun _ => inv c harg3 harg6 harg7 harg9 harg10 harg11 harg12 harg13 harg14 harg15 harg16 harg17 harg18 harg19 harg20 harg21 harg22 harg23 harg24 harg25 harg26 harg27 harg28 harg29 harg30 harg31 harg32 harg33 harg34 harg35 harg36 x3 x4 x5 x6 x7 (k.val + 1)) := by
  unfold inv
  iintro ⟨H3, H6, H7, H9, H10, H11, H12, ⟨%d13, H13⟩, H14, ⟨%d15, H15⟩, H16, H17, H18, H19, ⟨%d20, H20⟩, H21, ⟨%d22, H22⟩, H23, H24, H25, H26, ⟨%d27, H27⟩, H28, ⟨%d29, H29⟩, H30, H31, H32, H33, ⟨%d34, H34⟩, H35, ⟨%d36, H36⟩⟩
  iapply (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v25 v87 v130 v132 k _ _ _ _ _ _ _ _ _ _ _ _ _ _ _ _ _ _ _ _ _ _ _ _ _ _ _ _ _ _ _ _)
  isplitl [H3]; · iexact H3
  isplitl [H6]; · iexact H6
  isplitl [H7]; · iexact H7
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  iintro ⟨H3, H6, H7, H9, H10, H11, H12, H13, H14, H15, H16, H17, H18, H19, H20, H21, H22, H23, H24, H25, H26, H27, H28, H29, H30, H31, H32, H33, H34, H35, H36⟩
  simp only [upto_two]
  isplitl [H3]; · iapply (owns_raw c harg3); iexact H3
  isplitl [H6]; · iapply (owns_raw c harg6); iexact H6
  isplitl [H7]; · iapply (owns_raw c harg7); iexact H7
  isplitl [H9]; · iapply (owns_raw c harg9); iexact H9
  isplitl [H10]; · iapply (owns_raw c harg10); iexact H10
  isplitl [H11]; · iapply (owns_raw c harg11); iexact H11
  isplitl [H12]; · iapply (owns_raw c harg12); iexact H12
  isplitl [H13]; · iexists _; iapply (owns_raw c harg13); iexact H13
  isplitl [H14]; · iapply (owns_raw c harg14); iexact H14
  isplitl [H15]; · iexists _; iapply (owns_raw c harg15); iexact H15
  isplitl [H16]; · iapply (owns_raw c harg16); iexact H16
  isplitl [H17]; · iapply (owns_raw c harg17); iexact H17
  isplitl [H18]; · iapply (owns_raw c harg18); iexact H18
  isplitl [H19]; · iapply (owns_raw c harg19); iexact H19
  isplitl [H20]; · iexists _; iapply (owns_raw c harg20); iexact H20
  isplitl [H21]; · iapply (owns_raw c harg21); iexact H21
  isplitl [H22]; · iexists _; iapply (owns_raw c harg22); iexact H22
  isplitl [H23]; · iapply (owns_raw c harg23); iexact H23
  isplitl [H24]; · iapply (owns_raw c harg24); iexact H24
  isplitl [H25]; · iapply (owns_raw c harg25); iexact H25
  isplitl [H26]; · iapply (owns_raw c harg26); iexact H26
  isplitl [H27]; · iexists _; iapply (owns_raw c harg27); iexact H27
  isplitl [H28]; · iapply (owns_raw c harg28); iexact H28
  isplitl [H29]; · iexists _; iapply (owns_raw c harg29); iexact H29
  isplitl [H30]; · iapply (owns_raw c harg30); iexact H30
  isplitl [H31]; · iapply (owns_raw c harg31); iexact H31
  isplitl [H32]; · iapply (owns_raw c harg32); iexact H32
  isplitl [H33]; · iapply (owns_raw c harg33); iexact H33
  isplitl [H34]; · iexists _; iapply (owns_raw c harg34); iexact H34
  isplitl [H35]; · iapply (owns_raw c harg35); iexact H35
  iexists _; iapply (owns_raw c harg36); iexact H36

set_option maxHeartbeats 2000000 in
/-- The whole loop: from the state before its first trip to the state after its last. -/
theorem loop (c : Dev nD) (i : grid0.Coords) (arg3 : Memref sig .tc .vmem S1024x128 .f32) (harg3 : arg3.IsWhole) (arg4 : Memref sig .tc .vmem S256x128 .bf16) (harg4 : arg4.IsWhole) (arg5 : Memref sig .tc .vmem S1x128x256 .bf16) (harg5 : arg5.IsWhole) (arg6 : Memref sig .tc .vmem S4096x128 .bf16) (harg6 : arg6.IsWhole) (arg7 : Memref sig .tc .vmem S8x128x512 .bf16) (harg7 : arg7.IsWhole) (arg8 : Memref sig .tc .vmem S1024x128 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S512x256 .f32) (harg12 : arg12.IsWhole) (arg13 : Memref sig .tc .vmem S512x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S128x256 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x256 .f32) (harg23 : arg23.IsWhole) (arg24 : Memref sig .tc .vmem S1x256 .f32) (harg24 : arg24.IsWhole) (arg25 : Memref sig .tc .vmem S128x256 .f32) (harg25 : arg25.IsWhole) (arg26 : Memref sig .tc .vmem S512x256 .f32) (harg26 : arg26.IsWhole) (arg27 : Memref sig .tc .vmem S512x256 .f32) (harg27 : arg27.IsWhole) (arg28 : Memref sig .tc .vmem S1x256 .f32) (harg28 : arg28.IsWhole) (arg29 : Memref sig .tc .vmem S1x256 .f32) (harg29 : arg29.IsWhole) (arg30 : Memref sig .tc .vmem S1x256 .f32) (harg30 : arg30.IsWhole) (arg31 : Memref sig .tc .vmem S1x256 .f32) (harg31 : arg31.IsWhole) (arg32 : Memref sig .tc .vmem S128x256 .f32) (harg32 : arg32.IsWhole) (arg33 : Memref sig .tc .vmem S512x256 .f32) (harg33 : arg33.IsWhole) (arg34 : Memref sig .tc .vmem S512x256 .f32) (harg34 : arg34.IsWhole) (arg35 : Memref sig .tc .vmem S1x256 .f32) (harg35 : arg35.IsWhole) (arg36 : Memref sig .tc .vmem S1x256 .f32) (harg36 : arg36.IsWhole)
    (v25 : FVec F S256x256 .f32) (v87 : FVec F S128x256 .bf16) (v130 : FVec F S1x256 .f32) (v132 : FVec F S128x256 .f32) (x3 : Vec F S1024x128 .f32) (x4 : Vec F S256x128 .bf16) (x5 : Vec F S1x128x256 .bf16) (x6 : Vec F S4096x128 .bf16) (x7 : Vec F S8x128x512 .bf16) {β : Type}
    (kont : Unit → Prog (TpuEff nD τ sig (Elt F) Λ₀ .tc) β) (K : β → sProp 𝕄) :
    iprop(owns (c : Thread nD τ) arg3 fullShare x3
        ∗ owns (c : Thread nD τ) arg6 fullShare x6
        ∗ owns (c : Thread nD τ) arg7 fullShare x7
        ∗ owns (c : Thread nD τ) arg9 fullShare (St.upto x4 x5 x6 x7 (qrows x3 0) (0)).m
        ∗ owns (c : Thread nD τ) arg10 fullShare (St.upto x4 x5 x6 x7 (qrows x3 0) (0)).l
        ∗ owns (c : Thread nD τ) arg11 fullShare (St.upto x4 x5 x6 x7 (qrows x3 0) (0)).a
        ∗ owns (c : Thread nD τ) arg12 fullShare (scores (kchunk x6 (0)) (qrows x3 0))
        ∗ (∃ d, owns (c : Thread nD τ) arg13 fullShare d)
        ∗ owns (c : Thread nD τ) arg14 fullShare (colmax (kchunk x6 (0)) (qrows x3 0))
        ∗ (∃ d, owns (c : Thread nD τ) arg15 fullShare d)
        ∗ owns (c : Thread nD τ) arg16 fullShare (St.upto x4 x5 x6 x7 (qrows x3 1) (0)).m
        ∗ owns (c : Thread nD τ) arg17 fullShare (St.upto x4 x5 x6 x7 (qrows x3 1) (0)).l
        ∗ owns (c : Thread nD τ) arg18 fullShare (St.upto x4 x5 x6 x7 (qrows x3 1) (0)).a
        ∗ owns (c : Thread nD τ) arg19 fullShare (scores (kchunk x6 (0)) (qrows x3 1))
        ∗ (∃ d, owns (c : Thread nD τ) arg20 fullShare d)
        ∗ owns (c : Thread nD τ) arg21 fullShare (colmax (kchunk x6 (0)) (qrows x3 1))
        ∗ (∃ d, owns (c : Thread nD τ) arg22 fullShare d)
        ∗ owns (c : Thread nD τ) arg23 fullShare (St.upto x4 x5 x6 x7 (qrows x3 2) (0)).m
        ∗ owns (c : Thread nD τ) arg24 fullShare (St.upto x4 x5 x6 x7 (qrows x3 2) (0)).l
        ∗ owns (c : Thread nD τ) arg25 fullShare (St.upto x4 x5 x6 x7 (qrows x3 2) (0)).a
        ∗ owns (c : Thread nD τ) arg26 fullShare (scores (kchunk x6 (0)) (qrows x3 2))
        ∗ (∃ d, owns (c : Thread nD τ) arg27 fullShare d)
        ∗ owns (c : Thread nD τ) arg28 fullShare (colmax (kchunk x6 (0)) (qrows x3 2))
        ∗ (∃ d, owns (c : Thread nD τ) arg29 fullShare d)
        ∗ owns (c : Thread nD τ) arg30 fullShare (St.upto x4 x5 x6 x7 (qrows x3 3) (0)).m
        ∗ owns (c : Thread nD τ) arg31 fullShare (St.upto x4 x5 x6 x7 (qrows x3 3) (0)).l
        ∗ owns (c : Thread nD τ) arg32 fullShare (St.upto x4 x5 x6 x7 (qrows x3 3) (0)).a
        ∗ owns (c : Thread nD τ) arg33 fullShare (scores (kchunk x6 (0)) (qrows x3 3))
        ∗ (∃ d, owns (c : Thread nD τ) arg34 fullShare d)
        ∗ owns (c : Thread nD τ) arg35 fullShare (colmax (kchunk x6 (0)) (qrows x3 3))
        ∗ (∃ d, owns (c : Thread nD τ) arg36 fullShare d)
        ∗ (inv c harg3 harg6 harg7 harg9 harg10 harg11 harg12 harg13 harg14 harg15 harg16 harg17 harg18 harg19 harg20 harg21 harg22 harg23 harg24 harg25 harg26 harg27 harg28 harg29 harg30 harg31 harg32 harg33 harg34 harg35 harg36 x3 x4 x5 x6 x7 3 -∗ wp frame (wpE (defs₀ (F := F)) Variants.none c none) Set.univ (kont ()) K))
      ⊢ wp frame (wpE (defs₀ (F := F)) Variants.none c none) Set.univ
          (Scf.Loop.for k0_t1_loop k0_t1_ok () (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v25 v87 v130 v132) >>= kont) K := by
  have hl := Scf.wp_for_bind frame (wpE (defs₀ (F := F)) Variants.none c none) Set.univ k0_t1_loop.lb k0_t1_loop.ub k0_t1_loop.st k0_t1_ok ()
    (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v25 v87 v130 v132) (fun n _ => inv c harg3 harg6 harg7 harg9 harg10 harg11 harg12 harg13 harg14 harg15 harg16 harg17 harg18 harg19 harg20 harg21 harg22 harg23 harg24 harg25 harg26 harg27 harg28 harg29 harg30 harg31 harg32 harg33 harg34 harg35 harg36 x3 x4 x5 x6 x7 n)
    (fun k acc => inv_step c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 v25 v87 v130 v132 x3 x4 x5 x6 x7 k acc) (kk := kont) (Q := K)
  have ht : Scf.trips k0_t1_loop.lb k0_t1_loop.ub k0_t1_loop.st = 3 := by decide +kernel
  rw [ht] at hl
  iintro ⟨H3, H6, H7, H9, H10, H11, H12, ⟨%d13, H13⟩, H14, ⟨%d15, H15⟩, H16, H17, H18, H19, ⟨%d20, H20⟩, H21, ⟨%d22, H22⟩, H23, H24, H25, H26, ⟨%d27, H27⟩, H28, ⟨%d29, H29⟩, H30, H31, H32, H33, ⟨%d34, H34⟩, H35, ⟨%d36, H36⟩, HK⟩
  iapply hl $$ [H3 H6 H7 H9 H10 H11 H12 H13 H14 H15 H16 H17 H18 H19 H20 H21 H22 H23 H24 H25 H26 H27 H28 H29 H30 H31 H32 H33 H34 H35 H36]
  · unfold inv
    isplitl [H3]; · iapply (owns_raw c harg3); iexact H3
    isplitl [H6]; · iapply (owns_raw c harg6); iexact H6
    isplitl [H7]; · iapply (owns_raw c harg7); iexact H7
    isplitl [H9]; · iapply (owns_raw c harg9); iexact H9
    isplitl [H10]; · iapply (owns_raw c harg10); iexact H10
    isplitl [H11]; · iapply (owns_raw c harg11); iexact H11
    isplitl [H12]; · iapply (owns_raw c harg12); iexact H12
    isplitl [H13]; · iexists _; iapply (owns_raw c harg13); iexact H13
    isplitl [H14]; · iapply (owns_raw c harg14); iexact H14
    isplitl [H15]; · iexists _; iapply (owns_raw c harg15); iexact H15
    isplitl [H16]; · iapply (owns_raw c harg16); iexact H16
    isplitl [H17]; · iapply (owns_raw c harg17); iexact H17
    isplitl [H18]; · iapply (owns_raw c harg18); iexact H18
    isplitl [H19]; · iapply (owns_raw c harg19); iexact H19
    isplitl [H20]; · iexists _; iapply (owns_raw c harg20); iexact H20
    isplitl [H21]; · iapply (owns_raw c harg21); iexact H21
    isplitl [H22]; · iexists _; iapply (owns_raw c harg22); iexact H22
    isplitl [H23]; · iapply (owns_raw c harg23); iexact H23
    isplitl [H24]; · iapply (owns_raw c harg24); iexact H24
    isplitl [H25]; · iapply (owns_raw c harg25); iexact H25
    isplitl [H26]; · iapply (owns_raw c harg26); iexact H26
    isplitl [H27]; · iexists _; iapply (owns_raw c harg27); iexact H27
    isplitl [H28]; · iapply (owns_raw c harg28); iexact H28
    isplitl [H29]; · iexists _; iapply (owns_raw c harg29); iexact H29
    isplitl [H30]; · iapply (owns_raw c harg30); iexact H30
    isplitl [H31]; · iapply (owns_raw c harg31); iexact H31
    isplitl [H32]; · iapply (owns_raw c harg32); iexact H32
    isplitl [H33]; · iapply (owns_raw c harg33); iexact H33
    isplitl [H34]; · iexists _; iapply (owns_raw c harg34); iexact H34
    isplitl [H35]; · iapply (owns_raw c harg35); iexact H35
    iexists _; iapply (owns_raw c harg36); iexact H36
  · iintro %acc HI
    iapply HK
    iexact HI

end Cert.KernelIdeal.Run
end
-- ==== Proof.Body.lean ====
/- THE KERNEL BODY at any grid point: on whole staging buffers holding the queries and the keys and values of the context
   and of the latent sequence, it leaves in the output buffer, chain by chain, what the chain hands out after the context and
   all eight chunks. -/
module

public import proofs.«01_k».proof.Proof.Loop

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]
local notation "𝕄" => MT nD τ sig Unit (Elt F) ℕ (UR sig nD τ) ℕ

/-- The output block: four groups of 256 rows, one a chain. -/
def outBlk (o0 o1 o2 o3 : Vec F S256x128 .bf16) : Vec F S1024x128 .bf16 :=
  View.canon (Val := Elt F) (s := S1024x128) (e := .bf16)
    [⟨Rect.unit (s := S1024x128) ![768, 0] S256x128.size inb_S1024x128_S256x128_768_0, o3⟩,
     ⟨Rect.unit (s := S1024x128) ![512, 0] S256x128.size inb_S1024x128_S256x128_512_0, o2⟩,
     ⟨Rect.unit (s := S1024x128) ![256, 0] S256x128.size inb_S1024x128_S256x128_256_0, o1⟩,
     ⟨Rect.unit (s := S1024x128) ![0, 0] S256x128.size inb_S1024x128_S256x128_0_0, o0⟩]

theorem outBlk_of {o0 o1 o2 o3 p0 p1 p2 p3 : Vec F S256x128 .bf16} (h0 : p0 = o0) (h1 : p1 = o1) (h2 : p2 = o2) (h3 : p3 = o3) :
    View.canon (Val := Elt F) (s := S1024x128) (e := .bf16)
      [⟨Rect.unit (s := S1024x128) ![768, 0] S256x128.size inb_S1024x128_S256x128_768_0, p3⟩,
       ⟨Rect.unit (s := S1024x128) ![512, 0] S256x128.size inb_S1024x128_S256x128_512_0, p2⟩,
       ⟨Rect.unit (s := S1024x128) ![256, 0] S256x128.size inb_S1024x128_S256x128_256_0, p1⟩,
       ⟨Rect.unit (s := S1024x128) ![0, 0] S256x128.size inb_S1024x128_S256x128_0_0, p0⟩] = outBlk o0 o1 o2 o3 := by
  subst h0 h1 h2 h3; rfl

theorem ld_kc (x : Vec F S256x128 .bf16) (inb : ∀ a, (![0, 0] : Fin 2 → ℕ) a + S256x128.size a ≤ S256x128.size a) :
    View.ld x (Rect.unit (s := S256x128) ![0, 0] (no_index S256x128.size) inb) = x := View.ld_unit_lit inb x (by decide)
theorem ld_k0 (x : Vec F S4096x128 .bf16) (inb : ∀ a, (![0, 0] : Fin 2 → ℕ) a + S512x128.size a ≤ S4096x128.size a) :
    View.ld x (Rect.unit (s := S4096x128) ![0, 0] (no_index S512x128.size) inb) = kchunk x 0 := ld_k x 0 (by decide) rfl inb
theorem ld_k7 (x : Vec F S4096x128 .bf16) (inb : ∀ a, (![3584, 0] : Fin 2 → ℕ) a + S512x128.size a ≤ S4096x128.size a) :
    View.ld x (Rect.unit (s := S4096x128) ![3584, 0] (no_index S512x128.size) inb) = kchunk x 7 := ld_k x 7 (by decide) rfl inb
theorem ld_v6 (x : Vec F S8x128x512 .bf16) (inb : ∀ a, (![6, 0, 0] : Fin 3 → ℕ) a + S1x128x512.size a ≤ S8x128x512.size a) :
    View.ld x (Rect.unit (s := S8x128x512) ![6, 0, 0] (no_index S1x128x512.size) inb) = vchunk x 6 := ld_v x 6 (by decide) rfl inb
theorem ld_v7 (x : Vec F S8x128x512 .bf16) (inb : ∀ a, (![7, 0, 0] : Fin 3 → ℕ) a + S1x128x512.size a ≤ S8x128x512.size a) :
    View.ld x (Rect.unit (s := S8x128x512) ![7, 0, 0] (no_index S1x128x512.size) inb) = vchunk x 7 := ld_v x 7 (by decide) rfl inb

theorem upto_m (kc : Vec F S256x128 .bf16) (vc : Vec F S1x128x256 .bf16) (k : Vec F S4096x128 .bf16) (v : Vec F S8x128x512 .bf16)
    (q : Vec F S256x128 .f32) : (St.upto kc vc k v q 0).m = k0_pay113 (k0_pay89 kc q) := by
  simp only [St.upto, St.first, ctxS]

theorem upto_eight (kc : Vec F S256x128 .bf16) (vc : Vec F S1x128x256 .bf16) (k : Vec F S4096x128 .bf16) (v : Vec F S8x128x512 .bf16)
    (q : Vec F S256x128 .f32) :
    St.upto kc vc k v q 8
      = ((St.upto kc vc k v q (2 * 3)).take (kchunk k 6) (vchunk v 6) q).take (kchunk k 7) (vchunk v 7) q := rfl

set_option maxHeartbeats 4000000 in
/-- The body's triple. -/
theorem body (c : Dev nD) (i : grid0.Coords) (arg3 : Memref sig .tc .vmem S1024x128 .f32) (harg3 : arg3.IsWhole) (arg4 : Memref sig .tc .vmem S256x128 .bf16) (harg4 : arg4.IsWhole) (arg5 : Memref sig .tc .vmem S1x128x256 .bf16) (harg5 : arg5.IsWhole) (arg6 : Memref sig .tc .vmem S4096x128 .bf16) (harg6 : arg6.IsWhole) (arg7 : Memref sig .tc .vmem S8x128x512 .bf16) (harg7 : arg7.IsWhole) (arg8 : Memref sig .tc .vmem S1024x128 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S512x256 .f32) (harg12 : arg12.IsWhole) (arg13 : Memref sig .tc .vmem S512x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S128x256 .f32) (harg18 : arg18.IsWhole) (arg19 : Memref sig .tc .vmem S512x256 .f32) (harg19 : arg19.IsWhole) (arg20 : Memref sig .tc .vmem S512x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S1x256 .f32) (harg23 : arg23.IsWhole) (arg24 : Memref sig .tc .vmem S1x256 .f32) (harg24 : arg24.IsWhole) (arg25 : Memref sig .tc .vmem S128x256 .f32) (harg25 : arg25.IsWhole) (arg26 : Memref sig .tc .vmem S512x256 .f32) (harg26 : arg26.IsWhole) (arg27 : Memref sig .tc .vmem S512x256 .f32) (harg27 : arg27.IsWhole) (arg28 : Memref sig .tc .vmem S1x256 .f32) (harg28 : arg28.IsWhole) (arg29 : Memref sig .tc .vmem S1x256 .f32) (harg29 : arg29.IsWhole) (arg30 : Memref sig .tc .vmem S1x256 .f32) (harg30 : arg30.IsWhole) (arg31 : Memref sig .tc .vmem S1x256 .f32) (harg31 : arg31.IsWhole) (arg32 : Memref sig .tc .vmem S128x256 .f32) (harg32 : arg32.IsWhole) (arg33 : Memref sig .tc .vmem S512x256 .f32) (harg33 : arg33.IsWhole) (arg34 : Memref sig .tc .vmem S512x256 .f32) (harg34 : arg34.IsWhole) (arg35 : Memref sig .tc .vmem S1x256 .f32) (harg35 : arg35.IsWhole) (arg36 : Memref sig .tc .vmem S1x256 .f32) (harg36 : arg36.IsWhole)
    (x3 : Vec F S1024x128 .f32) (x4 : Vec F S256x128 .bf16) (x5 : Vec F S1x128x256 .bf16) (x6 : Vec F S4096x128 .bf16) (x7 : Vec F S8x128x512 .bf16) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
      ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d)
      ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
          ∗ owns (c : Thread nD τ) arg8 fullShare (outBlk (St.upto x4 x5 x6 x7 (qrows x3 0) (8)).out (St.upto x4 x5 x6 x7 (qrows x3 1) (8)).out (St.upto x4 x5 x6 x7 (qrows x3 2) (8)).out (St.upto x4 x5 x6 x7 (qrows x3 3) (8)).out)
          ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d)) -∗ K ⟨⟩))
      ⊢ wp frame (wpE (defs₀ (F := F)) Variants.none c none) Set.univ (cc0_attn_a (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K := by
  simp only [cc0_attn_a_eq_skeleton]; unfold cc0_attn_a_skel
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  iintro ⟨H3, H4, H5, H6, H7, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, HK⟩
  ihave H3 := (owns_raw c harg3 x3) $$ H3
  ihave H4 := (owns_raw c harg4 x4) $$ H4
  ihave H5 := (owns_raw c harg5 x5) $$ H5
  ihave H6 := (owns_raw c harg6 x6) $$ H6
  ihave H7 := (owns_raw c harg7 x7) $$ H7
  ihave H8 := (owns_raw c harg8 d8) $$ H8
  ihave H9 := (owns_raw c harg9 d9) $$ H9
  ihave H10 := (owns_raw c harg10 d10) $$ H10
  ihave H11 := (owns_raw c harg11 d11) $$ H11
  ihave H12 := (owns_raw c harg12 d12) $$ H12
  ihave H13 := (owns_raw c harg13 d13) $$ H13
  ihave H14 := (owns_raw c harg14 d14) $$ H14
  ihave H15 := (owns_raw c harg15 d15) $$ H15
  ihave H16 := (owns_raw c harg16 d16) $$ H16
  ihave H17 := (owns_raw c harg17 d17) $$ H17
  ihave H18 := (owns_raw c harg18 d18) $$ H18
  ihave H19 := (owns_raw c harg19 d19) $$ H19
  ihave H20 := (owns_raw c harg20 d20) $$ H20
  ihave H21 := (owns_raw c harg21 d21) $$ H21
  ihave H22 := (owns_raw c harg22 d22) $$ H22
  ihave H23 := (owns_raw c harg23 d23) $$ H23
  ihave H24 := (owns_raw c harg24 d24) $$ H24
  ihave H25 := (owns_raw c harg25 d25) $$ H25
  ihave H26 := (owns_raw c harg26 d26) $$ H26
  ihave H27 := (owns_raw c harg27 d27) $$ H27
  ihave H28 := (owns_raw c harg28 d28) $$ H28
  ihave H29 := (owns_raw c harg29 d29) $$ H29
  ihave H30 := (owns_raw c harg30 d30) $$ H30
  ihave H31 := (owns_raw c harg31 d31) $$ H31
  ihave H32 := (owns_raw c harg32 d32) $$ H32
  ihave H33 := (owns_raw c harg33 d33) $$ H33
  ihave H34 := (owns_raw c harg34 d34) $$ H34
  ihave H35 := (owns_raw c harg35 d35) $$ H35
  ihave H36 := (owns_raw c harg36 d36) $$ H36
  sl_exec
  iapply (loop c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 _ _ _ _ x3 x4 x5 x6 x7 _ _)
  isplitl [H3]
  · unfold owns; iexists _; isplitr; · ipureintro; exact harg3.read_unread _
    iexact H3
  isplitl [H6]
  · unfold owns; iexists _; isplitr; · ipureintro; exact harg6.read_unread _
    iexact H6
  isplitl [H7]
  · unfold owns; iexists _; isplitr; · ipureintro; exact harg7.read_unread _
    iexact H7
  isplitl [H9]
  · unfold owns; iexists _; isplitr; swap; · iexact H9
    ipureintro
    frame_open; rw [read_writes_whole _ _ (by decide)]
    simp (disch := decide) only [View.readAt_eq_ld, Memref.IsWhole.read_unread, ld_kc, ld_k0, ld_k7, ld_v6, ld_v7, ld_q0, ld_q1, ld_q2, ld_q3,
      View.ld_unit_lit', View.readCov_unit_lit', View.readCov_cons_unit_lit']; rw [upto_m]
  isplitl [H10]
  · unfold owns; iexists _; isplitr; swap; · iexact H10
    ipureintro
    frame_open; rw [read_writes_whole _ _ (by decide)]
    simp (disch := decide) only [View.readAt_eq_ld, Memref.IsWhole.read_unread, ld_kc, ld_k0, ld_k7, ld_v6, ld_v7, ld_q0, ld_q1, ld_q2, ld_q3,
      View.ld_unit_lit', View.readCov_unit_lit', View.readCov_cons_unit_lit']; rfl
  isplitl [H11]
  · unfold owns; iexists _; isplitr; swap; · iexact H11
    ipureintro
    frame_open; rw [read_writes_whole _ _ (by decide)]
    simp (disch := decide) only [View.readAt_eq_ld, Memref.IsWhole.read_unread, ld_kc, ld_k0, ld_k7, ld_v6, ld_v7, ld_q0, ld_q1, ld_q2, ld_q3,
      View.ld_unit_lit', View.readCov_unit_lit', View.readCov_cons_unit_lit']; rfl
  isplitl [H12]
  · unfold owns; iexists _; isplitr; swap; · iexact H12
    ipureintro
    frame_open; rw [read_writes_whole _ _ (by decide)]
    simp (disch := decide) only [View.readAt_eq_ld, Memref.IsWhole.read_unread, ld_kc, ld_k0, ld_k7, ld_v6, ld_v7, ld_q0, ld_q1, ld_q2, ld_q3,
      View.ld_unit_lit', View.readCov_unit_lit', View.readCov_cons_unit_lit']; rfl
  isplitl [H13]
  · unfold owns; iexists _, _; isplitr; swap; · iexact H13
    ipureintro; rfl
  isplitl [H14]
  · unfold owns; iexists _; isplitr; swap; · iexact H14
    ipureintro
    frame_open; rw [read_writes_whole _ _ (by decide)]
    simp (disch := decide) only [View.readAt_eq_ld, Memref.IsWhole.read_unread, ld_kc, ld_k0, ld_k7, ld_v6, ld_v7, ld_q0, ld_q1, ld_q2, ld_q3,
      View.ld_unit_lit', View.readCov_unit_lit', View.readCov_cons_unit_lit']; rfl
  isplitl [H15]
  · unfold owns; iexists _, _; isplitr; swap; · iexact H15
    ipureintro; rfl
  isplitl [H16]
  · unfold owns; iexists _; isplitr; swap; · iexact H16
    ipureintro
    frame_open; rw [read_writes_whole _ _ (by decide)]
    simp (disch := decide) only [View.readAt_eq_ld, Memref.IsWhole.read_unread, ld_kc, ld_k0, ld_k7, ld_v6, ld_v7, ld_q0, ld_q1, ld_q2, ld_q3,
      View.ld_unit_lit', View.readCov_unit_lit', View.readCov_cons_unit_lit']; rw [upto_m]; rfl
  isplitl [H17]
  · unfold owns; iexists _; isplitr; swap; · iexact H17
    ipureintro
    frame_open; rw [read_writes_whole _ _ (by decide)]
    simp (disch := decide) only [View.readAt_eq_ld, Memref.IsWhole.read_unread, ld_kc, ld_k0, ld_k7, ld_v6, ld_v7, ld_q0, ld_q1, ld_q2, ld_q3,
      View.ld_unit_lit', View.readCov_unit_lit', View.readCov_cons_unit_lit']; rfl
  isplitl [H18]
  · unfold owns; iexists _; isplitr; swap; · iexact H18
    ipureintro
    frame_open; rw [read_writes_whole _ _ (by decide)]
    simp (disch := decide) only [View.readAt_eq_ld, Memref.IsWhole.read_unread, ld_kc, ld_k0, ld_k7, ld_v6, ld_v7, ld_q0, ld_q1, ld_q2, ld_q3,
      View.ld_unit_lit', View.readCov_unit_lit', View.readCov_cons_unit_lit']; rfl
  isplitl [H19]
  · unfold owns; iexists _; isplitr; swap; · iexact H19
    ipureintro
    frame_open; rw [read_writes_whole _ _ (by decide)]
    simp (disch := decide) only [View.readAt_eq_ld, Memref.IsWhole.read_unread, ld_kc, ld_k0, ld_k7, ld_v6, ld_v7, ld_q0, ld_q1, ld_q2, ld_q3,
      View.ld_unit_lit', View.readCov_unit_lit', View.readCov_cons_unit_lit']; rfl
  isplitl [H20]
  · unfold owns; iexists _, _; isplitr; swap; · iexact H20
    ipureintro; rfl
  isplitl [H21]
  · unfold owns; iexists _; isplitr; swap; · iexact H21
    ipureintro
    frame_open; rw [read_writes_whole _ _ (by decide)]
    simp (disch := decide) only [View.readAt_eq_ld, Memref.IsWhole.read_unread, ld_kc, ld_k0, ld_k7, ld_v6, ld_v7, ld_q0, ld_q1, ld_q2, ld_q3,
      View.ld_unit_lit', View.readCov_unit_lit', View.readCov_cons_unit_lit']; rfl
  isplitl [H22]
  · unfold owns; iexists _, _; isplitr; swap; · iexact H22
    ipureintro; rfl
  isplitl [H23]
  · unfold owns; iexists _; isplitr; swap; · iexact H23
    ipureintro
    frame_open; rw [read_writes_whole _ _ (by decide)]
    simp (disch := decide) only [View.readAt_eq_ld, Memref.IsWhole.read_unread, ld_kc, ld_k0, ld_k7, ld_v6, ld_v7, ld_q0, ld_q1, ld_q2, ld_q3,
      View.ld_unit_lit', View.readCov_unit_lit', View.readCov_cons_unit_lit']; rw [upto_m]; rfl
  isplitl [H24]
  · unfold owns; iexists _; isplitr; swap; · iexact H24
    ipureintro
    frame_open; rw [read_writes_whole _ _ (by decide)]
    simp (disch := decide) only [View.readAt_eq_ld, Memref.IsWhole.read_unread, ld_kc, ld_k0, ld_k7, ld_v6, ld_v7, ld_q0, ld_q1, ld_q2, ld_q3,
      View.ld_unit_lit', View.readCov_unit_lit', View.readCov_cons_unit_lit']; rfl
  isplitl [H25]
  · unfold owns; iexists _; isplitr; swap; · iexact H25
    ipureintro
    frame_open; rw [read_writes_whole _ _ (by decide)]
    simp (disch := decide) only [View.readAt_eq_ld, Memref.IsWhole.read_unread, ld_kc, ld_k0, ld_k7, ld_v6, ld_v7, ld_q0, ld_q1, ld_q2, ld_q3,
      View.ld_unit_lit', View.readCov_unit_lit', View.readCov_cons_unit_lit']; rfl
  isplitl [H26]
  · unfold owns; iexists _; isplitr; swap; · iexact H26
    ipureintro
    frame_open; rw [read_writes_whole _ _ (by decide)]
    simp (disch := decide) only [View.readAt_eq_ld, Memref.IsWhole.read_unread, ld_kc, ld_k0, ld_k7, ld_v6, ld_v7, ld_q0, ld_q1, ld_q2, ld_q3,
      View.ld_unit_lit', View.readCov_unit_lit', View.readCov_cons_unit_lit']; rfl
  isplitl [H27]
  · unfold owns; iexists _, _; isplitr; swap; · iexact H27
    ipureintro; rfl
  isplitl [H28]
  · unfold owns; iexists _; isplitr; swap; · iexact H28
    ipureintro
    frame_open; rw [read_writes_whole _ _ (by decide)]
    simp (disch := decide) only [View.readAt_eq_ld, Memref.IsWhole.read_unread, ld_kc, ld_k0, ld_k7, ld_v6, ld_v7, ld_q0, ld_q1, ld_q2, ld_q3,
      View.ld_unit_lit', View.readCov_unit_lit', View.readCov_cons_unit_lit']; rfl
  isplitl [H29]
  · unfold owns; iexists _, _; isplitr; swap; · iexact H29
    ipureintro; rfl
  isplitl [H30]
  · unfold owns; iexists _; isplitr; swap; · iexact H30
    ipureintro
    frame_open; rw [read_writes_whole _ _ (by decide)]
    simp (disch := decide) only [View.readAt_eq_ld, Memref.IsWhole.read_unread, ld_kc, ld_k0, ld_k7, ld_v6, ld_v7, ld_q0, ld_q1, ld_q2, ld_q3,
      View.ld_unit_lit', View.readCov_unit_lit', View.readCov_cons_unit_lit']; rw [upto_m]; rfl
  isplitl [H31]
  · unfold owns; iexists _; isplitr; swap; · iexact H31
    ipureintro
    frame_open; rw [read_writes_whole _ _ (by decide)]
    simp (disch := decide) only [View.readAt_eq_ld, Memref.IsWhole.read_unread, ld_kc, ld_k0, ld_k7, ld_v6, ld_v7, ld_q0, ld_q1, ld_q2, ld_q3,
      View.ld_unit_lit', View.readCov_unit_lit', View.readCov_cons_unit_lit']; rfl
  isplitl [H32]
  · unfold owns; iexists _; isplitr; swap; · iexact H32
    ipureintro
    frame_open; rw [read_writes_whole _ _ (by decide)]
    simp (disch := decide) only [View.readAt_eq_ld, Memref.IsWhole.read_unread, ld_kc, ld_k0, ld_k7, ld_v6, ld_v7, ld_q0, ld_q1, ld_q2, ld_q3,
      View.ld_unit_lit', View.readCov_unit_lit', View.readCov_cons_unit_lit']; rfl
  isplitl [H33]
  · unfold owns; iexists _; isplitr; swap; · iexact H33
    ipureintro
    frame_open; rw [read_writes_whole _ _ (by decide)]
    simp (disch := decide) only [View.readAt_eq_ld, Memref.IsWhole.read_unread, ld_kc, ld_k0, ld_k7, ld_v6, ld_v7, ld_q0, ld_q1, ld_q2, ld_q3,
      View.ld_unit_lit', View.readCov_unit_lit', View.readCov_cons_unit_lit']; rfl
  isplitl [H34]
  · unfold owns; iexists _, _; isplitr; swap; · iexact H34
    ipureintro; rfl
  isplitl [H35]
  · unfold owns; iexists _; isplitr; swap; · iexact H35
    ipureintro
    frame_open; rw [read_writes_whole _ _ (by decide)]
    simp (disch := decide) only [View.readAt_eq_ld, Memref.IsWhole.read_unread, ld_kc, ld_k0, ld_k7, ld_v6, ld_v7, ld_q0, ld_q1, ld_q2, ld_q3,
      View.ld_unit_lit', View.readCov_unit_lit', View.readCov_cons_unit_lit']; rfl
  isplitl [H36]
  · unfold owns; iexists _, _; isplitr; swap; · iexact H36
    ipureintro; rfl
  unfold inv
  iintro ⟨H3, H6, H7, H9, H10, H11, H12, ⟨%e13, H13⟩, H14, ⟨%e15, H15⟩, H16, H17, H18, H19, ⟨%e20, H20⟩, H21, ⟨%e22, H22⟩, H23, H24, H25, H26, ⟨%e27, H27⟩, H28, ⟨%e29, H29⟩, H30, H31, H32, H33, ⟨%e34, H34⟩, H35, ⟨%e36, H36⟩⟩
  sl_exec
  sl_step
  iapply HK
  simp only [upto_eight]
  unfold owns
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    frame_open
    rw [View.read_writes_eq_canon _ _ _ (View.cover_of_tiled_head _ _ _ rfl)]
    simp (disch := decide) only [View.readAt_eq_ld, Memref.IsWhole.read_unread, ld_kc, ld_k0, ld_k7, ld_v6, ld_v7, ld_q0, ld_q1, ld_q2, ld_q3,
      View.ld_unit_lit', View.readCov_unit_lit', View.readCov_cons_unit_lit']
    refine outBlk_of ?_ ?_ ?_ ?_ <;> rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  isplitl [H31]
  · iexists _, _; isplitr; swap; · iexact H31
    ipureintro; rfl
  isplitl [H32]
  · iexists _, _; isplitr; swap; · iexact H32
    ipureintro; rfl
  isplitl [H33]
  · iexists _, _; isplitr; swap; · iexact H33
    ipureintro; rfl
  isplitl [H34]
  · iexists _, _; isplitr; swap; · iexact H34
    ipureintro; rfl
  isplitl [H35]
  · iexists _, _; isplitr; swap; · iexact H35
    ipureintro; rfl
  iexists _, _; isplitr; swap; · iexact H36
  ipureintro; rfl

end Cert.KernelIdeal.Run
end
-- ==== Proof.Run.lean ====
/- THE LAUNCH: the proof data of the call — every input buffer keeps its block, the output buffer is left at what the four
   chains hand out —, the body's obligation at every grid point, the run of the program and its frame. -/
module

public import proofs.«01_k».proof.Proof.Body

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

/-- The body's staged inputs at grid point `t`: a block of queries, the context's keys and values, and the latent
    sequence's keys and values, of the point's batch entry and head. -/
def qB (c : Dev nD) (t : Fin cfg0.N) : Vec F S1024x128 .f32 := iblk m c 0 t
def kcB (c : Dev nD) (t : Fin cfg0.N) : Vec F S256x128 .bf16 := iblk m c 1 t
def vcB (c : Dev nD) (t : Fin cfg0.N) : Vec F S1x128x256 .bf16 := iblk m c 2 t
def kB (c : Dev nD) (t : Fin cfg0.N) : Vec F S4096x128 .bf16 := X0_3 m c t
def vB (c : Dev nD) (t : Fin cfg0.N) : Vec F S8x128x512 .bf16 := iblk m c 4 t

/-- What chain `j` hands out at grid point `t`. -/
def chainOut (c : Dev nD) (t : Fin cfg0.N) (j : ℕ) : Vec F S256x128 .bf16 :=
  (St.upto (kcB m c t) (vcB m c t) (kB m c t) (vB m c t) (qrows (qB m c t) j) 8).out

/-- The output block at grid point `t`. -/
def oB (c : Dev nD) (t : Fin cfg0.N) : Vec F S1024x128 .bf16 := outBlk (chainOut m c t 0) (chainOut m c t 1) (chainOut m c t 2) (chainOut m c t 3)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => oB m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = oB m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The launch's invariant with the scratch buffers as whole memrefs held at some contents. -/
theorem PhiA0_eq (c : Dev nD) :
    (Pipeline.ΦA spec0 c : sProp 𝕄)
      = iprop(iprop((∃ d, owns (c : Thread nD τ) (Memref.whole cc0_scratch0 : Memref sig .tc .vmem S1x256 .f32) fullShare d) ∗ (∃ d, owns (c : Thread nD τ) (Memref.whole cc0_scratch1 : Memref sig .tc .vmem S1x256 .f32) fullShare d) ∗ (∃ d, owns (c : Thread nD τ) (Memref.whole cc0_scratch2 : Memref sig .tc .vmem S128x256 .f32) fullShare d) ∗ (∃ d, owns (c : Thread nD τ) (Memref.whole cc0_scratch3 : Memref sig .tc .vmem S512x256 .f32) fullShare d) ∗ (∃ d, owns (c : Thread nD τ) (Memref.whole cc0_scratch4 : Memref sig .tc .vmem S512x256 .f32) fullShare d) ∗ (∃ d, owns (c : Thread nD τ) (Memref.whole cc0_scratch5 : Memref sig .tc .vmem S1x256 .f32) fullShare d) ∗ (∃ d, owns (c : Thread nD τ) (Memref.whole cc0_scratch6 : Memref sig .tc .vmem S1x256 .f32) fullShare d) ∗ (∃ d, owns (c : Thread nD τ) (Memref.whole cc0_scratch7 : Memref sig .tc .vmem S1x256 .f32) fullShare d) ∗ (∃ d, owns (c : Thread nD τ) (Memref.whole cc0_scratch8 : Memref sig .tc .vmem S1x256 .f32) fullShare d) ∗ (∃ d, owns (c : Thread nD τ) (Memref.whole cc0_scratch9 : Memref sig .tc .vmem S128x256 .f32) fullShare d) ∗ (∃ d, owns (c : Thread nD τ) (Memref.whole cc0_scratch10 : Memref sig .tc .vmem S512x256 .f32) fullShare d) ∗ (∃ d, owns (c : Thread nD τ) (Memref.whole cc0_scratch11 : Memref sig .tc .vmem S512x256 .f32) fullShare d) ∗ (∃ d, owns (c : Thread nD τ) (Memref.whole cc0_scratch12 : Memref sig .tc .vmem S1x256 .f32) fullShare d) ∗ (∃ d, owns (c : Thread nD τ) (Memref.whole cc0_scratch13 : Memref sig .tc .vmem S1x256 .f32) fullShare d) ∗ (∃ d, owns (c : Thread nD τ) (Memref.whole cc0_scratch14 : Memref sig .tc .vmem S1x256 .f32) fullShare d) ∗ (∃ d, owns (c : Thread nD τ) (Memref.whole cc0_scratch15 : Memref sig .tc .vmem S1x256 .f32) fullShare d) ∗ (∃ d, owns (c : Thread nD τ) (Memref.whole cc0_scratch16 : Memref sig .tc .vmem S128x256 .f32) fullShare d) ∗ (∃ d, owns (c : Thread nD τ) (Memref.whole cc0_scratch17 : Memref sig .tc .vmem S512x256 .f32) fullShare d) ∗ (∃ d, owns (c : Thread nD τ) (Memref.whole cc0_scratch18 : Memref sig .tc .vmem S512x256 .f32) fullShare d) ∗ (∃ d, owns (c : Thread nD τ) (Memref.whole cc0_scratch19 : Memref sig .tc .vmem S1x256 .f32) fullShare d) ∗ (∃ d, owns (c : Thread nD τ) (Memref.whole cc0_scratch20 : Memref sig .tc .vmem S1x256 .f32) fullShare d) ∗ (∃ d, owns (c : Thread nD τ) (Memref.whole cc0_scratch21 : Memref sig .tc .vmem S1x256 .f32) fullShare d) ∗ (∃ d, owns (c : Thread nD τ) (Memref.whole cc0_scratch22 : Memref sig .tc .vmem S1x256 .f32) fullShare d) ∗ (∃ d, owns (c : Thread nD τ) (Memref.whole cc0_scratch23 : Memref sig .tc .vmem S128x256 .f32) fullShare d) ∗ (∃ d, owns (c : Thread nD τ) (Memref.whole cc0_scratch24 : Memref sig .tc .vmem S512x256 .f32) fullShare d) ∗ (∃ d, owns (c : Thread nD τ) (Memref.whole cc0_scratch25 : Memref sig .tc .vmem S512x256 .f32) fullShare d) ∗ (∃ d, owns (c : Thread nD τ) (Memref.whole cc0_scratch26 : Memref sig .tc .vmem S1x256 .f32) fullShare d) ∗ (∃ d, owns (c : Thread nD τ) (Memref.whole cc0_scratch27 : Memref sig .tc .vmem S1x256 .f32) fullShare d)) ∗ (∃ s, prngReg c s)) := by
  unfold Pipeline.ΦA; rw [scopedRest0_eq]; simp only [owns_whole]; try rfl

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t : Memref sig .tc .vmem S1024x128 .f32) fullShare ((dats m 0 c).before 0 t d))
    ∗ (∃ d, owns (c : Thread nD τ) (st0_1 t : Memref sig .tc .vmem S256x128 .bf16) fullShare ((dats m 0 c).before 1 t d))
    ∗ (∃ d, owns (c : Thread nD τ) (st0_2 t : Memref sig .tc .vmem S1x128x256 .bf16) fullShare ((dats m 0 c).before 2 t d))
    ∗ (∃ d, owns (c : Thread nD τ) (st0_3 t : Memref sig .tc .vmem S4096x128 .bf16) fullShare ((dats m 0 c).before 3 t d))
    ∗ (∃ d, owns (c : Thread nD τ) (st0_4 t : Memref sig .tc .vmem S8x128x512 .bf16) fullShare ((dats m 0 c).before 4 t d))
    ∗ (∃ d, owns (c : Thread nD τ) (st0_5 t : Memref sig .tc .vmem S1024x128 .bf16) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t : Memref sig .tc .vmem S1024x128 .f32) fullShare ((dats m 0 c).after 0 t)
    ∗ owns (c : Thread nD τ) (st0_1 t : Memref sig .tc .vmem S256x128 .bf16) fullShare ((dats m 0 c).after 1 t)
    ∗ owns (c : Thread nD τ) (st0_2 t : Memref sig .tc .vmem S1x128x256 .bf16) fullShare ((dats m 0 c).after 2 t)
    ∗ owns (c : Thread nD τ) (st0_3 t : Memref sig .tc .vmem S4096x128 .bf16) fullShare ((dats m 0 c).after 3 t)
    ∗ owns (c : Thread nD τ) (st0_4 t : Memref sig .tc .vmem S8x128x512 .bf16) fullShare ((dats m 0 c).after 4 t)
    ∗ owns (c : Thread nD τ) (st0_5 t : Memref sig .tc .vmem S1024x128 .bf16) fullShare ((dats m 0 c).after 5 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3, HS4, HS5, HS6, HS7, HS8, HS9, HS10, HS11, HS12, HS13, HS14, HS15, HS16, HS17, HS18, HS19, HS20, HS21, HS22, HS23, HS24, HS25, HS26, HS27⟩, Hg⟩, Ho, ⟨%d0, H0⟩, ⟨%d1, H1⟩, ⟨%d2, H2⟩, ⟨%d3, H3⟩, ⟨%d4, H4⟩, ⟨%d5, H5⟩⟩
  iapply (body c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (qB m c t) (kcB m c t) (vcB m c t) (kB m c t) (vB m c t) _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HS18]; · iexact HS18
  isplitl [HS19]; · iexact HS19
  isplitl [HS20]; · iexact HS20
  isplitl [HS21]; · iexact HS21
  isplitl [HS22]; · iexact HS22
  isplitl [HS23]; · iexact HS23
  isplitl [HS24]; · iexact HS24
  isplitl [HS25]; · iexact HS25
  isplitl [HS26]; · iexact HS26
  isplitl [HS27]; · iexact HS27
  iintro ⟨H0, H1, H2, H3, H4, H5, HS0, HS1, HS2, HS3, HS4, HS5, HS6, HS7, HS8, HS9, HS10, HS11, HS12, HS13, HS14, HS15, HS16, HS17, HS18, HS19, HS20, HS21, HS22, HS23, HS24, HS25, HS26, HS27⟩
  isplitl [HS0 HS1 HS2 HS3 HS4 HS5 HS6 HS7 HS8 HS9 HS10 HS11 HS12 HS13 HS14 HS15 HS16 HS17 HS18 HS19 HS20 HS21 HS22 HS23 HS24 HS25 HS26 HS27 Hg]
  · isplitl [HS0 HS1 HS2 HS3 HS4 HS5 HS6 HS7 HS8 HS9 HS10 HS11 HS12 HS13 HS14 HS15 HS16 HS17 HS18 HS19 HS20 HS21 HS22 HS23 HS24 HS25 HS26 HS27]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      isplitl [HS23]; · iexact HS23
      isplitl [HS24]; · iexact HS24
      isplitl [HS25]; · iexact HS25
      isplitl [HS26]; · iexact HS26
      iexact HS27
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

/-- The obligation of the body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: two windows share the array of keys, so each input holds its array at its share of it. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Run
end
-- ==== Proof.Softmax.lean ====
/- THE MATHEMATICS: a softmax-weighted sum taken block after block, with a running maximum, is the softmax-weighted sum.
   Scores and values are indexed by natural numbers; `top`, `den` and `acc` are the maximum, the denominator and the
   weighted sum over the first `n` keys, the latter two relative to the maximum of those `n` keys. -/
module

public import Idealize.ShloMosaic.PureOps.Ideal.Laws

@[expose] public section

noncomputable section

namespace Cert.Softmax

open Idealize.ShloMosaic

/-- The largest of the first `n` scores. -/
def top (s : ℕ → EReal) (n : ℕ) : EReal := (Finset.range n).sup s

/-- The sum of the first `n` weights, relative to the largest of the first `n` scores. -/
def den (s : ℕ → EReal) (n : ℕ) : EReal := ∑ t ∈ Finset.range n, Ideal.exp2 (s t - top s n)

/-- The weighted sum of the first `n` values. -/
def acc (s v : ℕ → EReal) (n : ℕ) : EReal := ∑ t ∈ Finset.range n, v t * Ideal.exp2 (s t - top s n)

theorem exp2_nonneg (x : EReal) : 0 ≤ Ideal.exp2 x := by
  induction x with
  | bot => simp
  | top => simp
  | coe r => rw [Ideal.exp2_coe]; exact_mod_cast Real.rpow_nonneg (by norm_num) r

theorem exp2_ne_top {x : EReal} (h : x ≠ ⊤) : Ideal.exp2 x ≠ ⊤ := by
  induction x with
  | bot => simp
  | top => exact absurd rfl h
  | coe r => rw [Ideal.exp2_coe]; exact EReal.coe_ne_top _

theorem sub_ne_top {a b : EReal} (h : a ≤ b) : a - b ≠ ⊤ := by
  induction a with
  | bot => simp [sub_eq_add_neg]
  | top => rw [top_le_iff.mp h]; simp [sub_eq_add_neg]
  | coe r =>
    induction b with
    | bot => exact absurd h (by simp)
    | top => simp [sub_eq_add_neg]
    | coe r' => rw [← EReal.coe_sub]; exact EReal.coe_ne_top _

/-- A weight relative to one maximum, rescaled to a larger one. -/
theorem exp2_rescale {s a b : EReal} (h : s ≤ a) (h' : a ≤ b) :
    Ideal.exp2 (a - b) * Ideal.exp2 (s - a) = Ideal.exp2 (s - b) := by
  induction s with
  | bot => simp [sub_eq_add_neg]
  | top => rw [top_le_iff.mp h] at h' ⊢; rw [top_le_iff.mp h']; simp [sub_eq_add_neg]
  | coe s =>
    induction a with
    | bot => exact absurd h (by simp)
    | top => rw [top_le_iff.mp h']; simp [sub_eq_add_neg]
    | coe a =>
      induction b with
      | bot => exact absurd h' (by simp)
      | top => simp [sub_eq_add_neg]
      | coe b =>
        rw [← EReal.coe_sub, ← EReal.coe_sub, ← EReal.coe_sub, Ideal.exp2_coe, Ideal.exp2_coe, Ideal.exp2_coe, ← EReal.coe_mul]
        congr 1
        exact (Real.rpow_add (by norm_num) _ _).symm.trans (by rw [sub_add_sub_comm, add_comm a s, add_sub_add_right_eq_sub]; rfl)

/-- A nonnegative factor that is not infinite goes into a sum. -/
theorem mul_sum {ι : Type*} {a : EReal} (h0 : 0 ≤ a) (ht : a ≠ ⊤) (S : Finset ι) (f : ι → EReal) :
    a * ∑ i ∈ S, f i = ∑ i ∈ S, a * f i := by
  classical
  induction S using Finset.induction_on with
  | empty => simp
  | insert i S hi ih => rw [Finset.sum_insert hi, Finset.sum_insert hi, EReal.left_distrib_of_nonneg_of_ne_top h0 ht, ih]

theorem top_fin (s : ℕ → EReal) (n : ℕ) : top s n = Finset.univ.sup fun i : Fin n => s i.val := by
  unfold top
  refine le_antisymm (Finset.sup_le fun t ht => ?_) (Finset.sup_le fun i _ => Finset.le_sup (f := s) (Finset.mem_range.mpr i.isLt))
  exact Finset.le_sup (f := fun i : Fin n => s i.val) (Finset.mem_univ (⟨t, Finset.mem_range.mp ht⟩ : Fin n))

theorem le_top (s : ℕ → EReal) {n t : ℕ} (h : t < n) : s t ≤ top s n := Finset.le_sup (f := s) (Finset.mem_range.mpr h)

theorem top_add (s : ℕ → EReal) (n k : ℕ) : top s (n + k) = max (top s n) (top (fun j => s (n + j)) k) := by
  unfold top
  refine le_antisymm (Finset.sup_le fun t ht => ?_) (max_le (Finset.sup_le fun t ht => ?_) (Finset.sup_le fun t ht => ?_))
  · rcases lt_or_ge t n with h | h
    · exact le_max_of_le_left (Finset.le_sup (f := s) (Finset.mem_range.mpr h))
    · obtain ⟨j, rfl⟩ := Nat.exists_eq_add_of_le h
      refine le_max_of_le_right (Finset.le_sup (f := fun j => s (n + j)) (Finset.mem_range.mpr ?_))
      have := Finset.mem_range.mp ht; omega
  · exact Finset.le_sup (f := s) (Finset.mem_range.mpr (by have := Finset.mem_range.mp ht; omega))
  · exact Finset.le_sup (f := s) (Finset.mem_range.mpr (by have := Finset.mem_range.mp ht; omega))

theorem top_mono (s : ℕ → EReal) (n k : ℕ) : top s n ≤ top s (n + k) := by rw [top_add]; exact le_max_left _ _

/-- The denominator after `k` more keys. -/
theorem den_add (s : ℕ → EReal) (n k : ℕ) : den s (n + k)
    = Ideal.exp2 (top s n - top s (n + k)) * den s n + ∑ j ∈ Finset.range k, Ideal.exp2 (s (n + j) - top s (n + k)) := by
  unfold den
  rw [Finset.sum_range_add, mul_sum (exp2_nonneg _) (exp2_ne_top (sub_ne_top (top_mono s n k)))]
  congr 1
  exact Finset.sum_congr rfl fun t ht => (exp2_rescale (le_top s (Finset.mem_range.mp ht)) (top_mono s n k)).symm

/-- The weighted sum after `k` more keys. -/
theorem acc_add (s v : ℕ → EReal) (n k : ℕ) : acc s v (n + k)
    = Ideal.exp2 (top s n - top s (n + k)) * acc s v n + ∑ j ∈ Finset.range k, v (n + j) * Ideal.exp2 (s (n + j) - top s (n + k)) := by
  unfold acc
  rw [Finset.sum_range_add, mul_sum (exp2_nonneg _) (exp2_ne_top (sub_ne_top (top_mono s n k)))]
  congr 1
  refine Finset.sum_congr rfl fun t ht => ?_
  rw [← exp2_rescale (le_top s (Finset.mem_range.mp ht)) (top_mono s n k)]
  ac_rfl

theorem sum_coe {ι : Type*} (S : Finset ι) (f : ι → ℝ) : ∑ i ∈ S, (f i : EReal) = ((∑ i ∈ S, f i : ℝ) : EReal) := by
  classical
  induction S using Finset.induction_on with
  | empty => simp
  | insert i S hi ih => rw [Finset.sum_insert hi, Finset.sum_insert hi, ih, EReal.coe_add]

/-- Powers of two of scores over `log 2` are exponentials of the scores. -/
theorem exp2_div_log (x : ℝ) : Ideal.exp2 ((x * (Real.log 2)⁻¹ : ℝ) : EReal) = Ideal.exp (x : EReal) := by
  have h : Real.log 2 ≠ 0 := (Real.log_pos (by norm_num)).ne'
  rw [Ideal.exp2_coe, Ideal.exp_coe]
  congr 1
  show (2 : ℝ) ^ (x * (Real.log 2)⁻¹) = _
  rw [Real.rpow_def_of_pos (by norm_num), mul_comm x, mul_inv_cancel_left₀ h]

/-- The quotient the blocks end with is the softmax of finite scores, weighting the values: the scores met block by block
    are the softmax's over `log 2`, and their weights powers of two. -/
theorem quotient_eq (s v : ℕ → EReal) (x : ℕ → ℝ) (n : ℕ) (hn : 0 < n) (hs : ∀ t < n, s t = ((x t * (Real.log 2)⁻¹ : ℝ) : EReal)) :
    Ideal.div (acc s v n) (den s n)
      = ∑ t ∈ Finset.range n, v t * Ideal.div (Ideal.exp ((x t : EReal) - top (fun t => (x t : EReal)) n))
          (∑ u ∈ Finset.range n, Ideal.exp ((x u : EReal) - top (fun t => (x t : EReal)) n)) := by
  have hc : (0 : ℝ) < (Real.log 2)⁻¹ := inv_pos.mpr (Real.log_pos (by norm_num))
  obtain ⟨t₀, h₀, hX⟩ : ∃ t₀ < n, top (fun t => (x t : EReal)) n = (x t₀ : EReal) := by
    obtain ⟨t₀, h₀, h⟩ := Finset.exists_mem_eq_sup (Finset.range n) ⟨0, Finset.mem_range.mpr hn⟩ (fun t => (x t : EReal))
    exact ⟨t₀, Finset.mem_range.mp h₀, h⟩
  have hM : top s n = ((x t₀ * (Real.log 2)⁻¹ : ℝ) : EReal) := by
    refine le_antisymm (Finset.sup_le fun t ht => ?_) (by rw [← hs t₀ h₀]; exact le_top s h₀)
    have h := le_top (fun t => (x t : EReal)) (Finset.mem_range.mp ht)
    rw [hX] at h
    rw [hs t (Finset.mem_range.mp ht)]
    exact_mod_cast mul_le_mul_of_nonneg_right (EReal.coe_le_coe_iff.mp h) hc.le
  have hw : ∀ t < n, Ideal.exp2 (s t - top s n) = ((Real.exp (x t - x t₀) : ℝ) : EReal) := fun t ht => by
    rw [hs t ht, hM, ← EReal.coe_sub, ← sub_mul, exp2_div_log, Ideal.exp_coe]
  have hw' : ∀ t, Ideal.exp ((x t : EReal) - (x t₀ : EReal)) = ((Real.exp (x t - x t₀) : ℝ) : EReal) := fun t => by
    rw [← EReal.coe_sub, Ideal.exp_coe]
  have hpos : (0 : ℝ) < ∑ t ∈ Finset.range n, Real.exp (x t - x t₀) :=
    Finset.sum_pos (fun t _ => Real.exp_pos _) ⟨0, Finset.mem_range.mpr hn⟩
  have hL : den s n = ((∑ t ∈ Finset.range n, Real.exp (x t - x t₀) : ℝ) : EReal) := by
    unfold den
    rw [Finset.sum_congr rfl fun t ht => hw t (Finset.mem_range.mp ht), sum_coe]
  have hne : ((∑ t ∈ Finset.range n, Real.exp (x t - x t₀) : ℝ) : EReal) ≠ 0 := by exact_mod_cast hpos.ne'
  simp only [hX, hw', sum_coe]
  rw [hL]
  unfold acc
  rw [Finset.sum_congr rfl fun t ht => congrArg (v t * ·) (hw t (Finset.mem_range.mp ht))]
  simp only [Ideal.div, if_neg hne]
  rw [← EReal.coe_inv, mul_comm, mul_sum (by exact_mod_cast (inv_pos.mpr hpos).le) (EReal.coe_ne_top _)]
  exact Finset.sum_congr rfl fun t _ => by rw [mul_comm, mul_assoc]

end Cert.Softmax

end
-- ==== Proof.Online.lean ====
/- THE CHAIN AT THE IDEAL INSTANCE: what a chain of queries carries after the context and `n` chunks of keys is the maximum,
   the denominator and the weighted sum over those keys, per query; and what it hands out is their quotient. -/
module

public import proofs.«01_k».proof.Proof.Chain
public import proofs.«01_k».proof.Proof.Softmax

@[expose] public section

set_option maxRecDepth 16384

noncomputable section

namespace Cert.KernelIdeal.Run

open Idealize.ShloMosaic Idealize.ShloMosaic.TcCoe
open Cert.KernelIdeal Cert.KernelIdeal.Gen Cert.Softmax

/-- The scale the queries are multiplied by: the softmax's scale over `log 2`. -/
def qs : ℝ := (11863283 / 134217728) * (Real.log 2)⁻¹

theorem named_qs : Named.named (F := Ideal) κ "qscale" (φ := .f32) 0x3E0293EE#32 = (qs : EReal) :=
  IdealRules.named_const.ideal_named_scalar _ _ _ _ rfl

theorem ofBits_neg_inf : Ideal.ofBits .f32 0xFF800000#32 = ⊥ := by simp [Ideal.ofBits, Ideal.ieee]

/-! ## One block of keys, element by element -/

theorem scores_at (k : Vec Ideal S512x128 .bf16) (q : Vec Ideal S256x128 .f32) (t : Fin 512) (r : Fin 256) :
    scores k q (ix2 t r) = ∑ d : Fin 128, (k (ix2 t d) : EReal) * ((q (ix2 r d) : EReal) * (qs : EReal)) := by
  unfold scores
  pointwise [k0_pay7, k0_pay3, k0_pay2, named_qs]

theorem colmax_at (k : Vec Ideal S512x128 .bf16) (q : Vec Ideal S256x128 .f32) (r : Fin 256) :
    colmax k q (ix2 0 r) = Finset.univ.sup fun t : Fin 512 => (scores k q (ix2 t r) : EReal) := by
  unfold colmax scores
  pointwise [k0_pay9, k0_pay8, k0_pay7, ofBits_neg_inf]
  rfl

theorem newM_at (t m : Vec Ideal S1x256 .f32) (r : Fin 256) :
    newM t m (ix2 0 r) = max (m (ix2 0 r) : EReal) (t (ix2 0 r)) := by
  unfold newM
  pointwise [k0_pay20, k0_pay17]

theorem newL_at (s : Vec Ideal S512x256 .f32) (t m l : Vec Ideal S1x256 .f32) (r : Fin 256) :
    newL s t m l (ix2 0 r) = Ideal.exp2 ((m (ix2 0 r) : EReal) - newM t m (ix2 0 r)) * (l (ix2 0 r) : EReal)
      + ∑ j : Fin 512, Ideal.exp2 ((s (ix2 j r) : EReal) - newM t m (ix2 0 r)) := by
  unfold newL newM
  pointwise [k0_pay21, k0_pay20, k0_pay19, k0_pay18, k0_pay17]
  rfl

theorem newA_at (s : Vec Ideal S512x256 .f32) (t : Vec Ideal S1x256 .f32) (v : Vec Ideal S1x128x512 .bf16) (m : Vec Ideal S1x256 .f32)
    (a : Vec Ideal S128x256 .f32) (e : Fin 128) (r : Fin 256) :
    newA s t v m a (ix2 e r) = Ideal.exp2 ((m (ix2 0 r) : EReal) - newM t m (ix2 0 r)) * (a (ix2 e r) : EReal)
      + ∑ j : Fin 512, (v (ix3 0 e j) : EReal) * Ideal.exp2 ((s (ix2 j r) : EReal) - newM t m (ix2 0 r)) := by
  unfold newA newM
  pointwise [k0_pay23, k0_pay22, k0_pay21, k0_pay20, k0_pay19, k0_pay18, k0_pay17, k0_pay16]
  rfl

theorem ctxS_at (k : Vec Ideal S256x128 .bf16) (q : Vec Ideal S256x128 .f32) (t : Fin 256) (r : Fin 256) :
    ctxS k q (ix2 t r) = ∑ d : Fin 128, (k (ix2 t d) : EReal) * ((q (ix2 r d) : EReal) * (qs : EReal)) := by
  unfold ctxS
  pointwise [k0_pay89, k0_pay88, named_qs]

theorem first_m_at (k : Vec Ideal S256x128 .bf16) (v : Vec Ideal S1x128x256 .bf16) (q : Vec Ideal S256x128 .f32) (r : Fin 256) :
    (St.first k v q).m (ix2 0 r) = Finset.univ.sup fun t : Fin 256 => (ctxS k q (ix2 t r) : EReal) := by
  unfold St.first
  dsimp only
  pointwise [k0_pay113, k0_pay109, ofBits_neg_inf]
  rfl

theorem first_l_at (k : Vec Ideal S256x128 .bf16) (v : Vec Ideal S1x128x256 .bf16) (q : Vec Ideal S256x128 .f32) (r : Fin 256) :
    (St.first k v q).l (ix2 0 r) = ∑ t : Fin 256, Ideal.exp2 ((ctxS k q (ix2 t r) : EReal) - (St.first k v q).m (ix2 0 r)) := by
  unfold St.first
  dsimp only
  pointwise [k0_pay114, k0_pay111, k0_pay110, k0_pay113, k0_pay109]
  rfl

theorem first_a_at (k : Vec Ideal S256x128 .bf16) (v : Vec Ideal S1x128x256 .bf16) (q : Vec Ideal S256x128 .f32) (e : Fin 128) (r : Fin 256) :
    (St.first k v q).a (ix2 e r)
      = ∑ t : Fin 256, (v (ix3 0 e t) : EReal) * Ideal.exp2 ((ctxS k q (ix2 t r) : EReal) - (St.first k v q).m (ix2 0 r)) := by
  unfold St.first
  dsimp only
  pointwise [k0_pay115, k0_pay112, k0_pay110, k0_pay113, k0_pay109, k0_pay108]
  rfl

theorem out_at (σ : St Ideal) (r : Fin 256) (e : Fin 128) :
    σ.out (ix2 r e) = Ideal.div (σ.a (ix2 e r)) (σ.l (ix2 0 r)) := by
  unfold St.out
  pointwise [k0_pay209]

/-! ## All the keys of a query, the context's first -/

variable (kc : Vec Ideal S256x128 .bf16) (vc : Vec Ideal S1x128x256 .bf16) (k : Vec Ideal S4096x128 .bf16) (v : Vec Ideal S8x128x512 .bf16)
  (q : Vec Ideal S256x128 .f32)

/-- The score of key `t` against query `r`. -/
def score (r : Fin 256) (t : ℕ) : EReal :=
  if h : t < 256 then ctxS kc q (ix2 ⟨t, h⟩ r)
  else scores (kchunk k ((t - 256) / 512)) q (ix2 ⟨(t - 256) % 512, Nat.mod_lt _ (by decide)⟩ r)

/-- Column `e` of value `t`. -/
def value (e : Fin 128) (t : ℕ) : EReal :=
  if h : t < 256 then vc (ix3 0 e ⟨t, h⟩)
  else vchunk v ((t - 256) / 512) (ix3 0 e ⟨(t - 256) % 512, Nat.mod_lt _ (by decide)⟩)

theorem score_ctx (r : Fin 256) (t : Fin 256) : score kc k q r t.val = ctxS kc q (ix2 t r) := by
  unfold score; rw [dif_pos t.isLt]
theorem value_ctx (e : Fin 128) (t : Fin 256) : value vc v e t.val = vc (ix3 0 e t) := by
  unfold value; rw [dif_pos t.isLt]

theorem score_chunk (r : Fin 256) (n : ℕ) (j : Fin 512) :
    score kc k q r (256 + 512 * n + j.val) = scores (kchunk k n) q (ix2 j r) := by
  have hj := j.isLt
  have h1 : (256 + 512 * n + j.val - 256) / 512 = n := by omega
  have h2 : (256 + 512 * n + j.val - 256) % 512 = j.val := by omega
  unfold score; rw [dif_neg (by omega)]
  simp only [h1, h2]
theorem value_chunk (e : Fin 128) (n : ℕ) (j : Fin 512) :
    value vc v e (256 + 512 * n + j.val) = vchunk v n (ix3 0 e j) := by
  have hj := j.isLt
  have h1 : (256 + 512 * n + j.val - 256) / 512 = n := by omega
  have h2 : (256 + 512 * n + j.val - 256) % 512 = j.val := by omega
  unfold value; rw [dif_neg (by omega)]
  simp only [h1, h2]

theorem upto_at (r : Fin 256) (n : ℕ) :
    ((St.upto kc vc k v q n).m (ix2 0 r) : EReal) = top (score kc k q r) (256 + 512 * n)
    ∧ ((St.upto kc vc k v q n).l (ix2 0 r) : EReal) = den (score kc k q r) (256 + 512 * n)
    ∧ ∀ e, ((St.upto kc vc k v q n).a (ix2 e r) : EReal) = acc (score kc k q r) (value vc v e) (256 + 512 * n) := by
  induction n with
  | zero =>
    have hm : ((St.first kc vc q).m (ix2 0 r) : EReal) = top (score kc k q r) 256 := by
      rw [first_m_at, top_fin]
      exact Finset.sup_congr rfl fun t _ => (score_ctx kc k q r t).symm
    refine ⟨hm, ?_, fun e => ?_⟩
    · show ((St.first kc vc q).l (ix2 0 r) : EReal) = den (score kc k q r) 256
      rw [first_l_at, hm]
      unfold den
      rw [Finset.sum_range]
      exact Finset.sum_congr rfl fun t _ => by rw [score_ctx]
    · show ((St.first kc vc q).a (ix2 e r) : EReal) = acc (score kc k q r) (value vc v e) 256
      rw [first_a_at, hm]
      unfold acc
      rw [Finset.sum_range]
      exact Finset.sum_congr rfl fun t _ => by rw [score_ctx, value_ctx]
  | succ n ih =>
    obtain ⟨im, il, ia⟩ := ih
    have e1 : 256 + 512 * (n + 1) = 256 + 512 * n + 512 := by omega
    have hm : (newM (colmax (kchunk k n) q) (St.upto kc vc k v q n).m (ix2 0 r) : EReal) = top (score kc k q r) (256 + 512 * n + 512) := by
      rw [newM_at, im, colmax_at, top_add _ (256 + 512 * n) 512, top_fin (fun j => score kc k q r (256 + 512 * n + j))]
      refine congrArg₂ max rfl (Finset.sup_congr rfl fun t _ => (score_chunk kc k q r n t).symm)
    rw [e1]
    refine ⟨hm, ?_, fun e => ?_⟩
    · show (newL (scores (kchunk k n) q) (colmax (kchunk k n) q) (St.upto kc vc k v q n).m (St.upto kc vc k v q n).l (ix2 0 r) : EReal) = _
      rw [newL_at, hm, im, il, den_add _ (256 + 512 * n) 512, Finset.sum_range]
      refine congrArg₂ (· + ·) rfl (Finset.sum_congr rfl fun t _ => ?_)
      rw [score_chunk]
    · show (newA (scores (kchunk k n) q) (colmax (kchunk k n) q) (vchunk v n) (St.upto kc vc k v q n).m (St.upto kc vc k v q n).a (ix2 e r) : EReal) = _
      rw [newA_at, hm, im, ia, acc_add _ _ (256 + 512 * n) 512, Finset.sum_range]
      refine congrArg₂ (· + ·) rfl (Finset.sum_congr rfl fun t _ => ?_)
      rw [score_chunk, value_chunk]

/-- What the chain hands out after all eight chunks. -/
theorem chain_at (r : Fin 256) (e : Fin 128) :
    (St.upto kc vc k v q 8).out (ix2 r e)
      = Ideal.div (acc (score kc k q r) (value vc v e) 4352) (den (score kc k q r) 4352) := by
  obtain ⟨-, hl, ha⟩ := upto_at kc vc k v q r 8
  rw [out_at, hl, ha]

end Cert.KernelIdeal.Run

end
-- ==== Proof.Blocks.lean ====
module

public import proofs.«01_k».proof.Proof.Run
public import proofs.«01_k».proof.Proof.Online

@[expose] public section

set_option maxRecDepth 16384

noncomputable section

namespace Cert.KernelIdeal.Run

open Idealize.ShloMosaic Idealize.ShloMosaic.TcCoe Idealize.SL.Sem
open Cert.KernelIdeal Cert.KernelIdeal.Gen Cert.Softmax

variable (m : (ℓ : Loc nD τ sig) → Buf (Elt Ideal) ℓ)

/-- Which block of its array each window is at, at point `t`. -/
theorem idx : ∀ t : Fin cfg0.N, win0_0.index t = ![t.val / 64 * 4 + t.val % 4, t.val / 4 % 16]
    ∧ win0_1.index t = ![64 + t.val / 64, t.val / 4 % 16 / 4]
    ∧ win0_2.index t = ![t.val / 64, t.val / 4 % 16 / 4, 0]
    ∧ win0_3.index t = ![t.val / 64, t.val / 4 % 16 / 4]
    ∧ win0_4.index t = ![t.val / 64, t.val / 4 % 16 / 4, 0]
    ∧ win0_5.index t = ![t.val / 64 * 4 + t.val % 4, t.val / 4 % 16] :=
  (by decide +kernel : ∀ t : Fin grid0.N, _)

/-- The queries as the kernel sees them: one row per batch and position, one column per head and feature. -/
theorem queries_at (c : Dev nD) (R : Fin 17408) (C : Fin 2048) (h : R.val < 16384) :
    V m c main_v2 (ix2 R C) = m ((c : Thread nD τ).loc main_arg0) (ix5 ⟨R.val / 4096, by omega⟩ ⟨R.val % 4096, by omega⟩ ⟨C.val / 512, by omega⟩ ⟨C.val / 128 % 4, by omega⟩ ⟨C.val % 128, by omega⟩) := by
  entry_read
  refine (concatenate_pair_apply_left (s₁ := S16384x2048) (s₂ := S1024x2048) (t := S17408x2048) 0 _ _ _ (ix2 R C) rfl (ix2 ⟨R.val, h⟩ C) (fun | 0 => rfl | 1 => rfl)).trans ?_
  pointwise

/-- The keys of the layer's own sequence come first. -/
theorem keys_at (c : Dev nD) (R : Fin 17408) (C : Fin 512) (h : R.val < 16384) :
    V m c main_v6 (ix2 R C) = m ((c : Thread nD τ).loc main_arg1) (ix4 ⟨R.val / 4096, by omega⟩ ⟨R.val % 4096, by omega⟩ ⟨C.val / 128, by omega⟩ ⟨C.val % 128, by omega⟩) := by
  entry_read
  show concatenate S17408x512 0 [⟨S16384x512, _⟩, ⟨S1024x512, _⟩] concatenates_S16384x512_S1024x512_S17408x512_d0 (ix2 R C) = _
  refine (concatenate_pair_apply_left (s₁ := S16384x512) (s₂ := S1024x512) (t := S17408x512) 0 _ _ _ (ix2 R C) rfl (ix2 ⟨R.val, h⟩ C) (fun | 0 => rfl | 1 => rfl)).trans ?_
  pointwise

/-- The keys of the context follow them. -/
theorem ctx_keys_at (c : Dev nD) (R : Fin 17408) (C : Fin 512) (T : Fin 1024) (h : R.val = 16384 + T.val) :
    V m c main_v6 (ix2 R C) = m ((c : Thread nD τ).loc main_arg4) (ix4 ⟨T.val / 256, by omega⟩ ⟨T.val % 256, by omega⟩ ⟨C.val / 128, by omega⟩ ⟨C.val % 128, by omega⟩) := by
  entry_read
  show concatenate S17408x512 0 [⟨S16384x512, _⟩, ⟨S1024x512, _⟩] concatenates_S16384x512_S1024x512_S17408x512_d0 (ix2 R C) = _
  refine (concatenate_pair_apply_right (s₁ := S16384x512) (s₂ := S1024x512) (t := S17408x512) 0 _ _ _ (ix2 R C) rfl rfl (ix2 T C) (fun | 0, hb => absurd rfl hb | 1, _ => rfl) (by show T.val + 16384 = R.val; omega)).trans ?_
  pointwise

/-- The context's values, transposed. -/
theorem ctx_values_at (c : Dev nD) (B : Fin 4) (E : Fin 512) (J : Fin 256) :
    V m c main_v12 (ix3 B E J) = m ((c : Thread nD τ).loc main_arg5) (ix4 B J ⟨E.val / 128, by omega⟩ ⟨E.val % 128, by omega⟩) := by
  entry_read
  pointwise

/-- The values, in chunks of 512 and transposed. -/
theorem values_at (c : Dev nD) (B : Fin 32) (E : Fin 512) (J : Fin 512) :
    V m c main_v9 (ix3 B E J) = m ((c : Thread nD τ).loc main_arg2) (ix4 ⟨B.val / 8, by omega⟩ ⟨B.val % 8 * 512 + J.val, by omega⟩ ⟨E.val / 128, by omega⟩ ⟨E.val % 128, by omega⟩) := by
  entry_read
  pointwise

/-- The latent queries, the keys, the values, the context's keys and its values: the arguments the result depends on. -/
abbrev Qa (c : Dev nD) : Vec Ideal S4x4096x4x4x128 .f32 := m ((c : Thread nD τ).loc main_arg0)
abbrev Ka (c : Dev nD) : Vec Ideal S4x4096x4x128 .f32 := m ((c : Thread nD τ).loc main_arg1)
abbrev Va (c : Dev nD) : Vec Ideal S4x4096x4x128 .f32 := m ((c : Thread nD τ).loc main_arg2)
abbrev Kca (c : Dev nD) : Vec Ideal S4x256x4x128 .f32 := m ((c : Thread nD τ).loc main_arg4)
abbrev Vca (c : Dev nD) : Vec Ideal S4x256x4x128 .f32 := m ((c : Thread nD τ).loc main_arg5)

/-- The query block at point `t`. -/
theorem qB_at (c : Dev nD) (t : Fin cfg0.N) (r : Fin 1024) (d : Fin 128) (b : Fin 4) (s : Fin 4096) (g h : Fin 4)
    (hb : b.val = t.val / 64) (hs : s.val = t.val % 4 * 1024 + r.val) (hg : g.val = t.val / 16 % 4) (hh : h.val = t.val / 4 % 4) :
    qB m c t (ix2 r d) = m ((c : Thread nD τ).loc main_arg0) (ix5 b s g h d) := by
  have ht : t.val < 256 := lt_of_lt_of_eq t.isLt N_0
  refine Eq.trans (b := V m c main_v2 (ix2 ⟨(t.val / 64 * 4 + t.val % 4) * 1024 + r.val, by omega⟩ ⟨t.val / 4 % 16 * 128 + d.val, by omega⟩)) ?_ ?_
  · unfold qB; blk_ext [iblk, idx t]
  · rw [queries_at m c _ _ (by show (t.val / 64 * 4 + t.val % 4) * 1024 + r.val < 16384; omega)]
    congr 1
    blk_ext

/-- The key block at point `t`. -/
theorem kB_at (c : Dev nD) (t : Fin cfg0.N) (r : Fin 4096) (d : Fin 128) (b g : Fin 4)
    (hb : b.val = t.val / 64) (hg : g.val = t.val / 16 % 4) :
    kB m c t (ix2 r d) = m ((c : Thread nD τ).loc main_arg1) (ix4 b r g d) := by
  have ht : t.val < 256 := lt_of_lt_of_eq t.isLt N_0
  refine Eq.trans (b := V m c main_v6 (ix2 ⟨t.val / 64 * 4096 + r.val, by omega⟩ ⟨t.val / 16 % 4 * 128 + d.val, by omega⟩)) ?_ ?_
  · unfold kB X0_3 Pipeline.Window.fill; rw [dif_pos (moved0_3 t _)]; blk_ext [iblk, idx t]
  · rw [keys_at m c _ _ (by show t.val / 64 * 4096 + r.val < 16384; omega)]
    blk_ext

/-- The context's key block at point `t`. -/
theorem kcB_at (c : Dev nD) (t : Fin cfg0.N) (r : Fin 256) (d : Fin 128) (b g : Fin 4)
    (hb : b.val = t.val / 64) (hg : g.val = t.val / 16 % 4) :
    kcB m c t (ix2 r d) = m ((c : Thread nD τ).loc main_arg4) (ix4 b r g d) := by
  have ht : t.val < 256 := lt_of_lt_of_eq t.isLt N_0
  refine Eq.trans (b := V m c main_v6 (ix2 ⟨(64 + t.val / 64) * 256 + r.val, by omega⟩ ⟨t.val / 16 % 4 * 128 + d.val, by omega⟩)) ?_ ?_
  · unfold kcB; blk_ext [iblk, idx t]
  · rw [ctx_keys_at m c _ _ ⟨t.val / 64 * 256 + r.val, by omega⟩ (by show (64 + t.val / 64) * 256 + r.val = 16384 + (t.val / 64 * 256 + r.val); omega)]
    blk_ext

/-- The value block at point `t`. -/
theorem vB_at (c : Dev nD) (t : Fin cfg0.N) (n : Fin 8) (e : Fin 128) (j : Fin 512) (b g : Fin 4) (u : Fin 4096)
    (hb : b.val = t.val / 64) (hg : g.val = t.val / 16 % 4) (hu : u.val = 512 * n.val + j.val) :
    vB m c t (ix3 n e j) = m ((c : Thread nD τ).loc main_arg2) (ix4 b u g e) := by
  have ht : t.val < 256 := lt_of_lt_of_eq t.isLt N_0
  refine Eq.trans (b := V m c main_v9 (ix3 ⟨t.val / 64 * 8 + n.val, by omega⟩ ⟨t.val / 16 % 4 * 128 + e.val, by omega⟩ j)) ?_ ?_
  · unfold vB; blk_ext [iblk, idx t]
  · rw [values_at m c]
    blk_ext

/-- The context's value block at point `t`. -/
theorem vcB_at (c : Dev nD) (t : Fin cfg0.N) (e : Fin 128) (j : Fin 256) (b g : Fin 4)
    (hb : b.val = t.val / 64) (hg : g.val = t.val / 16 % 4) :
    vcB m c t (ix3 0 e j) = m ((c : Thread nD τ).loc main_arg5) (ix4 b j g e) := by
  have ht : t.val < 256 := lt_of_lt_of_eq t.isLt N_0
  refine Eq.trans (b := V m c main_v12 (ix3 ⟨t.val / 64, by omega⟩ ⟨t.val / 16 % 4 * 128 + e.val, by omega⟩ j)) ?_ ?_
  · unfold vcB; blk_ext [iblk, idx t]
  · rw [ctx_values_at m c]
    blk_ext

/-- Row `u` of a context array followed by a sequence's array. -/
def joined (xc : Vec Ideal S4x256x4x128 .f32) (x : Vec Ideal S4x4096x4x128 .f32) (b g : Fin 4) (d : Fin 128) (u : ℕ) : EReal :=
  if h : u < 256 then xc (ix4 b ⟨u, h⟩ g d) else x (ix4 b ⟨(u - 256) % 4096, Nat.mod_lt _ (by decide)⟩ g d)

theorem score_eq (c : Dev nD) (t : Fin cfg0.N) (j : ℕ) (hj : j < 4) (r : Fin 256) (b : Fin 4) (s : Fin 4096) (g h : Fin 4)
    (hb : b.val = t.val / 64) (hs : s.val = t.val % 4 * 1024 + (256 * j + r.val)) (hg : g.val = t.val / 16 % 4) (hh : h.val = t.val / 4 % 4)
    (u : ℕ) (hu : u < 4352) :
    score (kcB m c t) (kB m c t) (qrows (qB m c t) j) r u
      = ∑ d, joined (Kca m c) (Ka m c) b g d u
          * ((Qa m c (ix5 b s g h d) : EReal) * (qs : EReal)) := by
  have hq : ∀ d : Fin 128, qrows (qB m c t) j (ix2 r d) = Qa m c (ix5 b s g h d) := fun d =>
    qB_at m c t ⟨(256 * j + r.val) % 1024, Nat.mod_lt _ (by decide)⟩ d b s g h hb
      (by show s.val = t.val % 4 * 1024 + (256 * j + r.val) % 1024; omega) hg hh
  unfold score joined
  by_cases h1 : u < 256
  · rw [dif_pos h1, ctxS_at]
    refine Finset.sum_congr rfl fun d _ => ?_
    rw [dif_pos h1, hq, kcB_at m c t _ _ b g hb hg]
  · rw [dif_neg h1, scores_at]
    refine Finset.sum_congr rfl fun d _ => ?_
    rw [dif_neg h1, hq]
    refine congrArg (· * _) ?_
    refine (kB_at m c t _ d b g hb hg).trans ?_
    refine congrArg (fun z => Ka m c (ix4 b z g d)) (Fin.ext ?_)
    show (512 * ((u - 256) / 512) + (u - 256) % 512) % 4096 = (u - 256) % 4096
    omega

theorem value_eq (c : Dev nD) (t : Fin cfg0.N) (e : Fin 128) (b g : Fin 4)
    (hb : b.val = t.val / 64) (hg : g.val = t.val / 16 % 4) (u : ℕ) (hu : u < 4352) :
    value (vcB m c t) (vB m c t) e u = joined (Vca m c) (Va m c) b g e u := by
  unfold value joined
  by_cases h1 : u < 256
  · rw [dif_pos h1, dif_pos h1, vcB_at m c t _ _ b g hb hg]
  · rw [dif_neg h1, dif_neg h1]
    refine vB_at m c t _ e _ b g _ hb hg ?_
    show (u - 256) % 4096 = 512 * ((u - 256) / 512 % 8) + (u - 256) % 512
    omega

end Cert.KernelIdeal.Run
end
-- ==== Proof.RefValue.lean ====
/- THE REFERENCE AT AN INDEX: its result at a batch, a position, a head and a feature is the softmax-weighted sum of the values,
   over the context's keys followed by the sequence's own. -/
module

public import proofs.«01_k».proof.Proof.Gen.ReferenceIdeal.Read
public import proofs.«01_k».proof.Proof.Blocks

@[expose] public section

set_option maxRecDepth 16384

noncomputable section

namespace Cert.ReferenceIdeal.Read

open Cert.ReferenceIdeal Cert.ReferenceIdeal.Gen Idealize.ShloMosaic Idealize.ShloMosaic.TcCoe
open Cert.KernelIdeal.Run (joined ofBits_neg_inf)

/-- The scale of the softmax. -/
def sc : ℝ := 11863283 / 134217728

theorem ofBits_sc : Ideal.ofBits .f32 0x3DB504F3#32 = (sc : EReal) := by
  simp [Ideal.ofBits, Ideal.ieee, sc]
  norm_num
  rw [← EReal.coe_mul]
  norm_num

variable (x0 : FVec Ideal S4x4096x4x4x128 .f32) (x1 x2 : FVec Ideal S4x4096x4x128 .f32) (x4 x5 : FVec Ideal S4x256x4x128 .f32)

theorem v0_at (b : Fin 4) (u : Fin 4352) (g : Fin 4) (d : Fin 128) :
    val_main_v0 (F := Ideal) x1 x4 (ix4 b u g d) = joined x4 x1 b g d u.val := by
  unfold val_main_v0 joined
  by_cases h : u.val < 256
  · rw [dif_pos h]
    exact concatenate_pair_apply_left (s₁ := S4x256x4x128) (s₂ := S4x4096x4x128) (t := S4x4352x4x128) 1 x4 x1 _ (ix4 b u g d) rfl
      (ix4 b ⟨u.val, h⟩ g d) (fun | 0 => rfl | 1 => rfl | 2 => rfl | 3 => rfl)
  · rw [dif_neg h]
    exact concatenate_pair_apply_right (s₁ := S4x256x4x128) (s₂ := S4x4096x4x128) (t := S4x4352x4x128) 1 x4 x1 _ (ix4 b u g d) rfl rfl
      (ix4 b ⟨(u.val - 256) % 4096, Nat.mod_lt _ (by decide)⟩ g d) (fun | 0, _ => rfl | 1, hb => absurd rfl hb | 2, _ => rfl | 3, _ => rfl)
      (by show (u.val - 256) % 4096 + 256 = u.val; omega)

theorem v1_at (b : Fin 4) (u : Fin 4352) (g : Fin 4) (d : Fin 128) :
    val_main_v1 (F := Ideal) x2 x5 (ix4 b u g d) = joined x5 x2 b g d u.val := v0_at x2 x5 b u g d

/-- The scaled score of key `u` against the query of head `h` of group `g` at position `s`. -/
def refScore (b : Fin 4) (s : Fin 4096) (g h : Fin 4) (u : ℕ) : EReal :=
  (∑ d : Fin 128, joined x4 x1 b g d u * (x0 (ix5 b s g h d) : EReal)) * (sc : EReal)

theorem v5_at (b g h : Fin 4) (s : Fin 4096) (u : Fin 4352) :
    val_main_v5 (F := Ideal) x0 x1 x4 (ix5 b g h s u) = refScore x0 x1 x4 b s g h u.val := by
  rw [val_main_v5_apply, val_main_v4_apply, val_main_cst_apply, val_main_v3_apply, val_main_v2_apply]
  show (_ : EReal) * Ideal.ofBits .f32 0x3DB504F3#32 = _
  rw [ofBits_sc]
  refine congrArg (· * (sc : EReal)) (Finset.sum_congr rfl fun d _ => ?_)
  refine congrArg₂ (· * ·) ((congrArg _ ?_).trans (v0_at x1 x4 b u g d)) (congrArg x0 ?_)
  · funext a; match a with | 0 => rfl | 1 => rfl | 2 => rfl | 3 => rfl
  · funext a; match a with | 0 => rfl | 1 => rfl | 2 => rfl | 3 => rfl | 4 => rfl

theorem reduce_max_at (y : FVec Ideal S4x4x4x4096x4352 .f32) (b g h : Fin 4) (s : Fin 4096) :
    Host.reduce FloatOps.maximumf y (constant (F := Ideal) S_ .f32 0xFF800000#32) reducesTo_S4x4x4x4096x4352_S4x4x4x4096_d4 h_S_ (ix4 b g h s)
      = Finset.univ.sup fun u : Fin 4352 => (y (ix5 b g h s u) : EReal) := by
  pointwise [ofBits_neg_inf]
  rfl

theorem v8_at (b g h : Fin 4) (s : Fin 4096) :
    val_main_v8 (F := Ideal) x0 x1 x4 (ix4 b g h s) = Cert.Softmax.top (refScore x0 x1 x4 b s g h) 4352 := by
  rw [val_main_v8_apply, val_main_v7_apply, val_main_cst_1_apply]
  show max (Ideal.ofBits .f32 0xFF800000#32) (_ : EReal) = _
  rw [ofBits_neg_inf, max_eq_right bot_le, Cert.Softmax.top_fin]
  unfold val_main_v6 val_main_cst_0
  rw [reduce_max_at]
  exact Finset.sup_congr rfl fun u _ => v5_at x0 x1 x4 b g h s u

theorem v12_at (b g h : Fin 4) (s : Fin 4096) (u : Fin 4352) :
    val_main_v12 (F := Ideal) x0 x1 x4 (ix5 b g h s u)
      = Ideal.exp (refScore x0 x1 x4 b s g h u.val - Cert.Softmax.top (refScore x0 x1 x4 b s g h) 4352) := by
  rw [val_main_v12_apply, val_main_v11_apply, val_main_v10_apply, val_main_v9_apply, v5_at]
  have e : idx_main_v9 (idx_main_v10 (ix5 b g h s u)) = ix4 b g h s := by
    funext a; match a with | 0 => rfl | 1 => rfl | 2 => rfl | 3 => rfl
  rw [e, v8_at]
  rfl

theorem v16_at (b g h : Fin 4) (s : Fin 4096) (u : Fin 4352) :
    val_main_v16 (F := Ideal) x0 x1 x4 (ix5 b g h s u)
      = Ideal.div (Ideal.exp (refScore x0 x1 x4 b s g h u.val - Cert.Softmax.top (refScore x0 x1 x4 b s g h) 4352))
          (∑ w ∈ Finset.range 4352, Ideal.exp (refScore x0 x1 x4 b s g h w - Cert.Softmax.top (refScore x0 x1 x4 b s g h) 4352)) := by
  rw [val_main_v16_apply, v12_at, val_main_v15_apply, val_main_v14_apply, val_main_v13_apply, Finset.sum_range]
  refine congrArg (Ideal.div _) ?_
  have z : val_main_cst_2 (F := Ideal) (Shape.Idx.first h_S_) = (0 : EReal) := by
    show Ideal.ofBits .f32 0x00000000#32 = 0
    simp [Ideal.ofBits, Ideal.ieee]
  refine (congrArg (· + _) z).trans ((zero_add _).trans (Finset.sum_congr rfl fun w _ => ?_))
  refine (congrArg _ ?_).trans (v12_at x0 x1 x4 b g h s w)
  funext a; match a with | 0 => rfl | 1 => rfl | 2 => rfl | 3 => rfl | 4 => rfl

theorem v17_at (b g : Fin 4) (e : Fin 128) (h : Fin 4) (s : Fin 4096) :
    val_main_v17 (F := Ideal) x0 x1 x2 x4 x5 (ix5 b g e h s)
      = ∑ u ∈ Finset.range 4352, joined x5 x2 b g e u
          * Ideal.div (Ideal.exp (refScore x0 x1 x4 b s g h u - Cert.Softmax.top (refScore x0 x1 x4 b s g h) 4352))
              (∑ w ∈ Finset.range 4352, Ideal.exp (refScore x0 x1 x4 b s g h w - Cert.Softmax.top (refScore x0 x1 x4 b s g h) 4352)) := by
  rw [val_main_v17_apply, Finset.sum_range]
  refine Finset.sum_congr rfl fun u _ => ?_
  refine congrArg₂ (· * ·) ((congrArg _ ?_).trans (v1_at x2 x5 b u g e)) ((congrArg _ ?_).trans (v16_at x0 x1 x4 b g h s u))
  · funext a; match a with | 0 => rfl | 1 => rfl | 2 => rfl | 3 => rfl
  · funext a; match a with | 0 => rfl | 1 => rfl | 2 => rfl | 3 => rfl | 4 => rfl

/-- The result at a row and a column. -/
theorem v20_at (R : Fin 16384) (C : Fin 2048) :
    val_main_v20 (F := Ideal) x0 x1 x2 x4 x5 (ix2 R C)
      = val_main_v17 (F := Ideal) x0 x1 x2 x4 x5 (ix5 ⟨R.val / 4096, by omega⟩ ⟨C.val / 512, by omega⟩ ⟨C.val % 128, by omega⟩
          ⟨C.val / 128 % 4, by omega⟩ ⟨R.val % 4096, by omega⟩) := by
  unfold val_main_v20 val_main_v19 val_main_v18
  generalize val_main_v17 (F := Ideal) x0 x1 x2 x4 x5 = y
  pointwise

end Cert.ReferenceIdeal.Read
end
-- ==== Proof.Finite.lean ====
/- WHAT THE PRECONDITION SAYS: every latent query and every key is a real number. -/
module

public import proofs.«01_k».proof.Defs
public import Idealize.ShloMosaic.Lib.ReduceAll
public import Idealize.ShloMosaic.Lib.ValueIdx

@[expose] public section

set_option maxRecDepth 16384

noncomputable section

namespace Cert.Pre_finite_queries_and_keys

open Idealize.ShloMosaic

theorem facts : Facts where
  bcast_S_S4x4096x4x4x128 := by decide
  reducesTo_S4x4096x4x4x128_S_d0_1_2_3_4 := by decide
  h_S_ := by decide
  bcast_S_S4x4096x4x128 := by decide
  reducesTo_S4x4096x4x128_S_d0_1_2_3 := by decide
  bcast_S_S4x256x4x128 := by decide
  reducesTo_S4x256x4x128_S_d0_1_2_3 := by decide

/-- A value whose absolute value is below the infinity is a real number. -/
theorem real_of_abs_lt {x : EReal} (h : max x (-x) < ⊤) : ∃ r : ℝ, x = (r : EReal) := by
  induction x with
  | bot => simp at h
  | top => simp at h
  | coe r => exact ⟨r, rfl⟩

theorem ofBits_inf : Ideal.ofBits .f32 0x7F800000#32 = ⊤ := by simp [Ideal.ofBits, Ideal.ieee]

theorem real_of_cmp {x : EReal} (h : Ideal.cmp .olt (max x (-x)) (Ideal.ofBits .f32 0x7F800000#32) = 1#1) : ∃ r : ℝ, x = (r : EReal) := by
  refine real_of_abs_lt ?_
  rw [ofBits_inf] at h
  by_contra hn
  simp [Ideal.cmp, hn] at h

variable [Facts]

theorem reals (x0 : FVec Ideal S4x4096x4x4x128 .f32) (x1 x2 : FVec Ideal S4x4096x4x128 .f32) (x3 : FVec Ideal S4x256x4x4x128 .f32)
    (x4 x5 : FVec Ideal S4x256x4x128 .f32) (h : fn (F := Ideal) x0 x1 x2 x3 x4 x5 = fun _ => 1#1) :
    (∀ i, ∃ r : ℝ, (x0 i : EReal) = (r : EReal)) ∧ (∀ i, ∃ r : ℝ, (x1 i : EReal) = (r : EReal)) ∧ (∀ i, ∃ r : ℝ, (x4 i : EReal) = (r : EReal)) := by
  have h0 := congrFun h (fun a => a.elim0)
  obtain ⟨h01, h4⟩ := IntOp.andi_eq_one.1 h0
  obtain ⟨h0, h1⟩ := IntOp.andi_eq_one.1 h01
  haveI : Subsingleton S_.Idx := ⟨fun a b => funext fun z => z.elim0⟩
  exact ⟨fun i => real_of_cmp (Host.reduce_andi_all _ _ _ _ _ h0 i), fun i => real_of_cmp (Host.reduce_andi_all _ _ _ _ _ h1 i),
    fun i => real_of_cmp (Host.reduce_andi_all _ _ _ _ _ h4 i)⟩

end Cert.Pre_finite_queries_and_keys
end
-- ==== Proof.Value.lean ====
/- THE KERNEL'S RESULT IS THE REFERENCE'S: each of a point's four stores holds, element by element, the softmax-weighted sum of
   the values, and the blocks cover the result. -/
module

public import proofs.«01_k».proof.Proof.RefValue
public import proofs.«01_k».proof.Proof.Finite

@[expose] public section

set_option maxRecDepth 16384

noncomputable section

namespace Cert.KernelIdeal.Run

open Idealize.ShloMosaic Idealize.ShloMosaic.TcCoe Idealize.SL.Sem
open Cert.KernelIdeal Cert.KernelIdeal.Gen Cert.Softmax
open Cert.ReferenceIdeal.Read (sc refScore val_main_v17 val_main_v20 v17_at v20_at)

/-- Scaling each query element by the scale over `log 2` scales the score by it. -/
theorem dot_scale (f g : Fin 128 → EReal) (hf : ∀ d, ∃ r : ℝ, f d = (r : EReal)) (hg : ∀ d, ∃ r : ℝ, g d = (r : EReal)) :
    ∃ y : ℝ, (∑ d, f d * g d) * (sc : EReal) = (y : EReal) ∧ ∑ d, f d * (g d * (qs : EReal)) = ((y * (Real.log 2)⁻¹ : ℝ) : EReal) := by
  choose f' hf using hf
  choose g' hg using hg
  refine ⟨(∑ d, f' d * g' d) * sc, ?_, ?_⟩
  · simp only [hf, hg, ← EReal.coe_mul]
    rw [sum_coe, ← EReal.coe_mul]
  · simp only [hf, hg, ← EReal.coe_mul]
    rw [sum_coe, Finset.sum_mul, Finset.sum_mul]
    refine congrArg _ (Finset.sum_congr rfl fun d _ => ?_)
    unfold qs sc
    ring

variable (m : (ℓ : Loc nD τ sig) → Buf (Elt Ideal) ℓ)

/-- The latent queries and the keys are real numbers. -/
structure Reals (c : Dev nD) : Prop where
  q : ∀ i, ∃ r : ℝ, (Qa m c i : EReal) = (r : EReal)
  k : ∀ i, ∃ r : ℝ, (Ka m c i : EReal) = (r : EReal)
  kc : ∀ i, ∃ r : ℝ, (Kca m c i : EReal) = (r : EReal)

variable {m}

theorem Reals.joined {c : Dev nD} (hR : Reals m c) (b g : Fin 4) (u : ℕ) (d : Fin 128) :
    ∃ r : ℝ, joined (Kca m c) (Ka m c) b g d u = (r : EReal) := by
  unfold Run.joined
  split
  · exact hR.kc _
  · exact hR.k _

theorem chain_value {c : Dev nD} (hR : Reals m c) (t : Fin cfg0.N) (j : ℕ) (hj : j < 4) (r : Fin 256) (e : Fin 128) (b : Fin 4) (s : Fin 4096) (g h : Fin 4)
    (hb : b.val = t.val / 64) (hs : s.val = t.val % 4 * 1024 + (256 * j + r.val)) (hg : g.val = t.val / 16 % 4) (hh : h.val = t.val / 4 % 4) :
    chainOut m c t j (ix2 r e) = val_main_v17 (F := Ideal) (Qa m c) (Ka m c) (Va m c) (Kca m c) (Vca m c) (ix5 b g e h s) := by
  have key : ∀ u : ℕ, ∃ y : ℝ, refScore (Qa m c) (Ka m c) (Kca m c) b s g h u = (y : EReal)
      ∧ ∑ d, Run.joined (Kca m c) (Ka m c) b g d u * ((Qa m c (ix5 b s g h d) : EReal) * (qs : EReal)) = ((y * (Real.log 2)⁻¹ : ℝ) : EReal) := fun u =>
    dot_scale (fun d => Run.joined (Kca m c) (Ka m c) b g d u) (fun d => Qa m c (ix5 b s g h d)) (hR.joined b g u) fun d => hR.q _
  choose x hx hx' using key
  have hx : refScore (Qa m c) (Ka m c) (Kca m c) b s g h = fun u => (x u : EReal) := funext hx
  unfold chainOut
  rw [chain_at, v17_at, hx, quotient_eq _ _ x 4352 (by decide) fun u hu => (score_eq m c t j hj r b s g h hb hs hg hh u hu).trans (hx' u)]
  refine Finset.sum_congr rfl fun u hu => ?_
  rw [value_eq m c t e b g hb hg u (Finset.mem_range.1 hu)]

/-- An element of the block a point writes, through the four stores. -/
theorem oB_at {c : Dev nD} (hR : Reals m c) (t : Fin cfg0.N) (y : S1024x128.Idx) (i : S16384x2048.Idx)
    (h0 : (i 0).val = (t.val / 64 * 4 + t.val % 4) * 1024 + (y 0).val) (h1 : (i 1).val = t.val / 4 % 16 * 128 + (y 1).val) :
    oB m c t y = val_main_v20 (F := Ideal) (Qa m c) (Ka m c) (Va m c) (Kca m c) (Vca m c) i := by
  have ht : t.val < 256 := lt_of_lt_of_eq t.isLt N_0
  have hy0 : (y 0).val < 1024 := (y 0).isLt
  have hy1 : (y 1).val < 128 := (y 1).isLt
  have hi0 : (i 0).val < 16384 := (i 0).isLt
  have hi1 : (i 1).val < 2048 := (i 1).isLt
  have ei : i = ix2 ⟨(i 0).val, hi0⟩ ⟨(i 1).val, hi1⟩ := by funext a; match a with | 0 => rfl | 1 => rfl
  rw [ei, v20_at]
  have core : ∀ (j : ℕ) (hj : j < 4) (z : S256x128.Idx), (y 0).val = 256 * j + (z 0).val → (y 1).val = (z 1).val →
      chainOut m c t j z = val_main_v17 (F := Ideal) (Qa m c) (Ka m c) (Va m c) (Kca m c) (Vca m c)
        (ix5 ⟨(i 0).val / 4096, by omega⟩ ⟨(i 1).val / 512, by omega⟩ ⟨(i 1).val % 128, by omega⟩ ⟨(i 1).val / 128 % 4, by omega⟩ ⟨(i 0).val % 4096, by omega⟩) := by
    intro j hj z hz0 hz1
    have hz : z = ix2 (z 0) (z 1) := by funext a; match a with | 0 => rfl | 1 => rfl
    have l0 : (z 0).val < 256 := (z 0).isLt
    have l1 : (z 1).val < 128 := (z 1).isLt
    have e1 : (z 1 : Fin 128) = ⟨(i 1).val % 128, by omega⟩ := Fin.ext (by show (z 1).val = (i 1).val % 128; omega)
    rw [hz]
    refine (chain_value hR t j hj (z 0) (z 1) ⟨(i 0).val / 4096, by omega⟩ ⟨(i 0).val % 4096, by omega⟩ ⟨(i 1).val / 512, by omega⟩ ⟨(i 1).val / 128 % 4, by omega⟩
      ?_ ?_ ?_ ?_).trans (congrArg (fun z => val_main_v17 (F := Ideal) (Qa m c) (Ka m c) (Va m c) (Kca m c) (Vca m c) (ix5 _ _ z _ _)) e1)
    · show (i 0).val / 4096 = _; omega
    · show (i 0).val % 4096 = _; omega
    · show (i 1).val / 512 = _; omega
    · show (i 1).val / 128 % 4 = _; omega
  unfold oB outBlk
  canon_tiles x h
  · exact core 3 (by decide) x h0 h1
  · exact core 2 (by decide) x h0 h1
  · exact core 1 (by decide) x h0 h1
  · exact core 0 (by decide) x (h0.trans (by omega)) h1

theorem final {c : Dev nD} (hR : Reals m c) :
    (dats m 0 c).arrAt 5 (cfgs 0).N = val_main_v20 (F := Ideal) (Qa m c) (Ka m c) (Va m c) (Kca m c) (Vca m c) := by
  refine (dats m 0 c).arrAt_eq_of_covers 5 _ (by decide +kernel) fun t _ y => ?_
  blk_simp
  rw [after0_5]
  refine oB_at hR t y _ ?_ ?_
  all_goals (blk_simp [idx t] <;> try omega)

end Cert.KernelIdeal.Run
end
-- ==== Proof.FfnUp.lean ====
/- THE FEED-FORWARD LAYER'S FIRST HALF: the value of `silu (h W_gate) * (h W_up)`, rows of the sequences first and of the contexts after. -/
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit

@[expose] public section

set_option maxRecDepth 16384

noncomputable section

namespace Cert.Kernel2Ideal.Value

open Cert.Kernel2Ideal Cert.Kernel2Ideal.Gen Idealize.ShloMosaic Idealize.ShloMosaic.TcCoe
open Idealize.SL.Sem
open Cert.Reference2Ideal (S16384x11008 S1024x11008 S4x4096x11008 S4x256x11008)

/-- A gated product: `g` through the logistic gate, times `u`. -/
def gated (g u : EReal) : EReal := g * Ideal.logistic g * u

theorem pay_at (x0 : FVec Ideal S1024x4096 .bf16) (x1 x2 : FVec Ideal S4096x256 .f32) (r : Fin 1024) (k : Fin 256) :
    k0_pay1 (F := Ideal) x0 x1 x2 (ix2 r k)
      = gated (∑ d : Fin 4096, x0 (ix2 r d) * x1 (ix2 d k)) (∑ d : Fin 4096, x0 (ix2 r d) * x2 (ix2 d k)) := by
  pointwise [k0_pay1]
  rfl

variable (x0 : FVec Ideal S4x4096x4096 .f32) (x1 : FVec Ideal S4x256x4096 .f32) (x2 x3 : FVec Ideal S4096x11008 .f32)

theorem ofBits_one : Ideal.ofBits .f32 0x3F800000#32 = 1 := by
  simp [Ideal.ofBits, Ideal.ieee]
  rw [← EReal.coe_mul]
  norm_num

open Cert.Reference2Ideal.Read in
/-- The reference in a row of the sequences. -/
theorem ref_lat (R : Fin 17408) (C : Fin 11008) (h : R.val < 16384) :
    val_main_v11 (F := Ideal) x0 x1 x2 x3 (ix2 R C)
      = gated (∑ d : Fin 4096, x0 (ix3 ⟨R.val / 4096, by omega⟩ ⟨R.val % 4096, by omega⟩ d) * x2 (ix2 d C))
          (∑ d : Fin 4096, x0 (ix3 ⟨R.val / 4096, by omega⟩ ⟨R.val % 4096, by omega⟩ d) * x3 (ix2 d C)) := by
  rw [val_main_v11_apply]
  unfold val_main_v10
  refine (concatenate_pair_apply_left (s₁ := S16384x11008) (s₂ := S1024x11008) (t := S17408x11008) 0 _ _ _ (ix2 R C) rfl (ix2 ⟨R.val, h⟩ C) (fun | 0 => rfl | 1 => rfl)).trans ?_
  pointwise [val_main_v8, val_main_v3, val_main_v1, val_main_v2, val_main_v0, val_main_call0_v0, val_main_call0_v1, val_main_call0_v2, val_main_call0_v3, val_main_call0_v4, val_main_call0_v5, val_main_call0_cst, val_main_call0_cst_0, ofBits_one]
  rfl

open Cert.Reference2Ideal.Read in
/-- The reference in a row of the contexts. -/
theorem ref_ctx (R : Fin 17408) (C : Fin 11008) (T : Fin 1024) (h : R.val = 16384 + T.val) :
    val_main_v11 (F := Ideal) x0 x1 x2 x3 (ix2 R C)
      = gated (∑ d : Fin 4096, x1 (ix3 ⟨T.val / 256, by omega⟩ ⟨T.val % 256, by omega⟩ d) * x2 (ix2 d C))
          (∑ d : Fin 4096, x1 (ix3 ⟨T.val / 256, by omega⟩ ⟨T.val % 256, by omega⟩ d) * x3 (ix2 d C)) := by
  rw [val_main_v11_apply]
  unfold val_main_v10
  refine (concatenate_pair_apply_right (s₁ := S16384x11008) (s₂ := S1024x11008) (t := S17408x11008) 0 _ _ _ (ix2 R C) rfl rfl (ix2 T C) (fun | 0, hb => absurd rfl hb | 1, _ => rfl) (by show T.val + 16384 = R.val; omega)).trans ?_
  pointwise [val_main_v9, val_main_v7, val_main_v5, val_main_v6, val_main_v4, val_main_call1_v0, val_main_call1_v1, val_main_call1_v2, val_main_call1_v3, val_main_call1_v4, val_main_call1_v5, val_main_call1_cst, val_main_call1_cst_0, ofBits_one]
  rfl

theorem idx : ∀ t : Fin cfg0.N, (cfg0.win 0).index t = ![t.val / 43, 0] ∧ (cfg0.win 1).index t = ![0, t.val % 43]
    ∧ (cfg0.win 2).index t = ![0, t.val % 43] ∧ (cfg0.win 3).index t = ![t.val / 43, t.val % 43] :=
  (by decide +kernel : ∀ t : Fin grid0.N, _)

variable (m : (ℓ : Loc nD τ sig) → Buf (Elt Ideal) ℓ)

theorem rows_lat (c : Dev nD) (R : Fin 17408) (C : Fin 4096) (h : R.val < 16384) :
    V m c main_v3 (ix2 R C) = m ((c : Thread nD τ).loc main_arg0) (ix3 ⟨R.val / 4096, by omega⟩ ⟨R.val % 4096, by omega⟩ C) := by
  entry_read
  show concatenate S17408x4096 0 [⟨S16384x4096, _⟩, ⟨S1024x4096, _⟩] concatenates_S16384x4096_S1024x4096_S17408x4096_d0 (ix2 R C) = _
  refine (concatenate_pair_apply_left (s₁ := S16384x4096) (s₂ := S1024x4096) (t := S17408x4096) 0 _ _ _ (ix2 R C) rfl (ix2 ⟨R.val, h⟩ C) (fun | 0 => rfl | 1 => rfl)).trans ?_
  pointwise

theorem rows_ctx (c : Dev nD) (R : Fin 17408) (C : Fin 4096) (T : Fin 1024) (h : R.val = 16384 + T.val) :
    V m c main_v3 (ix2 R C) = m ((c : Thread nD τ).loc main_arg1) (ix3 ⟨T.val / 256, by omega⟩ ⟨T.val % 256, by omega⟩ C) := by
  entry_read
  show concatenate S17408x4096 0 [⟨S16384x4096, _⟩, ⟨S1024x4096, _⟩] concatenates_S16384x4096_S1024x4096_S17408x4096_d0 (ix2 R C) = _
  refine (concatenate_pair_apply_right (s₁ := S16384x4096) (s₂ := S1024x4096) (t := S17408x4096) 0 _ _ _ (ix2 R C) rfl rfl (ix2 T C) (fun | 0, hb => absurd rfl hb | 1, _ => rfl) (by show T.val + 16384 = R.val; omega)).trans ?_
  pointwise

theorem rows_blk (c : Dev nD) (t : Fin cfg0.N) (r : Fin 1024) (d : Fin 4096) :
    iblk m c 0 t (ix2 r d) = V m c main_v3 (ix2 ⟨t.val / 43 * 1024 + r.val, by have := lt_of_lt_of_eq t.isLt N_0; omega⟩ d) := by
  obtain ⟨e, -⟩ := idx t
  blk_ext [iblk, e]

theorem gate_blk (c : Dev nD) (t : Fin cfg0.N) (d : Fin 4096) (k : Fin 256) :
    iblk m c 1 t (ix2 d k) = m ((c : Thread nD τ).loc main_arg2) (ix2 d ⟨t.val % 43 * 256 + k.val, by omega⟩) := by
  rw [← V_main_arg2 m c]
  obtain ⟨-, e, -⟩ := idx t
  blk_ext [iblk, e]

theorem up_blk (c : Dev nD) (t : Fin cfg0.N) (d : Fin 4096) (k : Fin 256) :
    iblk m c 2 t (ix2 d k) = m ((c : Thread nD τ).loc main_arg3) (ix2 d ⟨t.val % 43 * 256 + k.val, by omega⟩) := by
  rw [← V_main_arg3 m c]
  obtain ⟨-, -, e, -⟩ := idx t
  blk_ext [iblk, e]

/-- The arguments. -/
abbrev Ha (c : Dev nD) : FVec Ideal S4x4096x4096 .f32 := m ((c : Thread nD τ).loc main_arg0)
abbrev Hc (c : Dev nD) : FVec Ideal S4x256x4096 .f32 := m ((c : Thread nD τ).loc main_arg1)
abbrev Wg (c : Dev nD) : FVec Ideal S4096x11008 .f32 := m ((c : Thread nD τ).loc main_arg2)
abbrev Wu (c : Dev nD) : FVec Ideal S4096x11008 .f32 := m ((c : Thread nD τ).loc main_arg3)

theorem point (c : Dev nD) (t : Fin cfg0.N) (y : S1024x256.Idx) (i : S17408x11008.Idx)
    (h0 : (i 0).val = t.val / 43 * 1024 + (y 0).val) (h1 : (i 1).val = t.val % 43 * 256 + (y 1).val) :
    out0_3 (iblk m c 0 t) (iblk m c 1 t) (iblk m c 2 t) y
      = Cert.Reference2Ideal.Read.val_main_v11 (F := Ideal) (Ha m c) (Hc m c) (Wg m c) (Wu m c) i := by
  obtain ⟨r, k, rfl⟩ : ∃ r k, y = ix2 r k := ⟨y 0, y 1, by funext a; match a with | 0 => rfl | 1 => rfl⟩
  obtain ⟨R, C, rfl⟩ : ∃ R C, i = ix2 R C := ⟨i 0, i 1, by funext a; match a with | 0 => rfl | 1 => rfl⟩
  have ht : t.val < 731 := lt_of_lt_of_eq t.isLt N_0
  have eR : R = ⟨t.val / 43 * 1024 + r.val, by omega⟩ := Fin.ext h0
  have eC : C = ⟨t.val % 43 * 256 + k.val, by omega⟩ := Fin.ext h1
  frame_out
  refine (pay_at _ _ _ r k).trans ?_
  by_cases h : R.val < 16384
  · rw [ref_lat _ _ _ _ R C h]
    refine congrArg₂ gated (Finset.sum_congr rfl fun d _ => congrArg₂ (· * ·) ?_ ?_) (Finset.sum_congr rfl fun d _ => congrArg₂ (· * ·) ?_ ?_)
    · exact (rows_blk m c t r d).trans (by rw [← eR]; exact rows_lat m c R d h)
    · rw [eC]; exact gate_blk m c t d k
    · exact (rows_blk m c t r d).trans (by rw [← eR]; exact rows_lat m c R d h)
    · rw [eC]; exact up_blk m c t d k
  · have hT : R.val = 16384 + (⟨R.val - 16384, by omega⟩ : Fin 1024).val := by show R.val = 16384 + (R.val - 16384); omega
    rw [ref_ctx _ _ _ _ R C _ hT]
    refine congrArg₂ gated (Finset.sum_congr rfl fun d _ => congrArg₂ (· * ·) ?_ ?_) (Finset.sum_congr rfl fun d _ => congrArg₂ (· * ·) ?_ ?_)
    · exact (rows_blk m c t r d).trans (by rw [← eR]; exact rows_ctx m c R d _ hT)
    · rw [eC]; exact gate_blk m c t d k
    · exact (rows_blk m c t r d).trans (by rw [← eR]; exact rows_ctx m c R d _ hT)
    · rw [eC]; exact up_blk m c t d k

/-- The result is the reference's. -/
theorem final (c : Dev nD) : (dats m 0 c).arrAt 3 cfg0.N
    = Cert.Reference2Ideal.Read.val_main_v11 (F := Ideal) (Ha m c) (Hc m c) (Wg m c) (Wu m c) := by
  refine (dats m 0 c).arrAt_eq_of_covers 3 _ (by decide +kernel) fun t _ y => ?_
  blk_simp
  rw [after0_3]
  refine point m c t y _ ?_ ?_
  all_goals (have e := (idx t).2.2.2; blk_simp [e] <;> try omega)

end Cert.Kernel2Ideal.Value
end
-- ==== Proof.FfnDown.lean ====
/- THE FEED-FORWARD LAYER'S SECOND HALF: the value of `x + gate * (act W_down)`, rows of the sequences first and of the contexts after. -/
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit

@[expose] public section

set_option maxRecDepth 16384

noncomputable section

namespace Cert.Kernel3Ideal.Value

open Cert.Kernel3Ideal Cert.Kernel3Ideal.Gen Idealize.ShloMosaic Idealize.ShloMosaic.TcCoe
open Idealize.SL.Sem

theorem pay_at (x0 : FVec Ideal S512x11008 .bf16) (x1 : FVec Ideal S11008x512 .bf16) (x2 : FVec Ideal S512x512 .f32) (x3 : FVec Ideal S1x1x512 .f32)
    (r : Fin 512) (k : Fin 512) :
    k0_pay1 (F := Ideal) x0 x1 x2 x3 (ix2 r k)
      = x2 (ix2 r k) + x3 (ix3 0 0 k) * ∑ d : Fin 11008, x0 (ix2 r d) * x1 (ix2 d k) := by
  pointwise [k0_pay1]

variable (x0 : FVec Ideal S4x4096x11008 .f32) (x1 : FVec Ideal S4x256x11008 .f32) (x2 : FVec Ideal S11008x4096 .f32)
  (x3 : FVec Ideal S4x4096x4096 .f32) (x4 : FVec Ideal S4x256x4096 .f32) (x5 : FVec Ideal S4x1x4096 .f32) (x6 : FVec Ideal S1x1x4096 .f32)

open Cert.Reference3Ideal.Read in
/-- The reference in a row of the sequences. -/
theorem ref_lat (R : Fin 17408) (C : Fin 4096) (h : R.val < 16384) :
    val_main_v10 (F := Ideal) x0 x1 x2 x3 x4 x5 x6 (ix2 R C)
      = x3 (ix3 ⟨R.val / 4096, by omega⟩ ⟨R.val % 4096, by omega⟩ C) + x5 (ix3 ⟨R.val / 4096, by omega⟩ 0 C)
          * ∑ d : Fin 11008, x0 (ix3 ⟨R.val / 4096, by omega⟩ ⟨R.val % 4096, by omega⟩ d) * x2 (ix2 d C) := by
  unfold val_main_v10
  refine (concatenate_pair_apply_left (s₁ := S16384x4096) (s₂ := S1024x4096) (t := S17408x4096) 0 _ _ _ (ix2 R C) rfl (ix2 ⟨R.val, h⟩ C) (fun | 0 => rfl | 1 => rfl)).trans ?_
  pointwise [val_main_v8, val_main_v3, val_main_v2, val_main_v1, val_main_v0]

open Cert.Reference3Ideal.Read in
/-- The reference in a row of the contexts. -/
theorem ref_ctx (R : Fin 17408) (C : Fin 4096) (T : Fin 1024) (h : R.val = 16384 + T.val) :
    val_main_v10 (F := Ideal) x0 x1 x2 x3 x4 x5 x6 (ix2 R C)
      = x4 (ix3 ⟨T.val / 256, by omega⟩ ⟨T.val % 256, by omega⟩ C) + x6 (ix3 0 0 C)
          * ∑ d : Fin 11008, x1 (ix3 ⟨T.val / 256, by omega⟩ ⟨T.val % 256, by omega⟩ d) * x2 (ix2 d C) := by
  unfold val_main_v10
  refine (concatenate_pair_apply_right (s₁ := S16384x4096) (s₂ := S1024x4096) (t := S17408x4096) 0 _ _ _ (ix2 R C) rfl rfl (ix2 T C) (fun | 0, hb => absurd rfl hb | 1, _ => rfl) (by show T.val + 16384 = R.val; omega)).trans ?_
  pointwise [val_main_v9, val_main_v7, val_main_v6, val_main_v5, val_main_v4]

theorem idx : ∀ t : Fin cfg0.N, (cfg0.win 0).index t = ![t.val / 8, 0] ∧ (cfg0.win 1).index t = ![0, t.val % 8]
    ∧ (cfg0.win 2).index t = ![t.val / 8, t.val % 8] ∧ (cfg0.win 3).index t = ![t.val / 64, 0, t.val % 8]
    ∧ (cfg0.win 4).index t = ![t.val / 8, t.val % 8] :=
  (by decide +kernel : ∀ t : Fin grid0.N, _)

variable (m : (ℓ : Loc nD τ sig) → Buf (Elt Ideal) ℓ)

theorem act_lat (c : Dev nD) (R : Fin 17408) (C : Fin 11008) (h : R.val < 16384) :
    V m c main_v6 (ix2 R C) = m ((c : Thread nD τ).loc main_arg0) (ix3 ⟨R.val / 4096, by omega⟩ ⟨R.val % 4096, by omega⟩ C) := by
  entry_read
  show concatenate S17408x11008 0 [⟨S16384x11008, _⟩, ⟨S1024x11008, _⟩] concatenates_S16384x11008_S1024x11008_S17408x11008_d0 (ix2 R C) = _
  refine (concatenate_pair_apply_left (s₁ := S16384x11008) (s₂ := S1024x11008) (t := S17408x11008) 0 _ _ _ (ix2 R C) rfl (ix2 ⟨R.val, h⟩ C) (fun | 0 => rfl | 1 => rfl)).trans ?_
  pointwise

theorem act_ctx (c : Dev nD) (R : Fin 17408) (C : Fin 11008) (T : Fin 1024) (h : R.val = 16384 + T.val) :
    V m c main_v6 (ix2 R C) = m ((c : Thread nD τ).loc main_arg1) (ix3 ⟨T.val / 256, by omega⟩ ⟨T.val % 256, by omega⟩ C) := by
  entry_read
  show concatenate S17408x11008 0 [⟨S16384x11008, _⟩, ⟨S1024x11008, _⟩] concatenates_S16384x11008_S1024x11008_S17408x11008_d0 (ix2 R C) = _
  refine (concatenate_pair_apply_right (s₁ := S16384x11008) (s₂ := S1024x11008) (t := S17408x11008) 0 _ _ _ (ix2 R C) rfl rfl (ix2 T C) (fun | 0, hb => absurd rfl hb | 1, _ => rfl) (by show T.val + 16384 = R.val; omega)).trans ?_
  pointwise

theorem res_lat (c : Dev nD) (R : Fin 17408) (C : Fin 4096) (h : R.val < 16384) :
    V m c main_v10 (ix2 R C) = m ((c : Thread nD τ).loc main_arg3) (ix3 ⟨R.val / 4096, by omega⟩ ⟨R.val % 4096, by omega⟩ C) := by
  entry_read
  show concatenate S17408x4096 0 [⟨S16384x4096, _⟩, ⟨S1024x4096, _⟩] concatenates_S16384x4096_S1024x4096_S17408x4096_d0 (ix2 R C) = _
  refine (concatenate_pair_apply_left (s₁ := S16384x4096) (s₂ := S1024x4096) (t := S17408x4096) 0 _ _ _ (ix2 R C) rfl (ix2 ⟨R.val, h⟩ C) (fun | 0 => rfl | 1 => rfl)).trans ?_
  pointwise

theorem res_ctx (c : Dev nD) (R : Fin 17408) (C : Fin 4096) (T : Fin 1024) (h : R.val = 16384 + T.val) :
    V m c main_v10 (ix2 R C) = m ((c : Thread nD τ).loc main_arg4) (ix3 ⟨T.val / 256, by omega⟩ ⟨T.val % 256, by omega⟩ C) := by
  entry_read
  show concatenate S17408x4096 0 [⟨S16384x4096, _⟩, ⟨S1024x4096, _⟩] concatenates_S16384x4096_S1024x4096_S17408x4096_d0 (ix2 R C) = _
  refine (concatenate_pair_apply_right (s₁ := S16384x4096) (s₂ := S1024x4096) (t := S17408x4096) 0 _ _ _ (ix2 R C) rfl rfl (ix2 T C) (fun | 0, hb => absurd rfl hb | 1, _ => rfl) (by show T.val + 16384 = R.val; omega)).trans ?_
  pointwise

theorem gates_lat (c : Dev nD) (b : Fin 8) (C : Fin 4096) (h : b.val < 4) :
    V m c main_v2 (ix3 b 0 C) = m ((c : Thread nD τ).loc main_arg5) (ix3 ⟨b.val, h⟩ 0 C) := by
  entry_read
  refine (concatenate_pair_apply_left (s₁ := S5x1x4096) (s₂ := S3x1x4096) (t := S8x1x4096) 0 _ _ _ (ix3 b 0 C) rfl (ix3 ⟨b.val, by omega⟩ 0 C) (fun | 0 => rfl | 1 => rfl | 2 => rfl)).trans ?_
  refine (concatenate_pair_apply_left (s₁ := S4x1x4096) (s₂ := S1x1x4096) (t := S5x1x4096) 0 _ _ _ (ix3 ⟨b.val, by omega⟩ 0 C) rfl (ix3 ⟨b.val, h⟩ 0 C) (fun | 0 => rfl | 1 => rfl | 2 => rfl)).trans ?_
  rfl

theorem gates_ctx (c : Dev nD) (b : Fin 8) (C : Fin 4096) (h : b.val = 4) :
    V m c main_v2 (ix3 b 0 C) = m ((c : Thread nD τ).loc main_arg6) (ix3 0 0 C) := by
  entry_read
  refine (concatenate_pair_apply_left (s₁ := S5x1x4096) (s₂ := S3x1x4096) (t := S8x1x4096) 0 _ _ _ (ix3 b 0 C) rfl (ix3 ⟨b.val, by omega⟩ 0 C) (fun | 0 => rfl | 1 => rfl | 2 => rfl)).trans ?_
  refine (concatenate_pair_apply_right (s₁ := S4x1x4096) (s₂ := S1x1x4096) (t := S5x1x4096) 0 _ _ _ (ix3 ⟨b.val, by omega⟩ 0 C) rfl rfl (ix3 0 0 C) (fun | 0, hb => absurd rfl hb | 1, _ => rfl | 2, _ => rfl) (by show 0 + 4 = b.val; omega)).trans ?_
  rfl

theorem act_blk (c : Dev nD) (t : Fin cfg0.N) (r : Fin 512) (d : Fin 11008) :
    iblk m c 0 t (ix2 r d) = V m c main_v6 (ix2 ⟨t.val / 8 * 512 + r.val, by have := lt_of_lt_of_eq t.isLt N_0; omega⟩ d) := by
  obtain ⟨e, -⟩ := idx t
  blk_ext [iblk, e]

theorem weight_blk (c : Dev nD) (t : Fin cfg0.N) (d : Fin 11008) (k : Fin 512) :
    iblk m c 1 t (ix2 d k) = m ((c : Thread nD τ).loc main_arg2) (ix2 d ⟨t.val % 8 * 512 + k.val, by omega⟩) := by
  obtain ⟨-, e, -⟩ := idx t
  refine Eq.trans (b := V m c main_v7 (ix2 d ⟨t.val % 8 * 512 + k.val, by omega⟩)) ?_ ?_
  · blk_ext [iblk, e]
  · entry_read; rfl

theorem res_blk (c : Dev nD) (t : Fin cfg0.N) (r : Fin 512) (k : Fin 512) :
    iblk m c 2 t (ix2 r k) = V m c main_v10 (ix2 ⟨t.val / 8 * 512 + r.val, by have := lt_of_lt_of_eq t.isLt N_0; omega⟩ ⟨t.val % 8 * 512 + k.val, by omega⟩) := by
  obtain ⟨-, -, e, -⟩ := idx t
  blk_ext [iblk, e]

theorem gate_blk (c : Dev nD) (t : Fin cfg0.N) (k : Fin 512) :
    iblk m c 3 t (ix3 0 0 k) = V m c main_v2 (ix3 ⟨t.val / 64, by have := lt_of_lt_of_eq t.isLt N_0; omega⟩ 0 ⟨t.val % 8 * 512 + k.val, by omega⟩) := by
  obtain ⟨-, -, -, e, -⟩ := idx t
  blk_ext [iblk, e]

/-- The arguments. -/
abbrev Aa (c : Dev nD) : FVec Ideal S4x4096x11008 .f32 := m ((c : Thread nD τ).loc main_arg0)
abbrev Ac (c : Dev nD) : FVec Ideal S4x256x11008 .f32 := m ((c : Thread nD τ).loc main_arg1)
abbrev Wd (c : Dev nD) : FVec Ideal S11008x4096 .f32 := m ((c : Thread nD τ).loc main_arg2)
abbrev Xa (c : Dev nD) : FVec Ideal S4x4096x4096 .f32 := m ((c : Thread nD τ).loc main_arg3)
abbrev Xc (c : Dev nD) : FVec Ideal S4x256x4096 .f32 := m ((c : Thread nD τ).loc main_arg4)
abbrev Ga (c : Dev nD) : FVec Ideal S4x1x4096 .f32 := m ((c : Thread nD τ).loc main_arg5)
abbrev Gc (c : Dev nD) : FVec Ideal S1x1x4096 .f32 := m ((c : Thread nD τ).loc main_arg6)

theorem point (c : Dev nD) (t : Fin cfg0.N) (y : S512x512.Idx) (i : S17408x4096.Idx)
    (h0 : (i 0).val = t.val / 8 * 512 + (y 0).val) (h1 : (i 1).val = t.val % 8 * 512 + (y 1).val) :
    out0_4 (iblk m c 0 t) (iblk m c 1 t) (iblk m c 2 t) (iblk m c 3 t) y
      = Cert.Reference3Ideal.Read.val_main_v10 (F := Ideal) (Aa m c) (Ac m c) (Wd m c) (Xa m c) (Xc m c) (Ga m c) (Gc m c) i := by
  obtain ⟨r, k, rfl⟩ : ∃ r k, y = ix2 r k := ⟨y 0, y 1, by funext a; match a with | 0 => rfl | 1 => rfl⟩
  obtain ⟨R, C, rfl⟩ : ∃ R C, i = ix2 R C := ⟨i 0, i 1, by funext a; match a with | 0 => rfl | 1 => rfl⟩
  have ht : t.val < 272 := lt_of_lt_of_eq t.isLt N_0
  have hv : R.val = t.val / 8 * 512 + r.val := h0
  have eR : R = ⟨t.val / 8 * 512 + r.val, by omega⟩ := Fin.ext h0
  have eC : C = ⟨t.val % 8 * 512 + k.val, by omega⟩ := Fin.ext h1
  frame_out
  refine (pay_at _ _ _ _ r k).trans ?_
  by_cases h : R.val < 16384
  · rw [ref_lat _ _ _ _ _ _ _ R C h]
    refine congrArg₂ (· + ·) ?_ (congrArg₂ (· * ·) ?_ (Finset.sum_congr rfl fun d _ => congrArg₂ (· * ·) ?_ ?_))
    · exact (res_blk m c t r k).trans (by rw [← eR, ← eC]; exact res_lat m c R C h)
    · refine (gate_blk m c t k).trans ((congrArg _ ?_).trans (gates_lat m c ⟨R.val / 4096, by omega⟩ C (by show R.val / 4096 < 4; omega)))
      rw [eC]
      exact congrArg (fun b => ix3 b 0 _) (Fin.ext (by show t.val / 64 = R.val / 4096; omega))
    · exact (act_blk m c t r d).trans (by rw [← eR]; exact act_lat m c R d h)
    · rw [eC]; exact weight_blk m c t d k
  · have hT : R.val = 16384 + (⟨R.val - 16384, by omega⟩ : Fin 1024).val := by show R.val = 16384 + (R.val - 16384); omega
    rw [ref_ctx _ _ _ _ _ _ _ R C _ hT]
    refine congrArg₂ (· + ·) ?_ (congrArg₂ (· * ·) ?_ (Finset.sum_congr rfl fun d _ => congrArg₂ (· * ·) ?_ ?_))
    · exact (res_blk m c t r k).trans (by rw [← eR, ← eC]; exact res_ctx m c R C _ hT)
    · refine (gate_blk m c t k).trans ((congrArg _ ?_).trans (gates_ctx m c 4 C rfl))
      rw [eC]
      exact congrArg (fun b => ix3 b 0 _) (Fin.ext (by show t.val / 64 = 4; omega))
    · exact (act_blk m c t r d).trans (by rw [← eR]; exact act_ctx m c R d _ hT)
    · rw [eC]; exact weight_blk m c t d k

/-- The result is the reference's. -/
theorem final (c : Dev nD) : (dats m 0 c).arrAt 4 cfg0.N
    = Cert.Reference3Ideal.Read.val_main_v10 (F := Ideal) (Aa m c) (Ac m c) (Wd m c) (Xa m c) (Xc m c) (Ga m c) (Gc m c) := by
  refine (dats m 0 c).arrAt_eq_of_covers 4 _ (by decide +kernel) fun t _ y => ?_
  blk_simp
  rw [after0_4]
  refine point m c t y _ ?_ ?_
  all_goals (have e := (idx t).2.2.2.2; blk_simp [e] <;> try omega)

end Cert.Kernel3Ideal.Value
end
-- ==== Proof.MoeTab.lean ====
/- THE EXPERTS' FIRST PRODUCT, up to its call: what the buffers hold when the call is entered, and the two tables the call
   reads — the expert of each tile of rows and the number of tiles in use. -/
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel4Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel4Ideal Cert.Kernel4Ideal.Gen

variable {F : FTy → Type} [FloatOps F]
local notation "𝕄" => MT nD τ sig Unit (Elt F) ℕ (UR sig nD τ) ℕ
variable (m : (ℓ : Loc nD τ sig) → Buf (Elt F) ℓ)

/-- The host operations before the call, stretch by stretch. -/
abbrev opss : List (List (HloOp τ sig (Elt F))) :=
  [hostOps0, hostOps0_1, hostOps0_2, hostOps0_3, hostOps0_4, hostOps0_5, hostOps0_6]

/-- What the buffers hold when the call is entered. -/
abbrev V (c : Dev nD) (b : Ref sig .tc) : Buf (Elt F) ((c : Thread nD τ).loc b) :=
  StableHlo.after opss.flatten (fun b => m (c, b)) b

theorem opss_fresh : (opss : List (List (HloOp τ sig (Elt F)))).Forall fun ops => ops.Forall fun op => op.fresh = ∅ := by
  simp only [List.Forall]; repeat' constructor

theorem opss_sub : (opss : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main opss opss_sub opss_fresh main_chain

theorem V_main_arg0 (c : Dev nD) : V m c main_arg0 = m ((c : Thread nD τ).loc main_arg0) := by entry_read; rfl
theorem V_main_arg1 (c : Dev nD) : V m c main_arg1 = m ((c : Thread nD τ).loc main_arg1) := by entry_read; rfl
theorem V_main_arg2 (c : Dev nD) : V m c main_arg2 = m ((c : Thread nD τ).loc main_arg2) := by entry_read; rfl
theorem V_main_arg3 (c : Dev nD) : V m c main_arg3 = m ((c : Thread nD τ).loc main_arg3) := by entry_read; rfl

theorem V_rows (c : Dev nD) : V m c main_v22 = truncf .bf16 (m ((c : Thread nD τ).loc main_arg0) : FVec F S36864x4096 .f32) bitsLt_bf16_f32 := by
  entry_read
  rfl

/-- Where each expert's rows end. -/
abbrev ends (c : Dev nD) : IVec S8 32 := V m c main_v7

/-- The expert of each tile. -/
def expertOf (e : IVec S8 32) : IVec S72 32 :=
  minsi (Host.reduce IntOp.addi
    (extui 32 (cmpi .sge
      (broadcastInDim S72x8 ![0, 1] bcast_S72x1_S72x8_0_1 (broadcastInDim S72x1 ![0] bcast_S72_S72x1_0
        (muli (iotaInDim S72 32 0) (broadcastInDim S72 ![] bcast_S_S72 (constantI S_ 32 512#32)))))
      (broadcastInDim S72x8 ![0, 1] bcast_S1x8_S72x8_0_1 (broadcastInDim S1x8 ![1] bcast_S8_S1x8_1 e))) natLt_1_32)
    (constantI S_ 32 0#32) reducesTo_S72x8_S72_d1 h_S_)
    (broadcastInDim S72 ![] bcast_S_S72 (constantI S_ 32 7#32))

set_option maxHeartbeats 1600000 in
theorem V_expert (c : Dev nD) : V m c main_v19 = expertOf (ends m c) := by
  unfold ends
  entry_read
  rfl

/-- A sum of words that are each 0 or 1 is at most the number of them. -/
theorem foldl_le {α : Type} (f : α → BitVec 32) (hf : ∀ i, (f i).toNat ≤ 1) (l : List α) (r : BitVec 32)
    (hr : r.toNat + l.length < 2 ^ 31) : (l.foldl (fun r i => IntOp.addi r (f i)) r).toNat < 2 ^ 31 := by
  induction l generalizing r with
  | nil => simpa using hr
  | cons a l ih =>
    refine ih _ ?_
    have h1 := hf a
    rw [List.length_cons] at hr
    have e : (IntOp.addi r (f a)).toNat = r.toNat + (f a).toNat := by
      show (r + f a).toNat = _
      rw [BitVec.toNat_add, Nat.mod_eq_of_lt (by omega)]
    show (IntOp.addi r (f a)).toNat + l.length < 2 ^ 31
    omega

theorem minsi_le (x : BitVec 32) (h : x.toNat < 2 ^ 31) : (IntOp.minsi x 7#32).toNat < 8 := by
  unfold IntOp.minsi
  split
  · rename_i hs
    rw [BitVec.slt_iff_toInt_lt, BitVec.toInt_eq_toNat_of_lt (by omega)] at hs
    have : (7#32).toInt = 7 := by decide
    omega
  · decide

theorem expert_lt (e : IVec S8 32) (i : S72.Idx) : (expertOf e i).toNat < 8 := by
  unfold expertOf
  refine minsi_le _ ?_
  rw [Host.reduce_eq_foldl]
  refine foldl_le _ (fun i => ?_) _ _ ?_
  · show (BitVec.setWidth 32 _).toNat ≤ 1
    rw [BitVec.toNat_setWidth]
    have := BitVec.isLt (cmpi .sge
      (broadcastInDim S72x8 ![0, 1] bcast_S72x1_S72x8_0_1 (broadcastInDim S72x1 ![0] bcast_S72_S72x1_0
        (muli (iotaInDim S72 32 0) (broadcastInDim S72 ![] bcast_S_S72 (constantI S_ 32 512#32)))))
      (broadcastInDim S72x8 ![0, 1] bcast_S1x8_S72x8_0_1 (broadcastInDim S1x8 ![1] bcast_S8_S1x8_1 e)) i)
    omega
  · refine lt_of_le_of_lt (Nat.add_le_add_left (List.length_filter_le _ _) _) ?_
    rw [List.length_map, List.length_finRange]
    decide

/-- The tables the call reads. -/
def tab : pre0.Contents (Elt F) := fun k => V m (0 : Dev nD) (pre0.ref k)

theorem tab_expert (i : S72.Idx) : ((tab m 0 : S72.Idx → BitVec 32) i).toNat < 8 := by
  have : (tab m 0 : S72.Idx → BitVec 32) = expertOf (ends m 0) := V_expert m 0
  rw [this]
  exact expert_lt _ _

theorem col_lt (i : grid0.Coords) : (i 0).val < 7 := (i 0).isLt

theorem col_ofNat (i : grid0.Coords) : (BitVec.ofNat 32 (i 0).val).toNat = (i 0).val := by
  have := col_lt i
  rw [BitVec.toNat_ofNat, Nat.mod_eq_of_lt (by omega)]

/-- The tables are admissible: every block of weights they name lies in its array. -/
theorem tab_ok : ok0 (tab (F := F) m) := by
  unfold ok0
  refine ⟨fun i => ⟨?_, .inl rfl⟩, fun i => ⟨?_, .inl rfl⟩⟩
  all_goals
    have h1 := col_lt i
    have h2 := col_ofNat i
    intro a
    match a with
    | 0 =>
      refine Nat.lt_of_lt_of_le (Nat.lt_succ_self _) ?_
      exact Nat.mul_le_mul (Nat.succ_le_of_lt (tab_expert m _)) (le_refl 1)
    | 1 => show (0 + 1) * 4096 ≤ 4096; omega
    | 2 => show ((BitVec.ofNat 32 (i 0).val).toNat + 1) * 512 ≤ 3584; omega

/-- They, admissible. -/
def adm : (pcfg0 (F := F)).Adm := ⟨tab m, tab_ok m⟩

end Cert.Kernel4Ideal.Moe
end
-- ==== Proof.MoeBody.lean ====
/- THE EXPERTS' FIRST PRODUCT, one step of its grid: the body at a point, from what the tables say of the point — whether the
   tile is in use, and whether its expert is another than the tile before it had. -/
module

public import proofs.«01_k».proof.Proof.MoeTab

@[expose] public section

set_option maxRecDepth 16384

noncomputable section

namespace Cert.Kernel4Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel4Ideal Cert.Kernel4Ideal.Gen

variable {F : FTy → Type} [FloatOps F]
local notation "𝕄" => MT nD τ sig Unit (Elt F) ℕ (UR sig nD τ) ℕ

/-- The expert the table names for the tile of the point, -/
def tileW (T0 : Vec F S72 .i32) (i : grid0.Coords) : BitVec 32 :=
  T0 ((Rect.unit (s := S72) (k0_off1 i) S1.size (k0_off1_inb i)).emb (Shape.Idx.first (numel1_S1.symm ▸ Nat.one_pos)))
/-- for the tile before it, -/
def prevW (T0 : Vec F S72 .i32) (i : grid0.Coords) : BitVec 32 :=
  T0 ((Rect.unit (s := S72) (k0_off2 i) S1.size (k0_off2_inb i)).emb (Shape.Idx.first (numel1_S1.symm ▸ Nat.one_pos)))
/-- and the number of tiles in use. -/
def usedW (T1 : Vec F S1 .i32) : BitVec 32 :=
  T1 ((Rect.unit (s := S1) ![0] S1.size inb_S1_S1_0).emb (Shape.Idx.first (numel1_S1.symm ▸ Nat.one_pos)))

/-- Whether the point casts its expert's weights anew. -/
def fresh (T0 : Vec F S72 .i32) (T1 : Vec F S1 .i32) (i : grid0.Coords) : BitVec 1 :=
  Scalar.cmpi .ne (Scalar.extui (Scalar.andi (Scalar.cmpi .slt (BitVec.ofNat 32 (i 1).val) (usedW T1))
    (Scalar.ori (Scalar.cmpi .eq (BitVec.ofNat 32 (i 1).val) 0#32) (Scalar.cmpi .ne (tileW T0 i) (prevW T0 i)))) : BitVec 32) 0#32

/-- The cast weights a point leaves: its own block where it casts anew, what it found elsewhere. -/
def heldG (T0 : Vec F S72 .i32) (T1 : Vec F S1 .i32) (i : grid0.Coords) (x : Vec F S1x4096x512 .f32) (s : Vec F S4096x512 .bf16) :
    Vec F S4096x512 .bf16 :=
  if fresh T0 T1 i = 1#1 then k0_pay1 x else s
def heldU (T0 : Vec F S72 .i32) (T1 : Vec F S1 .i32) (i : grid0.Coords) (x : Vec F S1x4096x512 .f32) (s : Vec F S4096x512 .bf16) :
    Vec F S4096x512 .bf16 :=
  if fresh T0 T1 i = 1#1 then k0_pay2 x else s

/-- The block a point leaves: zero past the tiles in use, the gated product of its rows with the cast weights before. -/
def outB (T1 : Vec F S1 .i32) (i : grid0.Coords) (x : Vec F S512x4096 .bf16) (w0 w1 : Vec F S4096x512 .bf16) (d : Vec F S512x512 .bf16) :
    Vec F S512x512 .bf16 :=
  if k0_cond3 i (usedW T1) = 1#1 then k0_pay4 else if k0_cond2 i (usedW T1) = 1#1 then k0_pay3 x w0 w1 else d

/-- A store of a whole buffer leaves its payload. -/
theorem read_writes_whole {sp : Space} {S : Shape} {e : EltTy} (w : View sig .tc sp S e) (f : w.ty.Contents (Elt F))
    {off : Fin S.rank → ℕ} (h : ∀ a, off a = 0) (inb : ∀ a, off a + S.size a ≤ S.size a) (x : S.Idx → Elt F e)
    (L : List (View.Piece (Elt F) S e)) :
    w.read (Elt F) (w.writes (Elt F) f ((⟨Rect.unit off S.size inb, x⟩ : View.Piece (Elt F) S e) :: L)) = x := by
  have h' : off = fun _ => 0 := funext h
  rw [View.read_writes_eq_canon _ _ _ (fun y => ⟨_, List.mem_cons_self, View.mem_set_unit_zero h' inb y⟩)]
  exact View.canon_cons_unit_zero h' inb x L

/-- A load of a whole buffer reads what it holds. -/
theorem readAt_whole {sp : Space} {S : Shape} {e : EltTy} (w : View sig .tc sp S e) (f : w.ty.Contents (Elt F))
    {off : Fin S.rank → ℕ} (h : ∀ a, off a = 0) (inb : ∀ a, off a + S.size a ≤ S.size a) :
    w.readAt (Elt F) (Rect.unit off S.size inb).toLoadRect f = w.read (Elt F) f := by
  have h' : off = fun _ => 0 := funext h
  subst h'
  funext y
  rw [View.readAt_eq_ld]
  refine congrArg (w.read (Elt F) f) ?_
  funext a
  exact Fin.ext (by simp)

set_option maxHeartbeats 2000000 in
theorem sound_kernel (c : Dev nD) (E : Set ℕ) (i : grid0.Coords) (q0 q1 : PosShare TreeShare)
    (arg4 : Memref sig .tc .vmem S512x4096 .bf16) (harg4 : arg4.IsWhole) (arg5 : Memref sig .tc .vmem S1x4096x512 .f32) (harg5 : arg5.IsWhole) (arg6 : Memref sig .tc .vmem S1x4096x512 .f32) (harg6 : arg6.IsWhole) (arg7 : Memref sig .tc .vmem S512x512 .bf16) (harg7 : arg7.IsWhole)
    (T0 : Vec F S72 .i32) (T1 : Vec F S1 .i32)
    (x0 : Vec F S512x4096 .bf16) (x1 x2 : Vec F S1x4096x512 .f32) (d : Vec F S512x512 .bf16) (s0 s1 : Vec F S4096x512 .bf16) (K : PUnit → sProp 𝕄) :
    iprop(owns (c : Thread nD τ) (Memref.whole main_v19 : Memref sig .tc .smem S72 .i32) q0 T0 ∗ owns (c : Thread nD τ) (Memref.whole main_v21 : Memref sig .tc .smem S1 .i32) q1 T1
        ∗ owns (c : Thread nD τ) arg4 fullShare x0 ∗ owns (c : Thread nD τ) arg5 fullShare x1 ∗ owns (c : Thread nD τ) arg6 fullShare x2 ∗ owns (c : Thread nD τ) arg7 fullShare d
        ∗ owns (c : Thread nD τ) (Memref.whole cc0_scratch0 : Memref sig .tc .vmem S4096x512 .bf16) fullShare s0 ∗ owns (c : Thread nD τ) (Memref.whole cc0_scratch1 : Memref sig .tc .vmem S4096x512 .bf16) fullShare s1
        ∗ (iprop(owns (c : Thread nD τ) (Memref.whole main_v19 : Memref sig .tc .smem S72 .i32) q0 T0 ∗ owns (c : Thread nD τ) (Memref.whole main_v21 : Memref sig .tc .smem S1 .i32) q1 T1
            ∗ owns (c : Thread nD τ) arg4 fullShare x0 ∗ owns (c : Thread nD τ) arg5 fullShare x1 ∗ owns (c : Thread nD τ) arg6 fullShare x2
            ∗ owns (c : Thread nD τ) arg7 fullShare (outB T1 i x0 (heldG T0 T1 i x1 s0) (heldU T0 T1 i x2 s1) d)
            ∗ owns (c : Thread nD τ) (Memref.whole cc0_scratch0 : Memref sig .tc .vmem S4096x512 .bf16) fullShare (heldG T0 T1 i x1 s0)
            ∗ owns (c : Thread nD τ) (Memref.whole cc0_scratch1 : Memref sig .tc .vmem S4096x512 .bf16) fullShare (heldU T0 T1 i x2 s1)) -∗ K ⟨⟩))
      ⊢ wp frame (wpE (defs₀ (F := F)) Variants.none c none) E (cc0_moe_gate_up i (Memref.whole main_v19) (Memref.isWhole_whole _) (Memref.whole main_v21) (Memref.isWhole_whole _) arg4 harg4 arg5 harg5 arg6 harg6 arg7 harg7 (Memref.whole cc0_scratch0) (Memref.isWhole_whole _) (Memref.whole cc0_scratch1) (Memref.isWhole_whole _)) K := by
  simp only [cc0_moe_gate_up_eq_skeleton]; unfold cc0_moe_gate_up_skel
  unfold owns
  iintro ⟨⟨%t0, %ht0, Ht0⟩, ⟨%t1, %ht1, Ht1⟩, ⟨%f0, %hf0, H0⟩, ⟨%f1, %hf1, H1⟩, ⟨%f2, %hf2, H2⟩, ⟨%f3, %hf3, H3⟩, ⟨%g0, %hg0, S0⟩, ⟨%g1, %hg1, S1⟩, Hk⟩
  subst hf0 hf1 hf2 hf3 hg0 hg1 ht0 ht1
  sl_exec
  sl_step
  iapply Hk
  isplitl [Ht0]
  · iexists t0; isplitr; · ipureintro; rfl
    iexact Ht0
  isplitl [Ht1]
  · iexists t1; isplitr; · ipureintro; rfl
    iexact Ht1
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  have hz2 : ∀ a : Fin 2, (![0, 0] : Fin 2 → ℕ) a = 0 := by decide
  have hz3 : ∀ a : Fin 3, (![0, 0, 0] : Fin 3 → ℕ) a = 0 := by decide
  have er : sound_kernel.sl.r c t1 = usedW ((Memref.whole main_v21).view.read (Elt F) t1) := rfl
  have ev : sound_kernel.sl.v13 c i t0 t1 = fresh ((Memref.whole main_v19).view.read (Elt F) t0) ((Memref.whole main_v21).view.read (Elt F) t1) i := rfl
  have e0 : View.read (Elt F) (Memref.whole cc0_scratch0).view (if hc : sound_kernel.sl.v13 c i t0 t1 = 1#1 then (Memref.whole cc0_scratch0).view.writes (Elt F) g0 [⟨Rect.unit ![0, 0] S4096x512.size inb_S4096x512_S4096x512_0_0, k0_pay1 (View.readAt (Elt F) arg5.view (Rect.unit ![0, 0, 0] S1x4096x512.size inb_S1x4096x512_S1x4096x512_0_0_0).toLoadRect f1)⟩] else g0)
      = heldG ((Memref.whole main_v19).view.read (Elt F) t0) ((Memref.whole main_v21).view.read (Elt F) t1) i (arg5.view.read (Elt F) f1) ((Memref.whole cc0_scratch0).view.read (Elt F) g0) := by
    unfold heldG
    rw [← ev]
    split_ifs with h1
    · exact (read_writes_whole (S := S4096x512) _ _ hz2 _ _ _).trans (congrArg k0_pay1 (readAt_whole _ _ hz3 _))
    · rfl
  have e1 : View.read (Elt F) (Memref.whole cc0_scratch1).view (if hc : sound_kernel.sl.v13 c i t0 t1 = 1#1 then (Memref.whole cc0_scratch1).view.writes (Elt F) g1 [⟨Rect.unit ![0, 0] S4096x512.size inb_S4096x512_S4096x512_0_0, k0_pay2 (View.readAt (Elt F) arg6.view (Rect.unit ![0, 0, 0] S1x4096x512.size inb_S1x4096x512_S1x4096x512_0_0_0).toLoadRect f2)⟩] else g1)
      = heldU ((Memref.whole main_v19).view.read (Elt F) t0) ((Memref.whole main_v21).view.read (Elt F) t1) i (arg6.view.read (Elt F) f2) ((Memref.whole cc0_scratch1).view.read (Elt F) g1) := by
    unfold heldU
    rw [← ev]
    split_ifs with h1
    · exact (read_writes_whole (S := S4096x512) _ _ hz2 _ _ _).trans (congrArg k0_pay2 (readAt_whole _ _ hz3 _))
    · rfl
  have e2 : sound_kernel.sl.v21 c i arg5 t0 t1 f1 g0 = heldG ((Memref.whole main_v19).view.read (Elt F) t0) ((Memref.whole main_v21).view.read (Elt F) t1) i (arg5.view.read (Elt F) f1) ((Memref.whole cc0_scratch0).view.read (Elt F) g0) := by
    rw [← e0]
    exact readAt_whole _ _ hz2 _
  have e3 : sound_kernel.sl.v23 c i arg6 t0 t1 f2 g1 = heldU ((Memref.whole main_v19).view.read (Elt F) t0) ((Memref.whole main_v21).view.read (Elt F) t1) i (arg6.view.read (Elt F) f2) ((Memref.whole cc0_scratch1).view.read (Elt F) g1) := by
    rw [← e1]
    exact readAt_whole _ _ hz2 _
  isplitl [H3]
  · iexists _
    isplitr; swap; · iexact H3
    ipureintro
    unfold outB
    rw [← er, ← e2, ← e3]
    split_ifs with h1 h2
    · exact read_writes_whole _ _ hz2 _ _ _
    · exact (read_writes_whole _ _ hz2 _ _ _)
    · rw [read_writes_whole _ _ hz2, readAt_whole _ _ hz2]
    · rfl
  isplitl [S0]
  · iexists _
    isplitr; swap; · iexact S0
    ipureintro
    exact e0
  · iexists _
    isplitr; swap; · iexact S1
    ipureintro
    exact e1

end Cert.Kernel4Ideal.Moe
end
-- ==== Proof.MoeData.lean ====
/- THE EXPERTS' FIRST PRODUCT, its proof data: the cast weights a point finds in the buffers it keeps are its own expert's
   wherever its tile is in use, so each point in use leaves the gated product of its own blocks, and every other zero. -/
module

public import proofs.«01_k».proof.Proof.MoeBody

@[expose] public section

set_option maxRecDepth 16384

noncomputable section

namespace Cert.Kernel4Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel4Ideal Cert.Kernel4Ideal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## The words -/

theorem tile_word (T0 : Vec F S72 .i32) (i : grid0.Coords) : tileW T0 i = T0 (ix1 (⟨(i 1).val, (i 1).isLt⟩ : Fin 72)) := by
  have h : ∀ n : Fin 72, (Scalar.indexCast (BitVec.ofNat 32 n.val) : BitVec 32).toNat = n.val := by decide
  unfold tileW
  refine congrArg T0 (funext fun a => Fin.ext ?_)
  obtain rfl := Subsingleton.elim a (0 : Fin 1)
  have e := h (i 1)
  simp only [k0_off1]
  exact e

theorem prev_word (T0 : Vec F S72 .i32) (i : grid0.Coords) :
    prevW T0 i = T0 (ix1 (⟨(i 1).val - 1, lt_of_le_of_lt (Nat.sub_le _ _) (i 1).isLt⟩ : Fin 72)) := by
  have h : ∀ n : Fin 72, (Scalar.indexCast (Scalar.maxsi (Scalar.subi (BitVec.ofNat 32 n.val) 1#32) 0#32) : BitVec 32).toNat = n.val - 1 := by decide
  unfold prevW
  refine congrArg T0 (funext fun a => Fin.ext ?_)
  obtain rfl := Subsingleton.elim a (0 : Fin 1)
  have e := h (i 1)
  simp only [k0_off2]
  exact e

/-- A tile is in use iff its number is below the number of tiles in use. -/
theorem cond2_iff (i : grid0.Coords) (r : BitVec 32) : k0_cond2 i r = 1#1 ↔ (BitVec.ofNat 32 (i 1).val).toInt < r.toInt := by
  show Scalar.cmpi .ne (Scalar.extui (BitVec.ofBool (decide ((BitVec.ofNat 32 (i 1).val).toInt < r.toInt))) : BitVec 32) 0#32 = 1#1 ↔ _
  by_cases h : (BitVec.ofNat 32 (i 1).val).toInt < r.toInt
  · simp only [h]; decide
  · simp only [h]; decide

theorem cond3_iff (i : grid0.Coords) (r : BitVec 32) : k0_cond3 i r = 1#1 ↔ ¬ k0_cond2 i r = 1#1 := by
  show Scalar.cmpi .ne (Scalar.extui (Scalar.xori (BitVec.ofBool (decide ((BitVec.ofNat 32 (i 1).val).toInt < r.toInt))) 1#1) : BitVec 32) 0#32 = 1#1
    ↔ ¬ Scalar.cmpi .ne (Scalar.extui (BitVec.ofBool (decide ((BitVec.ofNat 32 (i 1).val).toInt < r.toInt))) : BitVec 32) 0#32 = 1#1
  by_cases h : (BitVec.ofNat 32 (i 1).val).toInt < r.toInt
  · simp only [h]; decide
  · simp only [h]; decide

theorem fresh_iff (T0 : Vec F S72 .i32) (T1 : Vec F S1 .i32) (i : grid0.Coords) :
    fresh T0 T1 i = 1#1 ↔ (BitVec.ofNat 32 (i 1).val).toInt < (usedW T1).toInt ∧ (BitVec.ofNat 32 (i 1).val = 0#32 ∨ tileW T0 i ≠ prevW T0 i) := by
  unfold fresh
  rw [show (Scalar.cmpi .slt (BitVec.ofNat 32 (i 1).val) (usedW T1)) = BitVec.ofBool (decide ((BitVec.ofNat 32 (i 1).val).toInt < (usedW T1).toInt)) from rfl,
    show (Scalar.cmpi .eq (BitVec.ofNat 32 (i 1).val) 0#32) = BitVec.ofBool (decide (BitVec.ofNat 32 (i 1).val = 0#32)) from WordCmp.cmpi_eq_eq _ _,
    show (Scalar.cmpi .ne (tileW T0 i) (prevW T0 i)) = BitVec.ofBool (decide (tileW T0 i ≠ prevW T0 i)) from WordCmp.cmpi_ne_eq _ _]
  have h : ∀ (p q r : Prop) [Decidable p] [Decidable q] [Decidable r],
      Scalar.cmpi .ne (Scalar.extui (Scalar.andi (BitVec.ofBool (decide p)) (Scalar.ori (BitVec.ofBool (decide q)) (BitVec.ofBool (decide r)))) : BitVec 32) 0#32 = 1#1
        ↔ p ∧ (q ∨ r) := by
    intro p q r _ _ _
    by_cases hp : p <;> by_cases hq : q <;> by_cases hr : r <;> simp only [hp, hq, hr] <;> decide
  exact h _ _ _

theorem outB_eq (T1 : Vec F S1 .i32) (i : grid0.Coords) (x : Vec F S512x4096 .bf16) (w0 w1 : Vec F S4096x512 .bf16) (d : Vec F S512x512 .bf16) :
    outB T1 i x w0 w1 d = if k0_cond2 i (usedW T1) = 1#1 then k0_pay3 x w0 w1 else k0_pay4 := by
  unfold outB
  by_cases h : k0_cond2 i (usedW T1) = 1#1
  · rw [if_neg (fun h3 => (cond3_iff _ _).mp h3 h), if_pos h, if_pos h]
  · rw [if_pos ((cond3_iff _ _).mpr h), if_neg h]

/-- The result's window is written at every point. -/
theorem idle3 (pf : pre0.Contents (Elt F)) (i : grid0.Coords) : idle0 pf 3 i = false := by
  show (!(k0_cond2 i (pf.atD 1 ![0]) == 1#1) && !(k0_cond3 i (pf.atD 1 ![0]) == 1#1)) = false
  by_cases h : k0_cond2 i (pf.atD 1 ![0]) = 1#1
  · rw [h]; rfl
  · rw [(cond3_iff _ _).mpr h]; simp

/-! ## The grid -/

theorem col_of (t : Fin grid0.N) : (grid0.coords t 0).val = t.val / 72 := by
  have h : ∀ t : Fin grid0.N, (grid0.coords t 0).val = t.val / 72 := by decide +kernel
  exact h t
theorem row_of (t : Fin grid0.N) : (grid0.coords t 1).val = t.val % 72 := by
  have h : ∀ t : Fin grid0.N, (grid0.coords t 1).val = t.val % 72 := by decide +kernel
  exact h t

/-! ## The proof data, at any tables the call admits -/

section
variable (a : (pcfg0 (F := F)).Adm)

/-- The tables: the expert of each tile, and the number of tiles in use. -/
def tE : Vec F S72 .i32 := a.1 0
def tU : Vec F S1 .i32 := a.1 1

/-- Window `w`'s block at point `t`. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

/-- The rows, and the two weights, of the point. -/
def xB (c : Dev nD) (t : Fin (cfg0 a).N) : Vec F S512x4096 .bf16 := iblk m a c 0 t
def gB (c : Dev nD) (t : Fin (cfg0 a).N) : Vec F S1x4096x512 .f32 := iblk m a c 1 t
def uB (c : Dev nD) (t : Fin (cfg0 a).N) : Vec F S1x4096x512 .f32 := iblk m a c 2 t

/-- The tile of the point is in use. -/
def live (t : Fin (cfg0 a).N) : Prop := k0_cond2 (grid0.coords t) (usedW (tU a)) = 1#1
instance (t : Fin (cfg0 a).N) : Decidable (live a t) := by unfold live; infer_instance

/-- The block a point leaves. -/
def oB (c : Dev nD) (t : Fin (cfg0 a).N) : Vec F S512x512 .bf16 :=
  if live a t then k0_pay3 (xB m a c t) (k0_pay1 (gB m a c t)) (k0_pay2 (uB m a c t)) else k0_pay4

/-- Between points: where the point before had its tile in use, the kept buffers hold its cast weights. -/
def carry (c : Dev nD) (n : ℕ) (s0 s1 : Vec F S4096x512 .bf16) : Prop :=
  ∀ t : Fin (cfg0 a).N, t.val + 1 = n → live a t → s0 = k0_pay1 (gB m a c t) ∧ s1 = k0_pay2 (uB m a c t)

/-- Between points: the tables, the kept buffers and the generator's register. -/
def PhiAt (c : Dev nD) (n : ℕ) : sProp 𝕄 :=
  iprop((owns (c : Thread nD τ) (Memref.whole main_v19 : Memref sig .tc .smem S72 .i32) fullShare.right (tE a)
      ∗ owns (c : Thread nD τ) (Memref.whole main_v21 : Memref sig .tc .smem S1 .i32) fullShare.right (tU a))
    ∗ (∃ s0 s1, ⌜carry m a c n s0 s1⌝
      ∗ owns (c : Thread nD τ) (Memref.whole cc0_scratch0 : Memref sig .tc .vmem S4096x512 .bf16) fullShare s0
      ∗ owns (c : Thread nD τ) (Memref.whole cc0_scratch1 : Memref sig .tc .vmem S4096x512 .bf16) fullShare s1)
    ∗ ∃ r, prngReg c r)

def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => oB m a c t
  Φ t := PhiAt m a c t.val
  q _ := fullShare
  owed _ := 0

theorem A_eq (c : Dev nD) (w : Fin (cfg0 a).W) : (dats m a 0 c).A w = V m c (Pipeline.arrRef spec0 w) := by dsimp only [dats]
theorem after0_0 (c : Dev nD) (t : Fin (cfg0 a).N) : (dats m a 0 c).after 0 t = iblk m a c 0 t := by dsimp only [dats]; rfl
theorem after0_1 (c : Dev nD) (t : Fin (cfg0 a).N) : (dats m a 0 c).after 1 t = iblk m a c 1 t := by dsimp only [dats]; rfl
theorem after0_2 (c : Dev nD) (t : Fin (cfg0 a).N) : (dats m a 0 c).after 2 t = iblk m a c 2 t := by dsimp only [dats]; rfl
theorem after0_3 (c : Dev nD) (t : Fin (cfg0 a).N) : (dats m a 0 c).after 3 t = oB m a c t := by dsimp only [dats]; rfl

theorem fetched1 (c : Dev nD) (t : Fin (cfg0 a).N) (d) : (dats m a 0 c).fetched 1 t d = gB m a c t := by
  unfold Dat.fetched Dat.blockOf gB iblk; rw [A_eq]; rfl
theorem fetched2 (c : Dev nD) (t : Fin (cfg0 a).N) (d) : (dats m a 0 c).fetched 2 t d = uB m a c t := by
  unfold Dat.fetched Dat.blockOf uB iblk; rw [A_eq]; rfl

theorem before0_0 (c : Dev nD) (t : Fin (cfg0 a).N) (d) : (dats m a 0 c).before 0 t d = xB m a c t :=
  ((dats m a 0 c).before_in_eq_fetched 0 rfl (fun _ => rfl) (fun _ _ _ => rfl) (fun t => by rw [after0_0]; unfold Dat.blockOf iblk; rw [A_eq]) t d).trans
    (by unfold Dat.fetched Dat.blockOf xB iblk; rw [A_eq]; rfl)
theorem before0_1 (c : Dev nD) (t : Fin (cfg0 a).N) (d) : (dats m a 0 c).before 1 t d = gB m a c t :=
  ((dats m a 0 c).before_in_eq_fetched 1 rfl (fun _ => rfl) (fun _ _ _ => rfl) (fun t => by rw [after0_1]; unfold Dat.blockOf iblk; rw [A_eq]) t d).trans
    (fetched1 m a c t d)
theorem before0_2 (c : Dev nD) (t : Fin (cfg0 a).N) (d) : (dats m a 0 c).before 2 t d = uB m a c t :=
  ((dats m a 0 c).before_in_eq_fetched 2 rfl (fun _ => rfl) (fun _ _ _ => rfl) (fun t => by rw [after0_2]; unfold Dat.blockOf iblk; rw [A_eq]) t d).trans
    (fetched2 m a c t d)

/-- A block is its index's. -/
theorem gB_congr (c : Dev nD) (t t' : Fin (cfg0 a).N) (h : ((cfg0 a).win 1).index t = ((cfg0 a).win 1).index t') : gB m a c t = gB m a c t' := by
  rw [← fetched1 m a c t (fun _ => default), ← fetched1 m a c t' (fun _ => default)]
  exact (dats m a 0 c).fetched_congr 1 h rfl _
theorem uB_congr (c : Dev nD) (t t' : Fin (cfg0 a).N) (h : ((cfg0 a).win 2).index t = ((cfg0 a).win 2).index t') : uB m a c t = uB m a c t' := by
  rw [← fetched2 m a c t (fun _ => default), ← fetched2 m a c t' (fun _ => default)]
  exact (dats m a 0 c).fetched_congr 2 h rfl _

theorem index1 (t : Fin (cfg0 a).N) : ((cfg0 a).win 1).index t = ![(tileW (tE a) (grid0.coords t)).toNat, (0#32).toNat, (BitVec.ofNat 32 (grid0.coords t 0).val).toNat] := rfl
theorem index2 (t : Fin (cfg0 a).N) : ((cfg0 a).win 2).index t = ![(tileW (tE a) (grid0.coords t)).toNat, (0#32).toNat, (BitVec.ofNat 32 (grid0.coords t 0).val).toNat] := rfl

/-- A point in use ends with its own cast weights in the kept buffers. -/
theorem held (c : Dev nD) (t : Fin (cfg0 a).N) (s0 s1 : Vec F S4096x512 .bf16) (hc : carry m a c t.val s0 s1) (hl : live a t) :
    heldG (tE a) (tU a) (grid0.coords t) (gB m a c t) s0 = k0_pay1 (gB m a c t)
      ∧ heldU (tE a) (tU a) (grid0.coords t) (uB m a c t) s1 = k0_pay2 (uB m a c t) := by
  unfold heldG heldU
  by_cases hf : fresh (tE a) (tU a) (grid0.coords t) = 1#1
  · rw [if_pos hf, if_pos hf]; exact ⟨rfl, rfl⟩
  · rw [if_neg hf, if_neg hf]
    have hlt := (cond2_iff _ _).mp hl
    rw [fresh_iff] at hf
    have hN : t.val < 504 := N_0 ▸ t.isLt
    have h0 : (grid0.coords t 1).val ≠ 0 := fun e => hf ⟨hlt, .inl (by rw [e])⟩
    have hte : tileW (tE a) (grid0.coords t) = prevW (tE a) (grid0.coords t) := Classical.byContradiction fun h => hf ⟨hlt, .inr h⟩
    have hr := row_of t
    let t' : Fin (cfg0 a).N := ⟨t.val - 1, lt_of_le_of_lt (Nat.sub_le _ _) t.isLt⟩
    have hr' := row_of t'
    have hc0 := col_of t
    have hc1 := col_of t'
    have ht' : t'.val = t.val - 1 := rfl
    have e1 : (grid0.coords t' 1).val = (grid0.coords t 1).val - 1 := by rw [hr', hr, ht']; omega
    have e0 : (grid0.coords t' 0).val = (grid0.coords t 0).val := by rw [hc0, hc1, ht']; omega
    have hl' : live a t' := by
      refine (cond2_iff _ _).mpr (lt_trans ?_ hlt)
      have hb : (grid0.coords t 1).val < 72 := by rw [hr]; exact Nat.mod_lt _ (by decide)
      rw [e1, WordCmp.toInt_ofNat_of_lt (by omega), WordCmp.toInt_ofNat_of_lt (by omega)]
      omega
    have hw : tileW (tE a) (grid0.coords t') = tileW (tE a) (grid0.coords t) := by
      rw [hte, tile_word, prev_word]
      exact congrArg (fun x => tE a (ix1 x)) (Fin.ext e1)
    obtain ⟨h1, h2⟩ := hc t' (by rw [ht']; omega) hl'
    refine ⟨h1.trans (congrArg k0_pay1 (gB_congr m a c _ _ ?_)), h2.trans (congrArg k0_pay2 (uB_congr m a c _ _ ?_))⟩
    · rw [index1, index1, hw, e0]
    · rw [index2, index2, hw, e0]

theorem carry_succ (c : Dev nD) (t : Fin (cfg0 a).N) (s0 s1 : Vec F S4096x512 .bf16) (hc : carry m a c t.val s0 s1) :
    carry m a c (t.val + 1) (heldG (tE a) (tU a) (grid0.coords t) (gB m a c t) s0) (heldU (tE a) (tU a) (grid0.coords t) (uB m a c t) s1) := by
  intro t' ht' hl
  obtain rfl : t' = t := Fin.ext (by omega)
  exact held m a c _ s0 s1 hc hl

theorem out_eq (c : Dev nD) (t : Fin (cfg0 a).N) (s0 s1 : Vec F S4096x512 .bf16) (hc : carry m a c t.val s0 s1) (d : Vec F S512x512 .bf16) :
    outB (tU a) (grid0.coords t) (xB m a c t) (heldG (tE a) (tU a) (grid0.coords t) (gB m a c t) s0) (heldU (tE a) (tU a) (grid0.coords t) (uB m a c t) s1) d
      = oB m a c t := by
  rw [outB_eq]; unfold oB
  by_cases hl : live a t
  · rw [if_pos hl]; refine (if_pos hl).trans ?_; rw [(held m a c t s0 s1 hc hl).1, (held m a c t s0 s1 hc hl).2]
  · rw [if_neg hl]; exact if_neg hl

end

end Cert.Kernel4Ideal.Moe
end
-- ==== Proof.MoeRun.lean ====
/- THE EXPERTS' FIRST PRODUCT, its run: the obligation of the body at every point, the run of the program and its frame. -/
module

public import proofs.«01_k».proof.Proof.MoeData

@[expose] public section

set_option maxRecDepth 16384

noncomputable section

namespace Cert.Kernel4Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel4Ideal Cert.Kernel4Ideal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)
/-! ## The body at a point -/

section
variable (a : (pcfg0 (F := F)).Adm)

abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)
abbrev st0_3 (t : Fin (cfg0 a).N) := ((cfg0 a).win 3).stage ((cfg0 a).slots t 3)

/-- The body on the buffers the point is called with. -/
abbrev bodyAt0 (t : Fin (cfg0 a).N) : Prog (TpuEff nD τ sig (Elt F) Λ₀ .tc) PUnit :=
  cc0_moe_gate_up (grid0.coords t) (Memref.whole main_v19) (Memref.isWhole_whole _) (Memref.whole main_v21) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _)

def bodyPre (c : Dev nD) (t : Fin (cfg0 a).N) : sProp 𝕄 :=
  iprop((dats m a 0 c).Φ t.castSucc ∗ (dats m a 0 c).owesAt () t.castSucc
    ∗ (∃ d, owns (c : Thread nD τ) (st0_0 a t : Memref sig .tc .vmem S512x4096 .bf16) fullShare ((dats m a 0 c).before 0 t d))
    ∗ (∃ d, owns (c : Thread nD τ) (st0_1 a t : Memref sig .tc .vmem S1x4096x512 .f32) fullShare ((dats m a 0 c).before 1 t d))
    ∗ (∃ d, owns (c : Thread nD τ) (st0_2 a t : Memref sig .tc .vmem S1x4096x512 .f32) fullShare ((dats m a 0 c).before 2 t d))
    ∗ (∃ d, owns (c : Thread nD τ) (st0_3 a t : Memref sig .tc .vmem S512x512 .bf16) fullShare ((dats m a 0 c).before 3 t d)))

def bodyPost (c : Dev nD) (t : Fin (cfg0 a).N) : sProp 𝕄 :=
  iprop((dats m a 0 c).Φ t.succ ∗ (dats m a 0 c).owesAt () t.succ
    ∗ owns (c : Thread nD τ) (st0_0 a t : Memref sig .tc .vmem S512x4096 .bf16) fullShare ((dats m a 0 c).after 0 t)
    ∗ owns (c : Thread nD τ) (st0_1 a t : Memref sig .tc .vmem S1x4096x512 .f32) fullShare ((dats m a 0 c).after 1 t)
    ∗ owns (c : Thread nD τ) (st0_2 a t : Memref sig .tc .vmem S1x4096x512 .f32) fullShare ((dats m a 0 c).after 2 t)
    ∗ owns (c : Thread nD τ) (st0_3 a t : Memref sig .tc .vmem S512x512 .bf16) fullShare ((dats m a 0 c).after 3 t))

theorem Phi_eq (c : Dev nD) (t : Fin ((cfg0 a).N + 1)) : (dats m a 0 c).Φ t = PhiAt m a c t.val := by dsimp only [dats]
theorem Phi_castSucc (c : Dev nD) (t : Fin (cfg0 a).N) : (dats m a 0 c).Φ t.castSucc = PhiAt m a c t.val := by rw [Phi_eq, Fin.val_castSucc]
theorem Phi_succ (c : Dev nD) (t : Fin (cfg0 a).N) : (dats m a 0 c).Φ t.succ = PhiAt m a c (t.val + 1) := by rw [Phi_eq, Fin.val_succ]

set_option maxHeartbeats 1000000 in
/-- The body at point `t`, on any buffers holding the point's blocks. -/
theorem sound_point (c : Dev nD) (t : Fin (cfg0 a).N) (O : sProp 𝕄)
    (arg4 : Memref sig .tc .vmem S512x4096 .bf16) (harg4 : arg4.IsWhole) (arg5 : Memref sig .tc .vmem S1x4096x512 .f32) (harg5 : arg5.IsWhole) (arg6 : Memref sig .tc .vmem S1x4096x512 .f32) (harg6 : arg6.IsWhole) (arg7 : Memref sig .tc .vmem S512x512 .bf16) (harg7 : arg7.IsWhole)
    (d : Vec F S512x512 .bf16) :
    iprop(PhiAt m a c t.val ∗ O
        ∗ owns (c : Thread nD τ) arg4 fullShare (xB m a c t) ∗ owns (c : Thread nD τ) arg5 fullShare (gB m a c t)
        ∗ owns (c : Thread nD τ) arg6 fullShare (uB m a c t) ∗ owns (c : Thread nD τ) arg7 fullShare d)
      ⊢ wp frame (wpE (defs₀ (F := F)) Variants.none c none) Set.univ
        (cc0_moe_gate_up (grid0.coords t) (Memref.whole main_v19) (Memref.isWhole_whole _) (Memref.whole main_v21) (Memref.isWhole_whole _) arg4 harg4 arg5 harg5 arg6 harg6 arg7 harg7 (Memref.whole cc0_scratch0) (Memref.isWhole_whole _) (Memref.whole cc0_scratch1) (Memref.isWhole_whole _))
        (fun _ => iprop(PhiAt m a c (t.val + 1) ∗ O
          ∗ owns (c : Thread nD τ) arg4 fullShare (xB m a c t) ∗ owns (c : Thread nD τ) arg5 fullShare (gB m a c t)
          ∗ owns (c : Thread nD τ) arg6 fullShare (uB m a c t) ∗ owns (c : Thread nD τ) arg7 fullShare (oB m a c t))) := by
  unfold PhiAt
  iintro ⟨⟨⟨T0, T1⟩, ⟨%s0, %s1, %hc, S0, S1⟩, Hg⟩, Ho, H0, H1, H2, H3⟩
  iapply (sound_kernel c Set.univ (grid0.coords t) fullShare.right fullShare.right arg4 harg4 arg5 harg5 arg6 harg6 arg7 harg7 (tE a) (tU a) (xB m a c t) (gB m a c t) (uB m a c t) d s0 s1 _)
  isplitl [T0]; · iexact T0
  isplitl [T1]; · iexact T1
  isplitl [H0]; · iexact H0
  isplitl [H1]; · iexact H1
  isplitl [H2]; · iexact H2
  isplitl [H3]; · iexact H3
  isplitl [S0]; · iexact S0
  isplitl [S1]; · iexact S1
  rw [out_eq m a c t s0 s1 hc]
  iintro ⟨T0, T1, H0, H1, H2, H3, S0, S1⟩
  isplitl [T0 T1 S0 S1 Hg]
  · isplitl [T0 T1]
    · isplitl [T0]; · iexact T0
      iexact T1
    isplitl [S0 S1]
    · iexists _; iexists _
      isplitr; · ipureintro; exact carry_succ m a c t s0 s1 hc
      isplitl [S0]; · iexact S0
      iexact S1
    iexact Hg
  isplitl [Ho]; · iexact Ho
  isplitl [H0]; · iexact H0
  isplitl [H1]; · iexact H1
  isplitl [H2]; · iexact H2
  iexact H3

theorem sound_body (c : Dev nD) (t : Fin (cfg0 a).N) :
    bodyPre m a c t ⊢ wp frame (wpE (defs₀ (F := F)) Variants.none c none) Set.univ (bodyAt0 a t) (fun _ => bodyPost m a c t) := by
  unfold bodyPre bodyPost bodyAt0
  simp only [before0_0, before0_1, before0_2]
  rw [Phi_castSucc, Phi_succ, show (dats m a 0 c).owesAt () t.succ = (dats m a 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_point m a c t ((dats m a 0 c).owesAt () t.castSucc) _ _ _ _ _ _ _ _ ((dats m a 0 c).before 3 t d3))
  isplitl [HΦ]; · iexact HΦ
  isplitl [Ho]; · iexact Ho
  isplitl [H0]; · iexact H0
  isplitl [H1]; · iexact H1
  isplitl [H2]; · iexact H2
  iexact H3

theorem defs₀_row (t : Fin (cfg0 a).N) :
    defs₀ (F := F) .tc (cfg0 a).body ((cfg0 a).bodyArgs t ((cfg0 a).slots t)) = bodyAt0 a t := by
  unfold defs₀; rw [Defs.onTc_tc]

theorem kept_of_live {b : Bool} (h : b = false) {Q R : sProp 𝕄} : R ⊢ (match (motive := Bool → sProp 𝕄) b with | true => Q | false => R) := by
  subst h; exact .rfl

theorem body_obligation (c : Dev nD) : BodyObligation (dats (F := F) m a 0 c) (defs₀ (F := F)) Variants.none () Set.univ := fun t => by
  rw [bigSep_W0, bigSep_W0, defs₀_row]
  have hi : (cfg0 a).idle (3 : Fin 4) ((cfg0 a).grid.coords t) = false := idle3 a.1 _
  exact triple_restated (sound_body m a c t) rfl .rfl fun _ =>
    sep_mono .rfl (sep_mono .rfl (sep_mono .rfl (sep_mono .rfl (sep_mono .rfl (kept_of_live hi)))))

end

/-! ## The run and the frame -/

theorem prefHeld_eq (c : Dev nD) (v : pre0.Contents (Elt F)) (v0 : Vec F S72 .i32) (v1 : Vec F S1 .i32) (h0 : v0 = v 0) (h1 : v1 = v 1) :
    (Pipeline.ΦT (U := UR sig nD τ) pre0 v c : sProp 𝕄)
      = iprop(owns (c : Thread nD τ) (Memref.whole main_v19 : Memref sig .tc .smem S72 .i32) fullShare.right v0
        ∗ owns (c : Thread nD τ) (Memref.whole main_v21 : Memref sig .tc .smem S1 .i32) fullShare.right v1) := by
  simp only [owns_whole]
  subst h0 h1
  unfold Pipeline.ΦT Pipeline.prefHeld
  rw [show (Finset.univ : Finset (Fin 2)) = insert 0 {1} from by decide, bigSep_insert (by decide), bigSep_singleton]
  rfl

theorem PhiA_eq (c : Dev nD) : (Pipeline.ΦA spec0 c : sProp 𝕄)
    = iprop(((∃ d, owns (c : Thread nD τ) (Memref.whole cc0_scratch0 : Memref sig .tc .vmem S4096x512 .bf16) fullShare d)
      ∗ (∃ d, owns (c : Thread nD τ) (Memref.whole cc0_scratch1 : Memref sig .tc .vmem S4096x512 .bf16) fullShare d)) ∗ ∃ r, prngReg c r) := by
  unfold Pipeline.ΦA; rw [scopedRest0_eq]; simp only [owns_whole]; try rfl

theorem hpf (c : Dev nD) (k : Fin 2) : V m c (pre0.ref k) = (adm m).1 k := by
  obtain rfl := Subsingleton.elim c (0 : Dev nD)
  rfl

theorem hin (c : Dev nD) : iprop(Pipeline.ΦA spec0 c ∗ Pipeline.ΦT (U := UR sig nD τ) pre0 (adm m).1 c) ⊢ (dats m (adm m) 0 c).Φ 0 := by
  rw [Phi_eq, PhiA_eq, prefHeld_eq c (adm m).1 (tE (adm m)) (tU (adm m)) rfl rfl]
  unfold PhiAt
  iintro ⟨⟨⟨⟨%s0, S0⟩, ⟨%s1, S1⟩⟩, Hg⟩, T0, T1⟩
  isplitl [T0 T1]
  · isplitl [T0]; · iexact T0
    iexact T1
  isplitl [S0 S1]
  · iexists s0; iexists s1
    isplitr; · ipureintro; exact fun t ht => absurd ht (Nat.succ_ne_zero _)
    isplitl [S0]; · iexact S0
    iexact S1
  iexact Hg

theorem hout (c : Dev nD) : (dats m (adm m) 0 c).Φ (Fin.last (cfg0 (adm m)).N) ⊢ Pipeline.ΦA spec0 c := by
  rw [Phi_eq, PhiA_eq]
  unfold PhiAt
  iintro ⟨-, ⟨%s0, %s1, -, S0, S1⟩, Hg⟩
  isplitl [S0 S1]
  · isplitl [S0]; · iexists s0; iexact S0
    iexists s1; iexact S1
  iexact Hg

set_option backward.isDefEq.respectTransparency.types false in
set_option maxHeartbeats 800000 in
/-- The launch. -/
theorem run_main_quiescent : θ_run defs (onTc (τ := τ) (main (F := F))) (s₀ m ρ)
    (fun r => (Pipeline.FramePost (Pipeline.pin pcfgs fun _ => adm m) (dats m (adm m)) 0 (V m)) r ∧ r.2.sem = fun _ => 0) :=
  Pipeline.θ_run_frameP_track (Q' := _) pcfgs (fun _ => adm m) (dats m (adm m)) (0 : Fin 1) launch0 defs₀ Variants.none m ρ main
    (hbody := fun c => (body_obligation m (adm m) c).loose) (hshare := fun c => (dats m (adm m) 0 c).share_full fun _ => rfl)
    (howed := fun _ _ => rfl) (V := V m) (hmain := hmain m Variants.none) (hA := A_eq m (adm m)) (hpf := hpf m)
    (hin := hin m) (hout := hout m)

theorem run_main : θ_run defs (onTc (τ := τ) (main (F := F))) (s₀ m ρ) (Pipeline.FramePost (Pipeline.pin pcfgs fun _ => adm m) (dats m (adm m)) 0 (V m)) :=
  (θ_run defs _ _).mono (fun _ h => h.1) (run_main_quiescent m ρ)

/-- The result array ends as what the points leave it, and the arguments as launched. -/
theorem run_blocks : θ_run defs (onTc (τ := τ) (main (F := F))) ⟨m, fun _ => 0, ρ⟩ (fun r => ∀ c : Dev nD,
      r.2.mem ((c.tc : Thread nD τ).loc main_v23) = (dats m (adm m) 0 c).arrAt 3 (cfg0 (adm m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 3,
      ((h c).2 main_arg0 (Pipeline.mem_restRefs_of main_arg0 (by decide) (show ∀ w : Fin 4, (spec0 w).arr.view.ref ≠ main_arg0 by decide))).trans (V_main_arg0 m c),
      ((h c).2 main_arg1 (Pipeline.mem_restRefs_of main_arg1 (by decide) (show ∀ w : Fin 4, (spec0 w).arr.view.ref ≠ main_arg1 by decide))).trans (V_main_arg1 m c),
      ((h c).1 1).trans (((dats m (adm m) 0 c).arrAt_in 1 rfl _).trans ((A_eq m (adm m) c 1).trans (V_main_arg2 m c))),
      ((h c).1 2).trans (((dats m (adm m) 0 c).arrAt_in 2 rfl _).trans ((A_eq m (adm m) c 2).trans (V_main_arg3 m c)))⟩) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => (h c).2) (run_blocks m ρ)) ((θ_run defs _ _).mono (fun _ h => h.2) (run_main_quiescent m ρ))

end Cert.Kernel4Ideal.Moe
end
-- ==== Proof.MoeRef.lean ====
/- THE EXPERTS' FIRST PRODUCT, the reference read entry by entry: a row's result is its experts' gated products, each weighted by
   whether the row is the expert's and its tile is in use. -/
module

public import proofs.«01_k».proof.Proof.Gen.Reference4Ideal.Run
public import proofs.«01_k».proof.Proof.Gen.Reference4Ideal.Read
public import Idealize.ShloMosaic.Lib.Pipeline.ValueKit

@[expose] public section

set_option maxRecDepth 16384

noncomputable section

namespace Cert.Kernel4Ideal.Moe

open Cert.Reference4Ideal Cert.Reference4Ideal.Read Idealize.ShloMosaic Idealize.ShloMosaic.TcCoe
open Idealize.SL.Sem

/-- A gated product: `g` through the logistic gate, times `u`. -/
def gated (g u : EReal) : EReal := g * Ideal.logistic g * u

theorem ofBits_one : Ideal.ofBits .f32 0x3F800000#32 = 1 := by
  simp [Ideal.ofBits, Ideal.ieee]
  rw [← EReal.coe_mul]
  norm_num

/-- Expert `e`'s gated product in row `R` and column `C`. -/
def prod (x0 : FVec Ideal S36864x4096 .f32) (x2 x3 : FVec Ideal S8x4096x3584 .f32) (e : Fin 8) (R : Fin 36864) (C : Fin 3584) : EReal :=
  gated (∑ d : Fin 4096, x0 (ix2 R d) * x2 (ix3 e d C)) (∑ d : Fin 4096, x0 (ix2 R d) * x3 (ix3 e d C))

variable (x0 : FVec Ideal S36864x4096 .f32) (x1 : IVec S8 32) (x2 x3 : FVec Ideal S8x4096x3584 .f32)

theorem prod_0 (R : Fin 36864) (C : Fin 3584) : val_main_v41 (F := Ideal) x0 x2 x3 (ix2 R C) = prod x0 x2 x3 0 R C := by
  pointwise [val_main_v41, val_main_v40, val_main_v39, val_main_v38, val_main_v37, val_main_v36, val_main_v35, val_main_v34, val_main_call6_v0, val_main_call6_v1, val_main_call6_v2, val_main_call6_v3, val_main_call6_v4, val_main_call6_v5, val_main_call6_cst, val_main_call6_cst_0, ofBits_one]
  rfl

theorem weight_0 (R : Fin 36864) (C : Fin 3584) : val_main_v42 (F := Ideal) x1 (ix2 R C) = val_main_v31 (F := Ideal) x1 (ix2 R 0) := by
  rw [val_main_v42_apply, val_main_v33_apply]
  exact congrArg (val_main_v31 (F := Ideal) x1) (funext fun a => match a with | 0 => rfl | 1 => rfl)

theorem sum_0 (R : Fin 36864) (C : Fin 3584) : val_main_v44 (F := Ideal) x0 x1 x2 x3 (ix2 R C) = 0 + val_main_v31 (F := Ideal) x1 (ix2 R 0) * prod x0 x2 x3 0 R C := by
  rw [val_main_v44_apply, val_main_v43_apply, prod_0, weight_0]
  refine congrArg₂ (· + ·) ?_ rfl
  rw [val_main_v32_apply, val_main_cst_apply]
  simp [Ideal.ofBits, Ideal.ieee]

theorem prod_1 (R : Fin 36864) (C : Fin 3584) : val_main_v53 (F := Ideal) x0 x2 x3 (ix2 R C) = prod x0 x2 x3 1 R C := by
  pointwise [val_main_v53, val_main_v52, val_main_v51, val_main_v50, val_main_v49, val_main_v48, val_main_v47, val_main_v46, val_main_call7_v0, val_main_call7_v1, val_main_call7_v2, val_main_call7_v3, val_main_call7_v4, val_main_call7_v5, val_main_call7_cst, val_main_call7_cst_0, ofBits_one]
  rfl

theorem weight_1 (R : Fin 36864) (C : Fin 3584) : val_main_v54 (F := Ideal) x1 (ix2 R C) = val_main_v31 (F := Ideal) x1 (ix2 R 1) := by
  rw [val_main_v54_apply, val_main_v45_apply]
  exact congrArg (val_main_v31 (F := Ideal) x1) (funext fun a => match a with | 0 => rfl | 1 => rfl)

theorem sum_1 (R : Fin 36864) (C : Fin 3584) : val_main_v56 (F := Ideal) x0 x1 x2 x3 (ix2 R C) = val_main_v44 (F := Ideal) x0 x1 x2 x3 (ix2 R C) + val_main_v31 (F := Ideal) x1 (ix2 R 1) * prod x0 x2 x3 1 R C := by
  rw [val_main_v56_apply, val_main_v55_apply, prod_1, weight_1]
  rfl

theorem prod_2 (R : Fin 36864) (C : Fin 3584) : val_main_v65 (F := Ideal) x0 x2 x3 (ix2 R C) = prod x0 x2 x3 2 R C := by
  pointwise [val_main_v65, val_main_v64, val_main_v63, val_main_v62, val_main_v61, val_main_v60, val_main_v59, val_main_v58, val_main_call8_v0, val_main_call8_v1, val_main_call8_v2, val_main_call8_v3, val_main_call8_v4, val_main_call8_v5, val_main_call8_cst, val_main_call8_cst_0, ofBits_one]
  rfl

theorem weight_2 (R : Fin 36864) (C : Fin 3584) : val_main_v66 (F := Ideal) x1 (ix2 R C) = val_main_v31 (F := Ideal) x1 (ix2 R 2) := by
  rw [val_main_v66_apply, val_main_v57_apply]
  exact congrArg (val_main_v31 (F := Ideal) x1) (funext fun a => match a with | 0 => rfl | 1 => rfl)

theorem sum_2 (R : Fin 36864) (C : Fin 3584) : val_main_v68 (F := Ideal) x0 x1 x2 x3 (ix2 R C) = val_main_v56 (F := Ideal) x0 x1 x2 x3 (ix2 R C) + val_main_v31 (F := Ideal) x1 (ix2 R 2) * prod x0 x2 x3 2 R C := by
  rw [val_main_v68_apply, val_main_v67_apply, prod_2, weight_2]
  rfl

theorem prod_3 (R : Fin 36864) (C : Fin 3584) : val_main_v77 (F := Ideal) x0 x2 x3 (ix2 R C) = prod x0 x2 x3 3 R C := by
  pointwise [val_main_v77, val_main_v76, val_main_v75, val_main_v74, val_main_v73, val_main_v72, val_main_v71, val_main_v70, val_main_call9_v0, val_main_call9_v1, val_main_call9_v2, val_main_call9_v3, val_main_call9_v4, val_main_call9_v5, val_main_call9_cst, val_main_call9_cst_0, ofBits_one]
  rfl

theorem weight_3 (R : Fin 36864) (C : Fin 3584) : val_main_v78 (F := Ideal) x1 (ix2 R C) = val_main_v31 (F := Ideal) x1 (ix2 R 3) := by
  rw [val_main_v78_apply, val_main_v69_apply]
  exact congrArg (val_main_v31 (F := Ideal) x1) (funext fun a => match a with | 0 => rfl | 1 => rfl)

theorem sum_3 (R : Fin 36864) (C : Fin 3584) : val_main_v80 (F := Ideal) x0 x1 x2 x3 (ix2 R C) = val_main_v68 (F := Ideal) x0 x1 x2 x3 (ix2 R C) + val_main_v31 (F := Ideal) x1 (ix2 R 3) * prod x0 x2 x3 3 R C := by
  rw [val_main_v80_apply, val_main_v79_apply, prod_3, weight_3]
  rfl

theorem prod_4 (R : Fin 36864) (C : Fin 3584) : val_main_v89 (F := Ideal) x0 x2 x3 (ix2 R C) = prod x0 x2 x3 4 R C := by
  pointwise [val_main_v89, val_main_v88, val_main_v87, val_main_v86, val_main_v85, val_main_v84, val_main_v83, val_main_v82, val_main_call10_v0, val_main_call10_v1, val_main_call10_v2, val_main_call10_v3, val_main_call10_v4, val_main_call10_v5, val_main_call10_cst, val_main_call10_cst_0, ofBits_one]
  rfl

theorem weight_4 (R : Fin 36864) (C : Fin 3584) : val_main_v90 (F := Ideal) x1 (ix2 R C) = val_main_v31 (F := Ideal) x1 (ix2 R 4) := by
  rw [val_main_v90_apply, val_main_v81_apply]
  exact congrArg (val_main_v31 (F := Ideal) x1) (funext fun a => match a with | 0 => rfl | 1 => rfl)

theorem sum_4 (R : Fin 36864) (C : Fin 3584) : val_main_v92 (F := Ideal) x0 x1 x2 x3 (ix2 R C) = val_main_v80 (F := Ideal) x0 x1 x2 x3 (ix2 R C) + val_main_v31 (F := Ideal) x1 (ix2 R 4) * prod x0 x2 x3 4 R C := by
  rw [val_main_v92_apply, val_main_v91_apply, prod_4, weight_4]
  rfl

theorem prod_5 (R : Fin 36864) (C : Fin 3584) : val_main_v101 (F := Ideal) x0 x2 x3 (ix2 R C) = prod x0 x2 x3 5 R C := by
  pointwise [val_main_v101, val_main_v100, val_main_v99, val_main_v98, val_main_v97, val_main_v96, val_main_v95, val_main_v94, val_main_call11_v0, val_main_call11_v1, val_main_call11_v2, val_main_call11_v3, val_main_call11_v4, val_main_call11_v5, val_main_call11_cst, val_main_call11_cst_0, ofBits_one]
  rfl

theorem weight_5 (R : Fin 36864) (C : Fin 3584) : val_main_v102 (F := Ideal) x1 (ix2 R C) = val_main_v31 (F := Ideal) x1 (ix2 R 5) := by
  rw [val_main_v102_apply, val_main_v93_apply]
  exact congrArg (val_main_v31 (F := Ideal) x1) (funext fun a => match a with | 0 => rfl | 1 => rfl)

theorem sum_5 (R : Fin 36864) (C : Fin 3584) : val_main_v104 (F := Ideal) x0 x1 x2 x3 (ix2 R C) = val_main_v92 (F := Ideal) x0 x1 x2 x3 (ix2 R C) + val_main_v31 (F := Ideal) x1 (ix2 R 5) * prod x0 x2 x3 5 R C := by
  rw [val_main_v104_apply, val_main_v103_apply, prod_5, weight_5]
  rfl

theorem prod_6 (R : Fin 36864) (C : Fin 3584) : val_main_v113 (F := Ideal) x0 x2 x3 (ix2 R C) = prod x0 x2 x3 6 R C := by
  pointwise [val_main_v113, val_main_v112, val_main_v111, val_main_v110, val_main_v109, val_main_v108, val_main_v107, val_main_v106, val_main_call12_v0, val_main_call12_v1, val_main_call12_v2, val_main_call12_v3, val_main_call12_v4, val_main_call12_v5, val_main_call12_cst, val_main_call12_cst_0, ofBits_one]
  rfl

theorem weight_6 (R : Fin 36864) (C : Fin 3584) : val_main_v114 (F := Ideal) x1 (ix2 R C) = val_main_v31 (F := Ideal) x1 (ix2 R 6) := by
  rw [val_main_v114_apply, val_main_v105_apply]
  exact congrArg (val_main_v31 (F := Ideal) x1) (funext fun a => match a with | 0 => rfl | 1 => rfl)

theorem sum_6 (R : Fin 36864) (C : Fin 3584) : val_main_v116 (F := Ideal) x0 x1 x2 x3 (ix2 R C) = val_main_v104 (F := Ideal) x0 x1 x2 x3 (ix2 R C) + val_main_v31 (F := Ideal) x1 (ix2 R 6) * prod x0 x2 x3 6 R C := by
  rw [val_main_v116_apply, val_main_v115_apply, prod_6, weight_6]
  rfl

theorem prod_7 (R : Fin 36864) (C : Fin 3584) : val_main_v125 (F := Ideal) x0 x2 x3 (ix2 R C) = prod x0 x2 x3 7 R C := by
  pointwise [val_main_v125, val_main_v124, val_main_v123, val_main_v122, val_main_v121, val_main_v120, val_main_v119, val_main_v118, val_main_call13_v0, val_main_call13_v1, val_main_call13_v2, val_main_call13_v3, val_main_call13_v4, val_main_call13_v5, val_main_call13_cst, val_main_call13_cst_0, ofBits_one]
  rfl

theorem weight_7 (R : Fin 36864) (C : Fin 3584) : val_main_v126 (F := Ideal) x1 (ix2 R C) = val_main_v31 (F := Ideal) x1 (ix2 R 7) := by
  rw [val_main_v126_apply, val_main_v117_apply]
  exact congrArg (val_main_v31 (F := Ideal) x1) (funext fun a => match a with | 0 => rfl | 1 => rfl)

theorem sum_7 (R : Fin 36864) (C : Fin 3584) : val_main_v128 (F := Ideal) x0 x1 x2 x3 (ix2 R C) = val_main_v116 (F := Ideal) x0 x1 x2 x3 (ix2 R C) + val_main_v31 (F := Ideal) x1 (ix2 R 7) * prod x0 x2 x3 7 R C := by
  rw [val_main_v128_apply, val_main_v127_apply, prod_7, weight_7]
  rfl

theorem ref_sum (R : Fin 36864) (C : Fin 3584) : val_main_v129 (F := Ideal) x0 x1 x2 x3 (ix2 R C)
    = ∑ e : Fin 8, val_main_v31 (F := Ideal) x1 (ix2 R e) * prod x0 x2 x3 e R C := by
  rw [val_main_v129_apply]
  show val_main_v128 (F := Ideal) x0 x1 x2 x3 (ix2 R C) = _
  rw [sum_7, sum_6, sum_5, sum_4, sum_3, sum_2, sum_1, sum_0, zero_add]
  simp only [Fin.sum_univ_succ, Fin.sum_univ_zero, add_zero, add_assoc]
  rfl

/-- An expert's weight: one where the row is the expert's and its tile is in use, else zero. -/
theorem weight (R : Fin 36864) (e : Fin 8) : val_main_v31 (F := Ideal) x1 (ix2 R e)
    = if val_main_v20 (F := Ideal) x1 (ix1 R) = BitVec.ofNat 32 e.val ∧ val_main_v26 (F := Ideal) x1 (ix1 R) = 1#1 then 1 else 0 := by
  have e1 : val_main_v27 (F := Ideal) x1 (ix2 R e) = (((IntOp.cmpi .eq (val_main_v20 (F := Ideal) x1 (ix1 R)) (BitVec.ofNat 32 e.val)).toNat : ℝ) : EReal) := by
    rw [val_main_v27_apply, val_main_call5_v4_apply, val_main_call5_v2_apply, val_main_call5_v0_apply, val_main_call5_v3_apply, val_main_call5_v1_apply]
    rw [show idx_main_call5_v0 (idx_main_call5_v2 (ix2 R e)) = ix1 R from funext fun a => match a with | 0 => rfl]
    rfl
  have e2 : val_main_v30 (F := Ideal) x1 (ix2 R e) = (((val_main_v26 (F := Ideal) x1 (ix1 R)).toNat : ℝ) : EReal) := by
    rw [val_main_v30_apply, val_main_v29_apply, val_main_v28_apply]
    rw [show idx_main_v28 (idx_main_v30 (ix2 R e)) = ix1 R from funext fun a => match a with | 0 => rfl]
    rfl
  rw [val_main_v31_apply, e1, e2]
  generalize val_main_v20 (F := Ideal) x1 (ix1 R) = w
  generalize val_main_v26 (F := Ideal) x1 (ix1 R) = b
  have hb : b = 0#1 ∨ b = 1#1 := by revert b; decide
  have hc : IntOp.cmpi .eq w (BitVec.ofNat 32 e.val) = BitVec.ofBool (decide (w = BitVec.ofNat 32 e.val)) := by
    simp [IntOp.cmpi]; rfl
  rw [hc]
  show ((_ : ℝ) : EReal) * ((_ : ℝ) : EReal) = _
  by_cases h : w = BitVec.ofNat 32 e.val <;> rcases hb with rfl | rfl <;> simp [h]

/-- The reference's value: its expert's gated product where the tile is in use, else zero. -/
theorem ref_at (R : Fin 36864) (C : Fin 3584) (e : Fin 8) (he : val_main_v20 (F := Ideal) x1 (ix1 R) = BitVec.ofNat 32 e.val) :
    val_main_v129 (F := Ideal) x0 x1 x2 x3 (ix2 R C) = if val_main_v26 (F := Ideal) x1 (ix1 R) = 1#1 then prod x0 x2 x3 e R C else 0 := by
  rw [ref_sum, Finset.sum_eq_single e]
  · rw [weight, he]
    by_cases h : val_main_v26 (F := Ideal) x1 (ix1 R) = 1#1
    · rw [if_pos ⟨rfl, h⟩, if_pos h, one_mul]
    · rw [if_neg (fun h' => h h'.2), if_neg h, zero_mul]
  · intro e' _ hne
    rw [weight, if_neg, zero_mul]
    rintro ⟨h', -⟩
    rw [he] at h'
    have := congrArg BitVec.toNat h'
    rw [BitVec.toNat_ofNat, BitVec.toNat_ofNat, Nat.mod_eq_of_lt (by omega), Nat.mod_eq_of_lt (by omega)] at this
    exact hne (Fin.ext this.symm)
  · intro h; exact absurd (Finset.mem_univ _) h

end Cert.Kernel4Ideal.Moe
end
-- ==== Proof.MoeWords.lean ====
/- THE EXPERTS' FIRST PRODUCT, its words: the expert of a row's tile and whether the tile is in use are the same in the
   reference, row by row, as in the call's tables, tile by tile. -/
module

public import proofs.«01_k».proof.Proof.MoeTab
public import proofs.«01_k».proof.Proof.MoeRef
public import Idealize.ShloMosaic.Lib.StableHlo.Predicate

@[expose] public section

set_option maxRecDepth 16384

noncomputable section

namespace Cert.Kernel4Ideal.Moe

open Cert.Kernel4Ideal Cert.Kernel4Ideal.Gen Idealize.ShloMosaic Idealize.ShloMosaic.TcCoe
open Idealize.SL.Sem
open Cert.Reference4Ideal (S36864 S36864x8)
open Cert.Reference4Ideal.Read

/-- A word's quotient, rounded down. -/
def fdiv (x y : BitVec 32) : BitVec 32 :=
  Scalar.select (IntOp.andi (IntOp.cmpi .ne (if x = 0 then 0 else if x.msb then -1 else 1) (if y = 0 then 0 else if y.msb then -1 else 1 : BitVec 32))
      (IntOp.cmpi .ne (IntOp.remsi .host x y) 0#32))
    (IntOp.subi (IntOp.divsi .host x y) 1#32) (IntOp.divsi .host x y)

theorem fdiv_row (a : Fin 72) (b : Fin 512) : fdiv (BitVec.ofNat 32 (a.val * 512 + b.val)) 512#32 = BitVec.ofNat 32 a.val := by
  have hn : a.val * 512 + b.val < 2 ^ 31 := by omega
  have hx : (BitVec.ofNat 32 (a.val * 512 + b.val)).msb = false := by
    rw [BitVec.msb_eq_false_iff_two_mul_lt, BitVec.toNat_ofNat, Nat.mod_eq_of_lt (by omega)]; omega
  have hd : IntOp.divsi .host (BitVec.ofNat 32 (a.val * 512 + b.val)) 512#32 = BitVec.ofNat 32 a.val := by
    unfold IntOp.divsi
    rw [if_neg (by unfold IntOp.SDivCorner; rintro (h | ⟨-, h⟩) <;> revert h <;> decide)]
    rw [BitVec.sdiv_eq, hx, show (512#32 : BitVec 32).msb = false from by decide]
    refine BitVec.eq_of_toNat_eq ?_
    show ((BitVec.ofNat 32 (a.val * 512 + b.val)).udiv 512#32).toNat = _
    rw [BitVec.udiv_eq, BitVec.toNat_udiv, BitVec.toNat_ofNat, BitVec.toNat_ofNat, BitVec.toNat_ofNat, Nat.mod_eq_of_lt (by omega), Nat.mod_eq_of_lt (by omega), Nat.mod_eq_of_lt (by omega)]
    omega
  unfold fdiv
  by_cases h0 : BitVec.ofNat 32 (a.val * 512 + b.val) = 0
  · rw [← hd, h0]; decide
  · rw [if_neg h0, hx, hd]
    generalize IntOp.remsi .host (BitVec.ofNat 32 (a.val * 512 + b.val)) 512#32 = r
    generalize BitVec.ofNat 32 a.val = w
    have : IntOp.cmpi .ne (if false = true then -1 else 1 : BitVec 32) (if (512#32 : BitVec 32) = 0 then 0 else if (512#32 : BitVec 32).msb then -1 else 1) = 0#1 := by decide
    rw [this]
    generalize IntOp.cmpi .ne r 0#32 = q
    have hq : q = 0#1 ∨ q = 1#1 := by revert q; decide
    rcases hq with rfl | rfl <;> rfl

theorem tile_start (R : Fin 36864) : val_main_v11 (F := Ideal) (ix1 R) = BitVec.ofNat 32 (R.val / 512) * 512#32 := by
  have h := fdiv_row ⟨R.val / 512, by omega⟩ ⟨R.val % 512, by omega⟩
  rw [show R.val / 512 * 512 + R.val % 512 = R.val by omega] at h
  rw [val_main_v11_apply]
  refine congrArg₂ (· * ·) (Eq.trans ?_ h) rfl
  rfl

theorem tile_no (R : Fin 36864) : val_main_v21 (F := Ideal) (ix1 R) = BitVec.ofNat 32 (R.val / 512) := by
  have h := fdiv_row ⟨R.val / 512, by omega⟩ ⟨0, by omega⟩
  have h' : BitVec.ofNat 32 (R.val / 512 * 512 + 0) = BitVec.ofNat 32 (R.val / 512) * 512#32 := by
    rw [Nat.add_zero, BitVec.ofNat_mul]
  have e := tile_start R
  refine Eq.trans ?_ h
  show _ = fdiv (BitVec.ofNat 32 (R.val / 512 * 512 + 0)) 512#32
  rw [h', ← e]
  rfl

theorem live_row (x1 : IVec S8 32) (R : Fin 36864) :
    val_main_v26 (F := Ideal) x1 (ix1 R) = 1#1 ↔ (BitVec.ofNat 32 (R.val / 512)).toInt < (val_main_v24 (F := Ideal) x1 (fun a => a.elim0)).toInt := by
  rw [val_main_v26_apply, val_main_v25_apply, tile_no]
  generalize val_main_v24 (F := Ideal) x1 = y
  show BitVec.ofBool (decide ((BitVec.ofNat 32 (R.val / 512)).toInt < (y _).toInt)) = 1#1 ↔ _
  by_cases h : (BitVec.ofNat 32 (R.val / 512)).toInt < (y (fun a => a.elim0)).toInt
  · simp only [h]; decide
  · simp only [h]; decide

theorem expert_row (x1 : IVec S8 32) (R : Fin 36864) :
    val_main_v20 (F := Ideal) x1 (ix1 R) = expertOf (val_main_v7 (F := Ideal) x1) (ix1 (⟨R.val / 512, by omega⟩ : Fin 72)) := by
  unfold expertOf
  rw [val_main_v20_apply]
  refine congrArg₂ IntOp.minsi ?_ rfl
  refine BitVec.eq_of_toNat_eq ?_
  unfold val_main_v18 val_main_v17
  refine (StableHlo.Predicate.toNat_reduce_count_cols (n := 36864) (m := 8) (by decide) _ _ _ _ _).trans (Eq.trans ?_ (StableHlo.Predicate.toNat_reduce_count_cols (n := 72) (m := 8) (by decide) _ _ _ _ _).symm)
  refine congrArg Finset.card (Finset.filter_congr fun q _ => ?_)
  refine iff_of_eq (congrArg (· = 1#1) ?_)
  rw [val_main_v16_apply, val_main_v14_apply, val_main_v12_apply, val_main_v15_apply, val_main_v13_apply]
  generalize val_main_v7 (F := Ideal) x1 = y
  refine congrArg₂ (IntOp.cmpi .sge) ?_ ?_
  · refine Eq.trans ?_ ((tile_start R).trans ?_)
    · exact congrArg (val_main_v11 (F := Ideal)) (funext fun a => match a with | 0 => rfl)
    · pointwise
      rfl
  · pointwise
    exact congrArg y (funext fun a => match a with | 0 => rfl)

variable (m : (ℓ : Loc nD τ sig) → Buf (Elt Ideal) ℓ)

/-- The counts. -/
abbrev cnt (c : Dev nD) : IVec S8 32 := m ((c : Thread nD τ).loc main_arg1)

/-! ## The host operations, stretch by stretch, from any contents `W` -/

section
variable (W : Valuation τ sig (Elt Ideal)) (x1 : IVec S8 32)

theorem of_v3 (p q r) (y : IVec S8 32) : (StableHlo.TRef.of main_v3 p q r : StableHlo.TRef sig ⟨S8, .i32⟩).ofBuf (Val := Elt Ideal) y = y := rfl
theorem of_v6 (p q r) (y : IVec S8 32) : (StableHlo.TRef.of main_v6 p q r : StableHlo.TRef sig ⟨S8, .i32⟩).ofBuf (Val := Elt Ideal) y = y := rfl
theorem of_c1 (p q r) (y : IVec S_ 32) : (StableHlo.TRef.of main_c_1 p q r : StableHlo.TRef sig ⟨S_, .i32⟩).ofBuf (Val := Elt Ideal) y = y := rfl
theorem to_v4 (p q r) (y : IVec S8 32) : (StableHlo.TRef.of main_v4 p q r : StableHlo.TRef sig ⟨S8, .i32⟩).toBuf (Val := Elt Ideal) y = y := rfl
theorem to_v7 (p q r) (y : IVec S8 32) : (StableHlo.TRef.of main_v7 p q r : StableHlo.TRef sig ⟨S8, .i32⟩).toBuf (Val := Elt Ideal) y = y := rfl

theorem s0_v3 : StableHlo.after hostOps0 W (Proc.devRef .tc main_v3) = val_main_v3 (F := Ideal) (W (Proc.devRef .tc main_arg1)) := by entry_read; rfl
theorem s0_c1 : StableHlo.after hostOps0 W (Proc.devRef .tc main_c_1) = constantI S_ 32 512#32 := by entry_read; rfl
theorem s1_v4 (h : W (Proc.devRef .tc main_v3) = val_main_v3 (F := Ideal) x1) (hc : W (Proc.devRef .tc main_c_1) = constantI S_ 32 512#32) :
    StableHlo.after hostOps0_1 W (Proc.devRef .tc main_v4) = val_main_v4 (F := Ideal) x1 := by entry_read; rw [h, hc]; simp only [StableHlo.TRef.ofBuf_toBuf, of_v3, of_c1, to_v4]; rfl
theorem s2_v6 (h : W (Proc.devRef .tc main_v4) = val_main_v4 (F := Ideal) x1) :
    StableHlo.after hostOps0_2 W (Proc.devRef .tc main_v6) = val_main_v6 (F := Ideal) x1 := by entry_read; rw [h]; rfl
theorem s3_v7 (h : W (Proc.devRef .tc main_v6) = val_main_v6 (F := Ideal) x1) :
    StableHlo.after hostOps0_3 W (Proc.devRef .tc main_v7) = val_main_v7 (F := Ideal) x1 := by entry_read; rw [h]; simp only [StableHlo.TRef.ofBuf_toBuf, of_v6, to_v7]; rfl
theorem s4_v7 : StableHlo.after hostOps0_4 W (Proc.devRef .tc main_v7) = W (Proc.devRef .tc main_v7) := by entry_read; rfl
theorem s4_v20 : StableHlo.after hostOps0_4 W (Proc.devRef .tc main_v20) = extractStridedSlice S1 ![7] (W (Proc.devRef .tc main_v7) : IVec S8 32) slices_S8_S1_7 := by entry_read; rfl
theorem s4_c6 : StableHlo.after hostOps0_4 W (Proc.devRef .tc main_c_6) = constantI S_ 32 512#32 := by entry_read; rfl
theorem s5_v7 : StableHlo.after hostOps0_5 W (Proc.devRef .tc main_v7) = W (Proc.devRef .tc main_v7) := by entry_read; rfl
theorem s5_v21 (e : IVec S1 32) (h : W (Proc.devRef .tc main_v20) = e) (hc : W (Proc.devRef .tc main_c_6) = constantI S_ 32 512#32) :
    (StableHlo.after hostOps0_5 W (Proc.devRef .tc main_v21) : IVec S1 32) (ix1 0) = fdiv (e (ix1 0)) 512#32 := by entry_read; rw [h, hc]; rfl
theorem s6_v7 : StableHlo.after hostOps0_6 W (Proc.devRef .tc main_v7) = W (Proc.devRef .tc main_v7) := by entry_read; rfl
theorem s6_v21 : StableHlo.after hostOps0_6 W (Proc.devRef .tc main_v21) = W (Proc.devRef .tc main_v21) := by entry_read; rfl
end

theorem V_chain (c : Dev nD) (b : Ref sig .tc) : V m c b
    = StableHlo.after hostOps0_6 (StableHlo.after hostOps0_5 (StableHlo.after hostOps0_4 (StableHlo.after hostOps0_3 (StableHlo.after hostOps0_2
        (StableHlo.after hostOps0_1 (StableHlo.after hostOps0 (fun b => m (c, b)))))))) (Proc.devRef .tc b) := by
  show StableHlo.after opss.flatten (fun b => m (c, b)) (Proc.devRef .tc b) = _
  simp only [opss, List.flatten_cons, List.flatten_nil, List.append_nil, StableHlo.after_append]

theorem V_ends (c : Dev nD) : V m c main_v7 = val_main_v7 (F := Ideal) (cnt m c) := by
  rw [V_chain, s6_v7, s5_v7, s4_v7]
  exact s3_v7 _ _ (s2_v6 _ _ (s1_v4 _ _ (s0_v3 _) (s0_c1 _)))

theorem V_used (c : Dev nD) : (V m c main_v21 : IVec S1 32) (ix1 0) = fdiv (val_main_v7 (F := Ideal) (cnt m c) (ix1 7)) 512#32 := by
  rw [V_chain, s6_v21]
  refine (s5_v21 _ _ (s4_v20 _) (s4_c6 _)).trans ?_
  rw [s3_v7 _ _ (s2_v6 _ _ (s1_v4 _ _ (s0_v3 _) (s0_c1 _)))]
  refine congrArg (fdiv · 512#32) ?_
  pointwise

theorem used_ref (x1 : IVec S8 32) : val_main_v24 (F := Ideal) x1 (fun a => a.elim0) = fdiv (val_main_v7 (F := Ideal) x1 (ix1 7)) 512#32 := by
  have h : val_main_v23 (F := Ideal) x1 (fun a => a.elim0) = val_main_v7 (F := Ideal) x1 (ix1 7) := by
    unfold val_main_v23
    pointwise [val_main_v22]
  rw [← h]
  rfl

end Cert.Kernel4Ideal.Moe
end
-- ==== Proof.MoeValue.lean ====
/- THE EXPERTS' FIRST PRODUCT, its value: every block the call leaves is the reference's, whatever the counts and the weights. -/
module

public import proofs.«01_k».proof.Proof.MoeRun
public import proofs.«01_k».proof.Proof.MoeWords

@[expose] public section

set_option maxRecDepth 16384

noncomputable section

namespace Cert.Kernel4Ideal.Moe

open Cert.Kernel4Ideal Cert.Kernel4Ideal.Gen Idealize.ShloMosaic Idealize.ShloMosaic.TcCoe
open Idealize.SL.Sem
open Cert.Reference4Ideal.Read (val_main_v129 val_main_v20 val_main_v26 val_main_v7 val_main_v24)

theorem pay_at (x : FVec Ideal S512x4096 .bf16) (g u : FVec Ideal S1x4096x512 .f32) (r k : Fin 512) :
    k0_pay3 (F := Ideal) x (k0_pay1 (F := Ideal) g) (k0_pay2 (F := Ideal) u) (ix2 r k)
      = gated (∑ d : Fin 4096, x (ix2 r d) * g (ix3 0 d k)) (∑ d : Fin 4096, x (ix2 r d) * u (ix3 0 d k)) := by
  pointwise [k0_pay3, k0_pay1, k0_pay2]
  rfl

theorem zero_at (y : S512x512.Idx) : k0_pay4 (F := Ideal) y = 0 := by
  show Ideal.ofBits .bf16 0x0000#16 = 0
  simp [Ideal.ofBits, Ideal.ieee]

variable (a : (pcfg0 (F := Ideal)).Adm)

theorem word {n : ℕ} (h : n < 504) : (BitVec.ofNat 32 n).toNat = n := by
  rw [BitVec.toNat_ofNat, Nat.mod_eq_of_lt (by omega)]
theorem point_lt (t : Fin (cfg0 a).N) : t.val < 504 := lt_of_lt_of_eq t.isLt N_0

theorem idx0 (t : Fin (cfg0 a).N) : ((cfg0 a).win 0).index t = ![t.val % 72, 0] := by
  show ![(BitVec.ofNat 32 (grid0.coords t 1).val).toNat, (0#32).toNat] = _
  have := point_lt a t
  rw [row_of, word (by omega)]
  rfl
theorem idx3 (t : Fin (cfg0 a).N) : ((cfg0 a).win 3).index t = ![t.val % 72, t.val / 72] := by
  show ![(BitVec.ofNat 32 (grid0.coords t 1).val).toNat, (BitVec.ofNat 32 (grid0.coords t 0).val).toNat] = _
  have := point_lt a t
  rw [row_of, col_of, word (n := t.val % 72) (by omega), word (n := t.val / 72) (by omega)]
theorem idxW (t : Fin (cfg0 a).N) : ![(tileW (tE a) (grid0.coords t)).toNat, (0#32).toNat, (BitVec.ofNat 32 (grid0.coords t 0).val).toNat]
    = ![(tE a (ix1 (⟨t.val % 72, Nat.mod_lt _ (by decide)⟩ : Fin 72))).toNat, 0, t.val / 72] := by
  have := point_lt a t
  have e : (⟨(grid0.coords t 1).val, (grid0.coords t 1).isLt⟩ : Fin 72) = ⟨t.val % 72, Nat.mod_lt _ (by decide)⟩ := Fin.ext (row_of t)
  rw [tile_word, e, col_of, word (n := t.val / 72) (by omega)]
  rfl

/-- Each point writes its block of the result back. -/
theorem flush3 (t : Fin (cfg0 a).N) : ((cfg0 a).win 3).flush t = true := by
  unfold Pipeline.Window.flush
  refine (Bool.and_eq_true _ _).mpr ⟨rfl, ?_⟩
  have ht := point_lt a t
  by_cases h : t.val + 1 = (cfg0 a).grid.N
  · exact (Bool.or_eq_true _ _).mpr (.inl (decide_eq_true h))
  · refine (Bool.or_eq_true _ _).mpr (.inr (decide_eq_true ⟨lt_of_le_of_ne t.isLt h, fun e => ?_⟩))
    rw [idx3, idx3] at e
    have e0 : (t.val + 1) % 72 = t.val % 72 := congrFun e 0
    omega

/-- The blocks of the result fill it. -/
theorem covers3 : ((cfg0 a).win 3).Covers := by
  refine ⟨fun (x : Fin 2) => ?_, fun β => ?_⟩
  · show 0 < S512x512.size x
    revert x
    decide
  · have hb0 : (β (0 : Fin 2)).val < 72 := lt_of_lt_of_eq (β (0 : Fin 2)).isLt
      (show (S36864x3584.size 0 + S512x512.size 0 - 1) / S512x512.size 0 = 72 by decide)
    have hb1 : (β (1 : Fin 2)).val < 7 := lt_of_lt_of_eq (β (1 : Fin 2)).isLt
      (show (S36864x3584.size 1 + S512x512.size 1 - 1) / S512x512.size 1 = 7 by decide)
    have hN : (cfg0 a).N = 504 := N_0
    let t : Fin (cfg0 a).N := ⟨(β (1 : Fin 2)).val * 72 + (β (0 : Fin 2)).val, by omega⟩
    have ht : t.val = (β (1 : Fin 2)).val * 72 + (β (0 : Fin 2)).val := rfl
    refine ⟨t, flush3 a t, fun (x : Fin 2) => ⟨?_, .inl rfl⟩⟩
    refine (congrFun (idx3 a t) x).trans ?_
    match x with
    | 0 => show t.val % 72 = (β (0 : Fin 2)).val; omega
    | 1 => show t.val / 72 = (β (1 : Fin 2)).val; omega

variable (m : (ℓ : Loc nD τ sig) → Buf (Elt Ideal) ℓ)

/-- The arguments. -/
abbrev Xs (c : Dev nD) : FVec Ideal S36864x4096 .f32 := m ((c : Thread nD τ).loc main_arg0)
abbrev Wg (c : Dev nD) : FVec Ideal S8x4096x3584 .f32 := m ((c : Thread nD τ).loc main_arg2)
abbrev Wu (c : Dev nD) : FVec Ideal S8x4096x3584 .f32 := m ((c : Thread nD τ).loc main_arg3)

theorem rows_blk (c : Dev nD) (t : Fin (cfg0 a).N) (r : Fin 512) (d : Fin 4096) :
    xB m a c t (ix2 r d) = Xs m c (ix2 ⟨t.val % 72 * 512 + r.val, by omega⟩ d) := by
  refine Eq.trans (b := (V m c main_v22 : FVec Ideal S36864x4096 .bf16) (ix2 ⟨t.val % 72 * 512 + r.val, by omega⟩ d)) ?_ (by rw [V_rows]; rfl)
  have e := idx0 a t
  unfold xB
  blk_ext [iblk, e]

theorem gate_blk (c : Dev nD) (t : Fin (cfg0 a).N) (e : Fin 8) (he : (tE a (ix1 (⟨t.val % 72, Nat.mod_lt _ (by decide)⟩ : Fin 72))).toNat = e.val) (d : Fin 4096) (k : Fin 512) :
    gB m a c t (ix3 0 d k) = Wg m c (ix3 e d ⟨t.val / 72 * 512 + k.val, by have := lt_of_lt_of_eq t.isLt N_0; omega⟩) := by
  unfold Wg
  rw [← V_main_arg2 m c]
  have e1 := (index1 a t).trans (idxW a t)
  rw [he] at e1
  unfold gB
  blk_ext [iblk, e1]

theorem up_blk (c : Dev nD) (t : Fin (cfg0 a).N) (e : Fin 8) (he : (tE a (ix1 (⟨t.val % 72, Nat.mod_lt _ (by decide)⟩ : Fin 72))).toNat = e.val) (d : Fin 4096) (k : Fin 512) :
    uB m a c t (ix3 0 d k) = Wu m c (ix3 e d ⟨t.val / 72 * 512 + k.val, by have := lt_of_lt_of_eq t.isLt N_0; omega⟩) := by
  unfold Wu
  rw [← V_main_arg3 m c]
  have e1 := (index2 a t).trans (idxW a t)
  rw [he] at e1
  unfold uB
  blk_ext [iblk, e1]

/-- The block a point leaves, entry by entry. -/
theorem block_at (c : Dev nD) (t : Fin (cfg0 a).N) (e : Fin 8) (he : (tE a (ix1 (⟨t.val % 72, Nat.mod_lt _ (by decide)⟩ : Fin 72))).toNat = e.val) (r k : Fin 512)
    (R : Fin 36864) (C : Fin 3584) (hR : R.val = t.val % 72 * 512 + r.val) (hC : C.val = t.val / 72 * 512 + k.val) :
    oB m a c t (ix2 r k) = if (BitVec.ofNat 32 (t.val % 72)).toInt < (usedW (tU a)).toInt then prod (Xs m c) (Wg m c) (Wu m c) e R C else 0 := by
  have hl : live a t ↔ (BitVec.ofNat 32 (t.val % 72)).toInt < (usedW (tU a)).toInt := by
    unfold live
    rw [cond2_iff, row_of]
  have eR : R = ⟨t.val % 72 * 512 + r.val, by omega⟩ := Fin.ext hR
  have eC : C = ⟨t.val / 72 * 512 + k.val, by omega⟩ := Fin.ext hC
  unfold oB
  by_cases h : live a t
  · rw [if_pos h, if_pos (hl.mp h), pay_at]
    unfold prod
    rw [eR, eC]
    refine congrArg₂ gated (Finset.sum_congr rfl fun d _ => congrArg₂ (· * ·) ?_ ?_) (Finset.sum_congr rfl fun d _ => congrArg₂ (· * ·) ?_ ?_)
    · exact rows_blk a m c t r d
    · exact gate_blk a m c t e he d k
    · exact rows_blk a m c t r d
    · exact up_blk a m c t e he d k
  · rw [if_neg h, if_neg (fun h' => h (hl.mpr h'))]
    exact zero_at _

/-! ## At the tables the host code computes -/

theorem tE_eq (c : Dev nD) : tE (adm m) = expertOf (val_main_v7 (F := Ideal) (cnt m c)) := by
  obtain rfl : c = 0 := Subsingleton.elim _ _
  rw [← V_ends m 0]
  exact V_expert m 0

theorem used_eq (c : Dev nD) : usedW (tU (adm m)) = val_main_v24 (F := Ideal) (cnt m c) (fun a => a.elim0) := by
  obtain rfl : c = 0 := Subsingleton.elim _ _
  rw [used_ref, ← V_used m 0]
  unfold usedW
  exact congrArg (V m 0 main_v21 : IVec S1 32) (funext fun a => match a with | 0 => Subsingleton.elim (α := Fin 1) _ _)

theorem point (c : Dev nD) (t : Fin (cfg0 (adm m)).N) (y : S512x512.Idx) (i : S36864x3584.Idx)
    (h0 : (i 0).val = t.val % 72 * 512 + (y 0).val) (h1 : (i 1).val = t.val / 72 * 512 + (y 1).val) :
    oB m (adm m) c t y = val_main_v129 (F := Ideal) (Xs m c) (cnt m c) (Wg m c) (Wu m c) i := by
  obtain ⟨r, k, rfl⟩ : ∃ r k, y = ix2 r k := ⟨y 0, y 1, by funext a; match a with | 0 => rfl | 1 => rfl⟩
  obtain ⟨R, C, rfl⟩ : ∃ R C, i = ix2 R C := ⟨i 0, i 1, by funext a; match a with | 0 => rfl | 1 => rfl⟩
  have h0 : R.val = t.val % 72 * 512 + r.val := h0
  have h1 : C.val = t.val / 72 * 512 + k.val := h1
  have hd : R.val / 512 = t.val % 72 := by omega
  have hw := expert_row (cnt m c) R
  have hE := tE_eq m c
  have hT : (⟨R.val / 512, by omega⟩ : Fin 72) = ⟨t.val % 72, Nat.mod_lt _ (by decide)⟩ := Fin.ext hd
  rw [hT, ← hE] at hw
  have hlt : (tE (adm m) (ix1 (⟨t.val % 72, Nat.mod_lt _ (by decide)⟩ : Fin 72))).toNat < 8 := by rw [hE]; exact expert_lt _ _
  rw [block_at (adm m) m c t ⟨_, hlt⟩ rfl r k R C h0 h1,
    ref_at (Xs m c) (cnt m c) (Wg m c) (Wu m c) R C ⟨_, hlt⟩ (hw.trans (BitVec.eq_of_toNat_eq (by exact (word (Nat.lt_of_lt_of_le hlt (by decide))).symm)))]
  refine if_congr ?_ rfl rfl
  rw [live_row, hd, used_eq m c]

/-- The result is the reference's. -/
theorem final (c : Dev nD) : (dats m (adm m) 0 c).arrAt 3 (cfg0 (adm m)).N
    = val_main_v129 (F := Ideal) (Xs m c) (cnt m c) (Wg m c) (Wu m c) := by
  refine (dats m (adm m) 0 c).arrAt_eq_of_covers 3 _ (covers3 (adm m)) fun t _ y => ?_
  blk_simp
  rw [after0_3]
  refine point m c t y _ ?_ ?_
  all_goals (have e := idx3 (adm m) t; blk_simp [e] <;> try omega)

end Cert.Kernel4Ideal.Moe
end
-- ==== Proof.MoeDownTab.lean ====
/- THE EXPERTS' SECOND PRODUCT, up to its call: what the buffers hold when the call is entered, and the two tables the call
   reads — the expert of each tile of rows and the number of tiles in use. -/
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Pipeline.ValueKit
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel5Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel5Ideal Cert.Kernel5Ideal.Gen

variable {F : FTy → Type} [FloatOps F]
local notation "𝕄" => MT nD τ sig Unit (Elt F) ℕ (UR sig nD τ) ℕ
variable (m : (ℓ : Loc nD τ sig) → Buf (Elt F) ℓ)

/-- The host operations before the call, stretch by stretch. -/
abbrev opss : List (List (HloOp τ sig (Elt F))) :=
  [hostOps0, hostOps0_1, hostOps0_2, hostOps0_3, hostOps0_4, hostOps0_5, hostOps0_6]

/-- What the buffers hold when the call is entered. -/
abbrev V (c : Dev nD) (b : Ref sig .tc) : Buf (Elt F) ((c : Thread nD τ).loc b) :=
  StableHlo.after opss.flatten (fun b => m (c, b)) b

theorem opss_fresh : (opss : List (List (HloOp τ sig (Elt F)))).Forall fun ops => ops.Forall fun op => op.fresh = ∅ := by
  simp only [List.Forall]; repeat' constructor

theorem opss_sub : (opss : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main opss opss_sub opss_fresh main_chain

theorem V_main_arg0 (c : Dev nD) : V m c main_arg0 = m ((c : Thread nD τ).loc main_arg0) := by entry_read; rfl
theorem V_main_arg1 (c : Dev nD) : V m c main_arg1 = m ((c : Thread nD τ).loc main_arg1) := by entry_read; rfl
theorem V_main_arg2 (c : Dev nD) : V m c main_arg2 = m ((c : Thread nD τ).loc main_arg2) := by entry_read; rfl

theorem V_rows (c : Dev nD) : V m c main_v22 = truncf .bf16 (m ((c : Thread nD τ).loc main_arg0) : FVec F S36864x3584 .f32) bitsLt_bf16_f32 := by
  entry_read
  rfl

/-- Where each expert's rows end. -/
abbrev ends (c : Dev nD) : IVec S8 32 := V m c main_v7

/-- The expert of each tile. -/
def expertOf (e : IVec S8 32) : IVec S72 32 :=
  minsi (Host.reduce IntOp.addi
    (extui 32 (cmpi .sge
      (broadcastInDim S72x8 ![0, 1] bcast_S72x1_S72x8_0_1 (broadcastInDim S72x1 ![0] bcast_S72_S72x1_0
        (muli (iotaInDim S72 32 0) (broadcastInDim S72 ![] bcast_S_S72 (constantI S_ 32 512#32)))))
      (broadcastInDim S72x8 ![0, 1] bcast_S1x8_S72x8_0_1 (broadcastInDim S1x8 ![1] bcast_S8_S1x8_1 e))) natLt_1_32)
    (constantI S_ 32 0#32) reducesTo_S72x8_S72_d1 h_S_)
    (broadcastInDim S72 ![] bcast_S_S72 (constantI S_ 32 7#32))

set_option maxHeartbeats 1600000 in
theorem V_expert (c : Dev nD) : V m c main_v19 = expertOf (ends m c) := by
  unfold ends
  entry_read
  rfl

/-- A sum of words that are each 0 or 1 is at most the number of them. -/
theorem foldl_le {α : Type} (f : α → BitVec 32) (hf : ∀ i, (f i).toNat ≤ 1) (l : List α) (r : BitVec 32)
    (hr : r.toNat + l.length < 2 ^ 31) : (l.foldl (fun r i => IntOp.addi r (f i)) r).toNat < 2 ^ 31 := by
  induction l generalizing r with
  | nil => simpa using hr
  | cons a l ih =>
    refine ih _ ?_
    have h1 := hf a
    rw [List.length_cons] at hr
    have e : (IntOp.addi r (f a)).toNat = r.toNat + (f a).toNat := by
      show (r + f a).toNat = _
      rw [BitVec.toNat_add, Nat.mod_eq_of_lt (by omega)]
    show (IntOp.addi r (f a)).toNat + l.length < 2 ^ 31
    omega

theorem minsi_le (x : BitVec 32) (h : x.toNat < 2 ^ 31) : (IntOp.minsi x 7#32).toNat < 8 := by
  unfold IntOp.minsi
  split
  · rename_i hs
    rw [BitVec.slt_iff_toInt_lt, BitVec.toInt_eq_toNat_of_lt (by omega)] at hs
    have : (7#32).toInt = 7 := by decide
    omega
  · decide

theorem expert_lt (e : IVec S8 32) (i : S72.Idx) : (expertOf e i).toNat < 8 := by
  unfold expertOf
  refine minsi_le _ ?_
  rw [Host.reduce_eq_foldl]
  refine foldl_le _ (fun i => ?_) _ _ ?_
  · show (BitVec.setWidth 32 _).toNat ≤ 1
    rw [BitVec.toNat_setWidth]
    have := BitVec.isLt (cmpi .sge
      (broadcastInDim S72x8 ![0, 1] bcast_S72x1_S72x8_0_1 (broadcastInDim S72x1 ![0] bcast_S72_S72x1_0
        (muli (iotaInDim S72 32 0) (broadcastInDim S72 ![] bcast_S_S72 (constantI S_ 32 512#32)))))
      (broadcastInDim S72x8 ![0, 1] bcast_S1x8_S72x8_0_1 (broadcastInDim S1x8 ![1] bcast_S8_S1x8_1 e)) i)
    omega
  · refine lt_of_le_of_lt (Nat.add_le_add_left (List.length_filter_le _ _) _) ?_
    rw [List.length_map, List.length_finRange]
    decide

/-- The tables the call reads. -/
def tab : pre0.Contents (Elt F) := fun k => V m (0 : Dev nD) (pre0.ref k)

theorem tab_expert (i : S72.Idx) : ((tab m 0 : S72.Idx → BitVec 32) i).toNat < 8 := by
  have : (tab m 0 : S72.Idx → BitVec 32) = expertOf (ends m 0) := V_expert m 0
  rw [this]
  exact expert_lt _ _

theorem col_lt (i : grid0.Coords) : (i 0).val < 4 := (i 0).isLt

theorem col_ofNat (i : grid0.Coords) : (BitVec.ofNat 32 (i 0).val).toNat = (i 0).val := by
  have := col_lt i
  rw [BitVec.toNat_ofNat, Nat.mod_eq_of_lt (by omega)]

/-- The tables are admissible: every block of weights they name lies in its array. -/
theorem tab_ok : ok0 (tab (F := F) m) := by
  unfold ok0
  refine fun i => ⟨?_, .inl rfl⟩
  all_goals
    have h1 := col_lt i
    have h2 := col_ofNat i
    intro a
    match a with
    | 0 =>
      refine Nat.lt_of_lt_of_le (Nat.lt_succ_self _) ?_
      exact Nat.mul_le_mul (Nat.succ_le_of_lt (tab_expert m _)) (le_refl 1)
    | 1 => show (0 + 1) * 3584 ≤ 3584; omega
    | 2 => show ((BitVec.ofNat 32 (i 0).val).toNat + 1) * 1024 ≤ 4096; omega

/-- They, admissible. -/
def adm : (pcfg0 (F := F)).Adm := ⟨tab m, tab_ok m⟩

end Cert.Kernel5Ideal.Moe
end
-- ==== Proof.MoeDownBody.lean ====
/- THE EXPERTS' SECOND PRODUCT, one step of its grid: the body at a point, from what the tables say of the point — whether the
   tile is in use, and whether its expert is another than the tile before it had. -/
module

public import proofs.«01_k».proof.Proof.MoeDownTab

@[expose] public section

set_option maxRecDepth 16384

noncomputable section

namespace Cert.Kernel5Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel5Ideal Cert.Kernel5Ideal.Gen

variable {F : FTy → Type} [FloatOps F]
local notation "𝕄" => MT nD τ sig Unit (Elt F) ℕ (UR sig nD τ) ℕ

/-- The expert the table names for the tile of the point, -/
def tileW (T0 : Vec F S72 .i32) (i : grid0.Coords) : BitVec 32 :=
  T0 ((Rect.unit (s := S72) (k0_off1 i) S1.size (k0_off1_inb i)).emb (Shape.Idx.first (numel1_S1.symm ▸ Nat.one_pos)))
/-- for the tile before it, -/
def prevW (T0 : Vec F S72 .i32) (i : grid0.Coords) : BitVec 32 :=
  T0 ((Rect.unit (s := S72) (k0_off2 i) S1.size (k0_off2_inb i)).emb (Shape.Idx.first (numel1_S1.symm ▸ Nat.one_pos)))
/-- and the number of tiles in use. -/
def usedW (T1 : Vec F S1 .i32) : BitVec 32 :=
  T1 ((Rect.unit (s := S1) ![0] S1.size inb_S1_S1_0).emb (Shape.Idx.first (numel1_S1.symm ▸ Nat.one_pos)))

/-- Whether the point casts its expert's weights anew. -/
def fresh (T0 : Vec F S72 .i32) (T1 : Vec F S1 .i32) (i : grid0.Coords) : BitVec 1 :=
  Scalar.cmpi .ne (Scalar.extui (Scalar.andi (Scalar.cmpi .slt (BitVec.ofNat 32 (i 1).val) (usedW T1))
    (Scalar.ori (Scalar.cmpi .eq (BitVec.ofNat 32 (i 1).val) 0#32) (Scalar.cmpi .ne (tileW T0 i) (prevW T0 i)))) : BitVec 32) 0#32

/-- The cast weights a point leaves: its own block where it casts anew, what it found elsewhere. -/
def heldG (T0 : Vec F S72 .i32) (T1 : Vec F S1 .i32) (i : grid0.Coords) (x : Vec F S1x3584x1024 .f32) (s : Vec F S3584x1024 .bf16) :
    Vec F S3584x1024 .bf16 :=
  if fresh T0 T1 i = 1#1 then k0_pay1 x else s

/-- The block a point leaves: zero past the tiles in use, the product of its rows with the cast weights before. -/
def outB (T1 : Vec F S1 .i32) (i : grid0.Coords) (x : Vec F S512x3584 .bf16) (w : Vec F S3584x1024 .bf16) (d : Vec F S512x1024 .bf16) :
    Vec F S512x1024 .bf16 :=
  if k0_cond3 i (usedW T1) = 1#1 then k0_pay3 else if k0_cond2 i (usedW T1) = 1#1 then k0_pay2 x w else d

/-- A store of a whole buffer leaves its payload. -/
theorem read_writes_whole {sp : Space} {S : Shape} {e : EltTy} (w : View sig .tc sp S e) (f : w.ty.Contents (Elt F))
    {off : Fin S.rank → ℕ} (h : ∀ a, off a = 0) (inb : ∀ a, off a + S.size a ≤ S.size a) (x : S.Idx → Elt F e)
    (L : List (View.Piece (Elt F) S e)) :
    w.read (Elt F) (w.writes (Elt F) f ((⟨Rect.unit off S.size inb, x⟩ : View.Piece (Elt F) S e) :: L)) = x := by
  have h' : off = fun _ => 0 := funext h
  rw [View.read_writes_eq_canon _ _ _ (fun y => ⟨_, List.mem_cons_self, View.mem_set_unit_zero h' inb y⟩)]
  exact View.canon_cons_unit_zero h' inb x L

/-- A load of a whole buffer reads what it holds. -/
theorem readAt_whole {sp : Space} {S : Shape} {e : EltTy} (w : View sig .tc sp S e) (f : w.ty.Contents (Elt F))
    {off : Fin S.rank → ℕ} (h : ∀ a, off a = 0) (inb : ∀ a, off a + S.size a ≤ S.size a) :
    w.readAt (Elt F) (Rect.unit off S.size inb).toLoadRect f = w.read (Elt F) f := by
  have h' : off = fun _ => 0 := funext h
  subst h'
  funext y
  rw [View.readAt_eq_ld]
  refine congrArg (w.read (Elt F) f) ?_
  funext a
  exact Fin.ext (by simp)

set_option maxHeartbeats 2000000 in
theorem sound_kernel (c : Dev nD) (E : Set ℕ) (i : grid0.Coords) (q0 q1 : PosShare TreeShare)
    (arg4 : Memref sig .tc .vmem S512x3584 .bf16) (harg4 : arg4.IsWhole) (arg5 : Memref sig .tc .vmem S1x3584x1024 .f32) (harg5 : arg5.IsWhole) (arg6 : Memref sig .tc .vmem S512x1024 .bf16) (harg6 : arg6.IsWhole)
    (T0 : Vec F S72 .i32) (T1 : Vec F S1 .i32)
    (x0 : Vec F S512x3584 .bf16) (x1 : Vec F S1x3584x1024 .f32) (d : Vec F S512x1024 .bf16) (s0 : Vec F S3584x1024 .bf16) (K : PUnit → sProp 𝕄) :
    iprop(owns (c : Thread nD τ) (Memref.whole main_v19 : Memref sig .tc .smem S72 .i32) q0 T0 ∗ owns (c : Thread nD τ) (Memref.whole main_v21 : Memref sig .tc .smem S1 .i32) q1 T1
        ∗ owns (c : Thread nD τ) arg4 fullShare x0 ∗ owns (c : Thread nD τ) arg5 fullShare x1 ∗ owns (c : Thread nD τ) arg6 fullShare d
        ∗ owns (c : Thread nD τ) (Memref.whole cc0_scratch0 : Memref sig .tc .vmem S3584x1024 .bf16) fullShare s0
        ∗ (iprop(owns (c : Thread nD τ) (Memref.whole main_v19 : Memref sig .tc .smem S72 .i32) q0 T0 ∗ owns (c : Thread nD τ) (Memref.whole main_v21 : Memref sig .tc .smem S1 .i32) q1 T1
            ∗ owns (c : Thread nD τ) arg4 fullShare x0 ∗ owns (c : Thread nD τ) arg5 fullShare x1
            ∗ owns (c : Thread nD τ) arg6 fullShare (outB T1 i x0 (heldG T0 T1 i x1 s0) d)
            ∗ owns (c : Thread nD τ) (Memref.whole cc0_scratch0 : Memref sig .tc .vmem S3584x1024 .bf16) fullShare (heldG T0 T1 i x1 s0)) -∗ K ⟨⟩))
      ⊢ wp frame (wpE (defs₀ (F := F)) Variants.none c none) E (cc0_moe_down i (Memref.whole main_v19) (Memref.isWhole_whole _) (Memref.whole main_v21) (Memref.isWhole_whole _) arg4 harg4 arg5 harg5 arg6 harg6 (Memref.whole cc0_scratch0) (Memref.isWhole_whole _)) K := by
  simp only [cc0_moe_down_eq_skeleton]; unfold cc0_moe_down_skel
  unfold owns
  iintro ⟨⟨%t0, %ht0, Ht0⟩, ⟨%t1, %ht1, Ht1⟩, ⟨%f0, %hf0, H0⟩, ⟨%f1, %hf1, H1⟩, ⟨%f2, %hf2, H2⟩, ⟨%g0, %hg0, S0⟩, Hk⟩
  subst hf0 hf1 hf2 hg0 ht0 ht1
  sl_exec
  sl_step
  iapply Hk
  isplitl [Ht0]
  · iexists t0; isplitr; · ipureintro; rfl
    iexact Ht0
  isplitl [Ht1]
  · iexists t1; isplitr; · ipureintro; rfl
    iexact Ht1
  isplitl [H0]
  · iexists f0; isplitr; · ipureintro; rfl
    iexact H0
  isplitl [H1]
  · iexists f1; isplitr; · ipureintro; rfl
    iexact H1
  have hz2 : ∀ a : Fin 2, (![0, 0] : Fin 2 → ℕ) a = 0 := by decide
  have hz3 : ∀ a : Fin 3, (![0, 0, 0] : Fin 3 → ℕ) a = 0 := by decide
  have er : sound_kernel.sl.r c t1 = usedW ((Memref.whole main_v21).view.read (Elt F) t1) := rfl
  have ev : sound_kernel.sl.v13 c i t0 t1 = fresh ((Memref.whole main_v19).view.read (Elt F) t0) ((Memref.whole main_v21).view.read (Elt F) t1) i := rfl
  have e0 : View.read (Elt F) (Memref.whole cc0_scratch0).view (if hc : sound_kernel.sl.v13 c i t0 t1 = 1#1 then (Memref.whole cc0_scratch0).view.writes (Elt F) g0 [⟨Rect.unit ![0, 0] S3584x1024.size inb_S3584x1024_S3584x1024_0_0, k0_pay1 (View.readAt (Elt F) arg5.view (Rect.unit ![0, 0, 0] S1x3584x1024.size inb_S1x3584x1024_S1x3584x1024_0_0_0).toLoadRect f1)⟩] else g0)
      = heldG ((Memref.whole main_v19).view.read (Elt F) t0) ((Memref.whole main_v21).view.read (Elt F) t1) i (arg5.view.read (Elt F) f1) ((Memref.whole cc0_scratch0).view.read (Elt F) g0) := by
    unfold heldG
    rw [← ev]
    split_ifs with h1
    · exact (read_writes_whole (S := S3584x1024) _ _ hz2 _ _ _).trans (congrArg k0_pay1 (readAt_whole _ _ hz3 _))
    · rfl
  have e2 : sound_kernel.sl.v21 c i arg5 t0 t1 f1 g0 = heldG ((Memref.whole main_v19).view.read (Elt F) t0) ((Memref.whole main_v21).view.read (Elt F) t1) i (arg5.view.read (Elt F) f1) ((Memref.whole cc0_scratch0).view.read (Elt F) g0) := by
    rw [← e0]
    exact readAt_whole _ _ hz2 _
  isplitl [H2]
  · iexists _
    isplitr; swap; · iexact H2
    ipureintro
    unfold outB
    rw [← er, ← e2]
    split_ifs with h1 h2
    · exact read_writes_whole _ _ hz2 _ _ _
    · exact (read_writes_whole _ _ hz2 _ _ _)
    · rw [read_writes_whole _ _ hz2, readAt_whole _ _ hz2]
    · rfl
  iexists _
  isplitr; swap; · iexact S0
  ipureintro
  exact e0

end Cert.Kernel5Ideal.Moe
end
-- ==== Proof.MoeDownData.lean ====
/- THE EXPERTS' SECOND PRODUCT, its proof data: the cast weights a point finds in the buffers it keeps are its own expert's
   wherever its tile is in use, so each point in use leaves the product of its own blocks, and every other zero. -/
module

public import proofs.«01_k».proof.Proof.MoeDownBody

@[expose] public section

set_option maxRecDepth 16384

noncomputable section

namespace Cert.Kernel5Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel5Ideal Cert.Kernel5Ideal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## The words -/

theorem tile_word (T0 : Vec F S72 .i32) (i : grid0.Coords) : tileW T0 i = T0 (ix1 (⟨(i 1).val, (i 1).isLt⟩ : Fin 72)) := by
  have h : ∀ n : Fin 72, (Scalar.indexCast (BitVec.ofNat 32 n.val) : BitVec 32).toNat = n.val := by decide
  unfold tileW
  refine congrArg T0 (funext fun a => Fin.ext ?_)
  obtain rfl := Subsingleton.elim a (0 : Fin 1)
  have e := h (i 1)
  simp only [k0_off1]
  exact e

theorem prev_word (T0 : Vec F S72 .i32) (i : grid0.Coords) :
    prevW T0 i = T0 (ix1 (⟨(i 1).val - 1, lt_of_le_of_lt (Nat.sub_le _ _) (i 1).isLt⟩ : Fin 72)) := by
  have h : ∀ n : Fin 72, (Scalar.indexCast (Scalar.maxsi (Scalar.subi (BitVec.ofNat 32 n.val) 1#32) 0#32) : BitVec 32).toNat = n.val - 1 := by decide
  unfold prevW
  refine congrArg T0 (funext fun a => Fin.ext ?_)
  obtain rfl := Subsingleton.elim a (0 : Fin 1)
  have e := h (i 1)
  simp only [k0_off2]
  exact e

/-- A tile is in use iff its number is below the number of tiles in use. -/
theorem cond2_iff (i : grid0.Coords) (r : BitVec 32) : k0_cond2 i r = 1#1 ↔ (BitVec.ofNat 32 (i 1).val).toInt < r.toInt := by
  show Scalar.cmpi .ne (Scalar.extui (BitVec.ofBool (decide ((BitVec.ofNat 32 (i 1).val).toInt < r.toInt))) : BitVec 32) 0#32 = 1#1 ↔ _
  by_cases h : (BitVec.ofNat 32 (i 1).val).toInt < r.toInt
  · simp only [h]; decide
  · simp only [h]; decide

theorem cond3_iff (i : grid0.Coords) (r : BitVec 32) : k0_cond3 i r = 1#1 ↔ ¬ k0_cond2 i r = 1#1 := by
  show Scalar.cmpi .ne (Scalar.extui (Scalar.xori (BitVec.ofBool (decide ((BitVec.ofNat 32 (i 1).val).toInt < r.toInt))) 1#1) : BitVec 32) 0#32 = 1#1
    ↔ ¬ Scalar.cmpi .ne (Scalar.extui (BitVec.ofBool (decide ((BitVec.ofNat 32 (i 1).val).toInt < r.toInt))) : BitVec 32) 0#32 = 1#1
  by_cases h : (BitVec.ofNat 32 (i 1).val).toInt < r.toInt
  · simp only [h]; decide
  · simp only [h]; decide

theorem fresh_iff (T0 : Vec F S72 .i32) (T1 : Vec F S1 .i32) (i : grid0.Coords) :
    fresh T0 T1 i = 1#1 ↔ (BitVec.ofNat 32 (i 1).val).toInt < (usedW T1).toInt ∧ (BitVec.ofNat 32 (i 1).val = 0#32 ∨ tileW T0 i ≠ prevW T0 i) := by
  unfold fresh
  rw [show (Scalar.cmpi .slt (BitVec.ofNat 32 (i 1).val) (usedW T1)) = BitVec.ofBool (decide ((BitVec.ofNat 32 (i 1).val).toInt < (usedW T1).toInt)) from rfl,
    show (Scalar.cmpi .eq (BitVec.ofNat 32 (i 1).val) 0#32) = BitVec.ofBool (decide (BitVec.ofNat 32 (i 1).val = 0#32)) from WordCmp.cmpi_eq_eq _ _,
    show (Scalar.cmpi .ne (tileW T0 i) (prevW T0 i)) = BitVec.ofBool (decide (tileW T0 i ≠ prevW T0 i)) from WordCmp.cmpi_ne_eq _ _]
  have h : ∀ (p q r : Prop) [Decidable p] [Decidable q] [Decidable r],
      Scalar.cmpi .ne (Scalar.extui (Scalar.andi (BitVec.ofBool (decide p)) (Scalar.ori (BitVec.ofBool (decide q)) (BitVec.ofBool (decide r)))) : BitVec 32) 0#32 = 1#1
        ↔ p ∧ (q ∨ r) := by
    intro p q r _ _ _
    by_cases hp : p <;> by_cases hq : q <;> by_cases hr : r <;> simp only [hp, hq, hr] <;> decide
  exact h _ _ _

theorem outB_eq (T1 : Vec F S1 .i32) (i : grid0.Coords) (x : Vec F S512x3584 .bf16) (w : Vec F S3584x1024 .bf16) (d : Vec F S512x1024 .bf16) :
    outB T1 i x w d = if k0_cond2 i (usedW T1) = 1#1 then k0_pay2 x w else k0_pay3 := by
  unfold outB
  by_cases h : k0_cond2 i (usedW T1) = 1#1
  · rw [if_neg (fun h3 => (cond3_iff _ _).mp h3 h), if_pos h, if_pos h]
  · rw [if_pos ((cond3_iff _ _).mpr h), if_neg h]

/-- The result's window is written at every point. -/
theorem idle2 (pf : pre0.Contents (Elt F)) (i : grid0.Coords) : idle0 pf 2 i = false := by
  show (!(k0_cond2 i (pf.atD 1 ![0]) == 1#1) && !(k0_cond3 i (pf.atD 1 ![0]) == 1#1)) = false
  by_cases h : k0_cond2 i (pf.atD 1 ![0]) = 1#1
  · rw [h]; rfl
  · rw [(cond3_iff _ _).mpr h]; simp

/-! ## The grid -/

theorem col_of (t : Fin grid0.N) : (grid0.coords t 0).val = t.val / 72 := by
  have h : ∀ t : Fin grid0.N, (grid0.coords t 0).val = t.val / 72 := by decide +kernel
  exact h t
theorem row_of (t : Fin grid0.N) : (grid0.coords t 1).val = t.val % 72 := by
  have h : ∀ t : Fin grid0.N, (grid0.coords t 1).val = t.val % 72 := by decide +kernel
  exact h t

/-! ## The proof data, at any tables the call admits -/

section
variable (a : (pcfg0 (F := F)).Adm)

/-- The tables: the expert of each tile, and the number of tiles in use. -/
def tE : Vec F S72 .i32 := a.1 0
def tU : Vec F S1 .i32 := a.1 1

/-- Window `w`'s block at point `t`. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

/-- The rows and the weights of the point. -/
def xB (c : Dev nD) (t : Fin (cfg0 a).N) : Vec F S512x3584 .bf16 := iblk m a c 0 t
def gB (c : Dev nD) (t : Fin (cfg0 a).N) : Vec F S1x3584x1024 .f32 := iblk m a c 1 t

/-- The tile of the point is in use. -/
def live (t : Fin (cfg0 a).N) : Prop := k0_cond2 (grid0.coords t) (usedW (tU a)) = 1#1
instance (t : Fin (cfg0 a).N) : Decidable (live a t) := by unfold live; infer_instance

/-- The block a point leaves. -/
def oB (c : Dev nD) (t : Fin (cfg0 a).N) : Vec F S512x1024 .bf16 :=
  if live a t then k0_pay2 (xB m a c t) (k0_pay1 (gB m a c t)) else k0_pay3

/-- Between points: where the point before had its tile in use, the kept buffers hold its cast weights. -/
def carry (c : Dev nD) (n : ℕ) (s0 : Vec F S3584x1024 .bf16) : Prop :=
  ∀ t : Fin (cfg0 a).N, t.val + 1 = n → live a t → s0 = k0_pay1 (gB m a c t)

/-- Between points: the tables, the kept buffers and the generator's register. -/
def PhiAt (c : Dev nD) (n : ℕ) : sProp 𝕄 :=
  iprop((owns (c : Thread nD τ) (Memref.whole main_v19 : Memref sig .tc .smem S72 .i32) fullShare.right (tE a)
      ∗ owns (c : Thread nD τ) (Memref.whole main_v21 : Memref sig .tc .smem S1 .i32) fullShare.right (tU a))
    ∗ (∃ s0, ⌜carry m a c n s0⌝
      ∗ owns (c : Thread nD τ) (Memref.whole cc0_scratch0 : Memref sig .tc .vmem S3584x1024 .bf16) fullShare s0)
    ∗ ∃ r, prngReg c r)

def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => oB m a c t
  Φ t := PhiAt m a c t.val
  q _ := fullShare
  owed _ := 0

theorem A_eq (c : Dev nD) (w : Fin (cfg0 a).W) : (dats m a 0 c).A w = V m c (Pipeline.arrRef spec0 w) := by dsimp only [dats]
theorem after0_0 (c : Dev nD) (t : Fin (cfg0 a).N) : (dats m a 0 c).after 0 t = iblk m a c 0 t := by dsimp only [dats]; rfl
theorem after0_1 (c : Dev nD) (t : Fin (cfg0 a).N) : (dats m a 0 c).after 1 t = iblk m a c 1 t := by dsimp only [dats]; rfl
theorem after0_2 (c : Dev nD) (t : Fin (cfg0 a).N) : (dats m a 0 c).after 2 t = oB m a c t := by dsimp only [dats]; rfl

theorem fetched1 (c : Dev nD) (t : Fin (cfg0 a).N) (d) : (dats m a 0 c).fetched 1 t d = gB m a c t := by
  unfold Dat.fetched Dat.blockOf gB iblk; rw [A_eq]; rfl

theorem before0_0 (c : Dev nD) (t : Fin (cfg0 a).N) (d) : (dats m a 0 c).before 0 t d = xB m a c t :=
  ((dats m a 0 c).before_in_eq_fetched 0 rfl (fun _ => rfl) (fun _ _ _ => rfl) (fun t => by rw [after0_0]; unfold Dat.blockOf iblk; rw [A_eq]) t d).trans
    (by unfold Dat.fetched Dat.blockOf xB iblk; rw [A_eq]; rfl)
theorem before0_1 (c : Dev nD) (t : Fin (cfg0 a).N) (d) : (dats m a 0 c).before 1 t d = gB m a c t :=
  ((dats m a 0 c).before_in_eq_fetched 1 rfl (fun _ => rfl) (fun _ _ _ => rfl) (fun t => by rw [after0_1]; unfold Dat.blockOf iblk; rw [A_eq]) t d).trans
    (fetched1 m a c t d)

/-- A block is its index's. -/
theorem gB_congr (c : Dev nD) (t t' : Fin (cfg0 a).N) (h : ((cfg0 a).win 1).index t = ((cfg0 a).win 1).index t') : gB m a c t = gB m a c t' := by
  rw [← fetched1 m a c t (fun _ => default), ← fetched1 m a c t' (fun _ => default)]
  exact (dats m a 0 c).fetched_congr 1 h rfl _

theorem index1 (t : Fin (cfg0 a).N) : ((cfg0 a).win 1).index t = ![(tileW (tE a) (grid0.coords t)).toNat, (0#32).toNat, (BitVec.ofNat 32 (grid0.coords t 0).val).toNat] := rfl

/-- A point in use ends with its own cast weights in the kept buffers. -/
theorem held (c : Dev nD) (t : Fin (cfg0 a).N) (s0 : Vec F S3584x1024 .bf16) (hc : carry m a c t.val s0) (hl : live a t) :
    heldG (tE a) (tU a) (grid0.coords t) (gB m a c t) s0 = k0_pay1 (gB m a c t) := by
  unfold heldG
  by_cases hf : fresh (tE a) (tU a) (grid0.coords t) = 1#1
  · rw [if_pos hf]
  · rw [if_neg hf]
    have hlt := (cond2_iff _ _).mp hl
    rw [fresh_iff] at hf
    have hN : t.val < 288 := N_0 ▸ t.isLt
    have h0 : (grid0.coords t 1).val ≠ 0 := fun e => hf ⟨hlt, .inl (by rw [e])⟩
    have hte : tileW (tE a) (grid0.coords t) = prevW (tE a) (grid0.coords t) := Classical.byContradiction fun h => hf ⟨hlt, .inr h⟩
    have hr := row_of t
    let t' : Fin (cfg0 a).N := ⟨t.val - 1, lt_of_le_of_lt (Nat.sub_le _ _) t.isLt⟩
    have hr' := row_of t'
    have hc0 := col_of t
    have hc1 := col_of t'
    have ht' : t'.val = t.val - 1 := rfl
    have e1 : (grid0.coords t' 1).val = (grid0.coords t 1).val - 1 := by rw [hr', hr, ht']; omega
    have e0 : (grid0.coords t' 0).val = (grid0.coords t 0).val := by rw [hc0, hc1, ht']; omega
    have hl' : live a t' := by
      refine (cond2_iff _ _).mpr (lt_trans ?_ hlt)
      have hb : (grid0.coords t 1).val < 72 := by rw [hr]; exact Nat.mod_lt _ (by decide)
      rw [e1, WordCmp.toInt_ofNat_of_lt (by omega), WordCmp.toInt_ofNat_of_lt (by omega)]
      omega
    have hw : tileW (tE a) (grid0.coords t') = tileW (tE a) (grid0.coords t) := by
      rw [hte, tile_word, prev_word]
      exact congrArg (fun x => tE a (ix1 x)) (Fin.ext e1)
    have h1 := hc t' (by rw [ht']; omega) hl'
    refine h1.trans (congrArg k0_pay1 (gB_congr m a c _ _ ?_))
    rw [index1, index1, hw, e0]

theorem carry_succ (c : Dev nD) (t : Fin (cfg0 a).N) (s0 : Vec F S3584x1024 .bf16) (hc : carry m a c t.val s0) :
    carry m a c (t.val + 1) (heldG (tE a) (tU a) (grid0.coords t) (gB m a c t) s0) := by
  intro t' ht' hl
  obtain rfl : t' = t := Fin.ext (by omega)
  exact held m a c _ s0 hc hl

theorem out_eq (c : Dev nD) (t : Fin (cfg0 a).N) (s0 : Vec F S3584x1024 .bf16) (hc : carry m a c t.val s0) (d : Vec F S512x1024 .bf16) :
    outB (tU a) (grid0.coords t) (xB m a c t) (heldG (tE a) (tU a) (grid0.coords t) (gB m a c t) s0) d
      = oB m a c t := by
  rw [outB_eq]; unfold oB
  by_cases hl : live a t
  · rw [if_pos hl]; refine (if_pos hl).trans ?_; rw [held m a c t s0 hc hl]
  · rw [if_neg hl]; exact if_neg hl

end

end Cert.Kernel5Ideal.Moe
end
-- ==== Proof.MoeDownRun.lean ====
/- THE EXPERTS' SECOND PRODUCT, its run: the obligation of the body at every point, the run of the program and its frame. -/
module

public import proofs.«01_k».proof.Proof.MoeDownData

@[expose] public section

set_option maxRecDepth 16384

noncomputable section

namespace Cert.Kernel5Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel5Ideal Cert.Kernel5Ideal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)
/-! ## The body at a point -/

section
variable (a : (pcfg0 (F := F)).Adm)

abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)

/-- The body on the buffers the point is called with. -/
abbrev bodyAt0 (t : Fin (cfg0 a).N) : Prog (TpuEff nD τ sig (Elt F) Λ₀ .tc) PUnit :=
  cc0_moe_down (grid0.coords t) (Memref.whole main_v19) (Memref.isWhole_whole _) (Memref.whole main_v21) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (Memref.whole cc0_scratch0) (Memref.isWhole_whole _)

def bodyPre (c : Dev nD) (t : Fin (cfg0 a).N) : sProp 𝕄 :=
  iprop((dats m a 0 c).Φ t.castSucc ∗ (dats m a 0 c).owesAt () t.castSucc
    ∗ (∃ d, owns (c : Thread nD τ) (st0_0 a t : Memref sig .tc .vmem S512x3584 .bf16) fullShare ((dats m a 0 c).before 0 t d))
    ∗ (∃ d, owns (c : Thread nD τ) (st0_1 a t : Memref sig .tc .vmem S1x3584x1024 .f32) fullShare ((dats m a 0 c).before 1 t d))
    ∗ (∃ d, owns (c : Thread nD τ) (st0_2 a t : Memref sig .tc .vmem S512x1024 .bf16) fullShare ((dats m a 0 c).before 2 t d)))

def bodyPost (c : Dev nD) (t : Fin (cfg0 a).N) : sProp 𝕄 :=
  iprop((dats m a 0 c).Φ t.succ ∗ (dats m a 0 c).owesAt () t.succ
    ∗ owns (c : Thread nD τ) (st0_0 a t : Memref sig .tc .vmem S512x3584 .bf16) fullShare ((dats m a 0 c).after 0 t)
    ∗ owns (c : Thread nD τ) (st0_1 a t : Memref sig .tc .vmem S1x3584x1024 .f32) fullShare ((dats m a 0 c).after 1 t)
    ∗ owns (c : Thread nD τ) (st0_2 a t : Memref sig .tc .vmem S512x1024 .bf16) fullShare ((dats m a 0 c).after 2 t))

theorem Phi_eq (c : Dev nD) (t : Fin ((cfg0 a).N + 1)) : (dats m a 0 c).Φ t = PhiAt m a c t.val := by dsimp only [dats]
theorem Phi_castSucc (c : Dev nD) (t : Fin (cfg0 a).N) : (dats m a 0 c).Φ t.castSucc = PhiAt m a c t.val := by rw [Phi_eq, Fin.val_castSucc]
theorem Phi_succ (c : Dev nD) (t : Fin (cfg0 a).N) : (dats m a 0 c).Φ t.succ = PhiAt m a c (t.val + 1) := by rw [Phi_eq, Fin.val_succ]

set_option maxHeartbeats 1000000 in
/-- The body at point `t`, on any buffers holding the point's blocks. -/
theorem sound_point (c : Dev nD) (t : Fin (cfg0 a).N) (O : sProp 𝕄)
    (arg4 : Memref sig .tc .vmem S512x3584 .bf16) (harg4 : arg4.IsWhole) (arg5 : Memref sig .tc .vmem S1x3584x1024 .f32) (harg5 : arg5.IsWhole) (arg6 : Memref sig .tc .vmem S512x1024 .bf16) (harg6 : arg6.IsWhole)
    (d : Vec F S512x1024 .bf16) :
    iprop(PhiAt m a c t.val ∗ O
        ∗ owns (c : Thread nD τ) arg4 fullShare (xB m a c t) ∗ owns (c : Thread nD τ) arg5 fullShare (gB m a c t)
        ∗ owns (c : Thread nD τ) arg6 fullShare d)
      ⊢ wp frame (wpE (defs₀ (F := F)) Variants.none c none) Set.univ
        (cc0_moe_down (grid0.coords t) (Memref.whole main_v19) (Memref.isWhole_whole _) (Memref.whole main_v21) (Memref.isWhole_whole _) arg4 harg4 arg5 harg5 arg6 harg6 (Memref.whole cc0_scratch0) (Memref.isWhole_whole _))
        (fun _ => iprop(PhiAt m a c (t.val + 1) ∗ O
          ∗ owns (c : Thread nD τ) arg4 fullShare (xB m a c t) ∗ owns (c : Thread nD τ) arg5 fullShare (gB m a c t)
          ∗ owns (c : Thread nD τ) arg6 fullShare (oB m a c t))) := by
  unfold PhiAt
  iintro ⟨⟨⟨T0, T1⟩, ⟨%s0, %hc, S0⟩, Hg⟩, Ho, H0, H1, H2⟩
  iapply (sound_kernel c Set.univ (grid0.coords t) fullShare.right fullShare.right arg4 harg4 arg5 harg5 arg6 harg6 (tE a) (tU a) (xB m a c t) (gB m a c t) d s0 _)
  isplitl [T0]; · iexact T0
  isplitl [T1]; · iexact T1
  isplitl [H0]; · iexact H0
  isplitl [H1]; · iexact H1
  isplitl [H2]; · iexact H2
  isplitl [S0]; · iexact S0
  rw [out_eq m a c t s0 hc]
  iintro ⟨T0, T1, H0, H1, H2, S0⟩
  isplitl [T0 T1 S0 Hg]
  · isplitl [T0 T1]
    · isplitl [T0]; · iexact T0
      iexact T1
    isplitl [S0]
    · iexists _
      isplitr; · ipureintro; exact carry_succ m a c t s0 hc
      iexact S0
    iexact Hg
  isplitl [Ho]; · iexact Ho
  isplitl [H0]; · iexact H0
  isplitl [H1]; · iexact H1
  iexact H2

theorem sound_body (c : Dev nD) (t : Fin (cfg0 a).N) :
    bodyPre m a c t ⊢ wp frame (wpE (defs₀ (F := F)) Variants.none c none) Set.univ (bodyAt0 a t) (fun _ => bodyPost m a c t) := by
  unfold bodyPre bodyPost bodyAt0
  simp only [before0_0, before0_1]
  rw [Phi_castSucc, Phi_succ, show (dats m a 0 c).owesAt () t.succ = (dats m a 0 c).owesAt () t.castSucc from rfl,
    after0_0, after0_1, after0_2]
  iintro ⟨HΦ, Ho, ⟨%d0, H0⟩, ⟨%d1, H1⟩, ⟨%d2, H2⟩⟩
  iapply (sound_point m a c t ((dats m a 0 c).owesAt () t.castSucc) _ _ _ _ _ _ ((dats m a 0 c).before 2 t d2))
  isplitl [HΦ]; · iexact HΦ
  isplitl [Ho]; · iexact Ho
  isplitl [H0]; · iexact H0
  isplitl [H1]; · iexact H1
  iexact H2

theorem defs₀_row (t : Fin (cfg0 a).N) :
    defs₀ (F := F) .tc (cfg0 a).body ((cfg0 a).bodyArgs t ((cfg0 a).slots t)) = bodyAt0 a t := by
  unfold defs₀; rw [Defs.onTc_tc]

theorem kept_of_live {b : Bool} (h : b = false) {Q R : sProp 𝕄} : R ⊢ (match (motive := Bool → sProp 𝕄) b with | true => Q | false => R) := by
  subst h; exact .rfl

theorem body_obligation (c : Dev nD) : BodyObligation (dats (F := F) m a 0 c) (defs₀ (F := F)) Variants.none () Set.univ := fun t => by
  rw [bigSep_W0, bigSep_W0, defs₀_row]
  have hi : (cfg0 a).idle (2 : Fin 3) ((cfg0 a).grid.coords t) = false := idle2 a.1 _
  exact triple_restated (sound_body m a c t) rfl .rfl fun _ =>
    sep_mono .rfl (sep_mono .rfl (sep_mono .rfl (sep_mono .rfl (kept_of_live hi))))

end

/-! ## The run and the frame -/

theorem prefHeld_eq (c : Dev nD) (v : pre0.Contents (Elt F)) (v0 : Vec F S72 .i32) (v1 : Vec F S1 .i32) (h0 : v0 = v 0) (h1 : v1 = v 1) :
    (Pipeline.ΦT (U := UR sig nD τ) pre0 v c : sProp 𝕄)
      = iprop(owns (c : Thread nD τ) (Memref.whole main_v19 : Memref sig .tc .smem S72 .i32) fullShare.right v0
        ∗ owns (c : Thread nD τ) (Memref.whole main_v21 : Memref sig .tc .smem S1 .i32) fullShare.right v1) := by
  simp only [owns_whole]
  subst h0 h1
  unfold Pipeline.ΦT Pipeline.prefHeld
  rw [show (Finset.univ : Finset (Fin 2)) = insert 0 {1} from by decide, bigSep_insert (by decide), bigSep_singleton]
  rfl

theorem PhiA_eq (c : Dev nD) : (Pipeline.ΦA spec0 c : sProp 𝕄)
    = iprop((∃ d, owns (c : Thread nD τ) (Memref.whole cc0_scratch0 : Memref sig .tc .vmem S3584x1024 .bf16) fullShare d) ∗ ∃ r, prngReg c r) := by
  unfold Pipeline.ΦA; rw [scopedRest0_eq]; simp only [owns_whole]; try rfl

theorem hpf (c : Dev nD) (k : Fin 2) : V m c (pre0.ref k) = (adm m).1 k := by
  obtain rfl := Subsingleton.elim c (0 : Dev nD)
  rfl

theorem hin (c : Dev nD) : iprop(Pipeline.ΦA spec0 c ∗ Pipeline.ΦT (U := UR sig nD τ) pre0 (adm m).1 c) ⊢ (dats m (adm m) 0 c).Φ 0 := by
  rw [Phi_eq, PhiA_eq, prefHeld_eq c (adm m).1 (tE (adm m)) (tU (adm m)) rfl rfl]
  unfold PhiAt
  iintro ⟨⟨⟨%s0, S0⟩, Hg⟩, T0, T1⟩
  isplitl [T0 T1]
  · isplitl [T0]; · iexact T0
    iexact T1
  isplitl [S0]
  · iexists s0
    isplitr; · ipureintro; exact fun t ht => absurd ht (Nat.succ_ne_zero _)
    iexact S0
  iexact Hg

theorem hout (c : Dev nD) : (dats m (adm m) 0 c).Φ (Fin.last (cfg0 (adm m)).N) ⊢ Pipeline.ΦA spec0 c := by
  rw [Phi_eq, PhiA_eq]
  unfold PhiAt
  iintro ⟨-, ⟨%s0, -, S0⟩, Hg⟩
  isplitl [S0]; · iexists s0; iexact S0
  iexact Hg

set_option backward.isDefEq.respectTransparency.types false in
set_option maxHeartbeats 800000 in
/-- The launch. -/
theorem run_main_quiescent : θ_run defs (onTc (τ := τ) (main (F := F))) (s₀ m ρ)
    (fun r => (Pipeline.FramePost (Pipeline.pin pcfgs fun _ => adm m) (dats m (adm m)) 0 (V m)) r ∧ r.2.sem = fun _ => 0) :=
  Pipeline.θ_run_frameP_track (Q' := _) pcfgs (fun _ => adm m) (dats m (adm m)) (0 : Fin 1) launch0 defs₀ Variants.none m ρ main
    (hbody := fun c => (body_obligation m (adm m) c).loose) (hshare := fun c => (dats m (adm m) 0 c).share_full fun _ => rfl)
    (howed := fun _ _ => rfl) (V := V m) (hmain := hmain m Variants.none) (hA := A_eq m (adm m)) (hpf := hpf m)
    (hin := hin m) (hout := hout m)

theorem run_main : θ_run defs (onTc (τ := τ) (main (F := F))) (s₀ m ρ) (Pipeline.FramePost (Pipeline.pin pcfgs fun _ => adm m) (dats m (adm m)) 0 (V m)) :=
  (θ_run defs _ _).mono (fun _ h => h.1) (run_main_quiescent m ρ)

/-- The result array ends as what the points leave it, and the arguments as launched. -/
theorem run_blocks : θ_run defs (onTc (τ := τ) (main (F := F))) ⟨m, fun _ => 0, ρ⟩ (fun r => ∀ c : Dev nD,
      r.2.mem ((c.tc : Thread nD τ).loc main_v23) = (dats m (adm m) 0 c).arrAt 2 (cfg0 (adm m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 2,
      ((h c).2 main_arg0 (Pipeline.mem_restRefs_of main_arg0 (by decide) (show ∀ w : Fin 3, (spec0 w).arr.view.ref ≠ main_arg0 by decide))).trans (V_main_arg0 m c),
      ((h c).2 main_arg1 (Pipeline.mem_restRefs_of main_arg1 (by decide) (show ∀ w : Fin 3, (spec0 w).arr.view.ref ≠ main_arg1 by decide))).trans (V_main_arg1 m c),
      ((h c).1 1).trans (((dats m (adm m) 0 c).arrAt_in 1 rfl _).trans ((A_eq m (adm m) c 1).trans (V_main_arg2 m c)))⟩) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and ((θ_run defs _ _).mono (fun _ h c => (h c).2) (run_blocks m ρ)) ((θ_run defs _ _).mono (fun _ h => h.2) (run_main_quiescent m ρ))

end Cert.Kernel5Ideal.Moe
end
-- ==== Proof.MoeDownRef.lean ====
/- THE EXPERTS' SECOND PRODUCT, the reference read entry by entry: a row's result is its experts' products, each weighted by
   whether the row is the expert's and its tile is in use. -/
module

public import proofs.«01_k».proof.Proof.Gen.Reference5Ideal.Run
public import proofs.«01_k».proof.Proof.Gen.Reference5Ideal.Read
public import Idealize.ShloMosaic.Lib.Pipeline.ValueKit

@[expose] public section

set_option maxRecDepth 16384

noncomputable section

namespace Cert.Kernel5Ideal.Moe

open Cert.Reference5Ideal Cert.Reference5Ideal.Read Idealize.ShloMosaic Idealize.ShloMosaic.TcCoe
open Idealize.SL.Sem

/-- Expert `e`'s product in row `R` and column `C`. -/
def prod (x0 : FVec Ideal S36864x3584 .f32) (x2 : FVec Ideal S8x3584x4096 .f32) (e : Fin 8) (R : Fin 36864) (C : Fin 4096) : EReal :=
  ∑ d : Fin 3584, x0 (ix2 R d) * x2 (ix3 e d C)

variable (x0 : FVec Ideal S36864x3584 .f32) (x1 : IVec S8 32) (x2 : FVec Ideal S8x3584x4096 .f32)

theorem prod_0 (R : Fin 36864) (C : Fin 4096) : val_main_v36 (F := Ideal) x0 x2 (ix2 R C) = prod x0 x2 0 R C := by
  pointwise [val_main_v36, val_main_v35, val_main_v34]
  rfl

theorem weight_0 (R : Fin 36864) (C : Fin 4096) : val_main_v37 (F := Ideal) x1 (ix2 R C) = val_main_v31 (F := Ideal) x1 (ix2 R 0) := by
  rw [val_main_v37_apply, val_main_v33_apply]
  exact congrArg (val_main_v31 (F := Ideal) x1) (funext fun a => match a with | 0 => rfl | 1 => rfl)

theorem sum_0 (R : Fin 36864) (C : Fin 4096) : val_main_v39 (F := Ideal) x0 x1 x2 (ix2 R C) = 0 + val_main_v31 (F := Ideal) x1 (ix2 R 0) * prod x0 x2 0 R C := by
  rw [val_main_v39_apply, val_main_v38_apply, prod_0, weight_0]
  refine congrArg₂ (· + ·) ?_ rfl
  rw [val_main_v32_apply, val_main_cst_apply]
  simp [Ideal.ofBits, Ideal.ieee]

theorem prod_1 (R : Fin 36864) (C : Fin 4096) : val_main_v43 (F := Ideal) x0 x2 (ix2 R C) = prod x0 x2 1 R C := by
  pointwise [val_main_v43, val_main_v42, val_main_v41]
  rfl

theorem weight_1 (R : Fin 36864) (C : Fin 4096) : val_main_v44 (F := Ideal) x1 (ix2 R C) = val_main_v31 (F := Ideal) x1 (ix2 R 1) := by
  rw [val_main_v44_apply, val_main_v40_apply]
  exact congrArg (val_main_v31 (F := Ideal) x1) (funext fun a => match a with | 0 => rfl | 1 => rfl)

theorem sum_1 (R : Fin 36864) (C : Fin 4096) : val_main_v46 (F := Ideal) x0 x1 x2 (ix2 R C) = val_main_v39 (F := Ideal) x0 x1 x2 (ix2 R C) + val_main_v31 (F := Ideal) x1 (ix2 R 1) * prod x0 x2 1 R C := by
  rw [val_main_v46_apply, val_main_v45_apply, prod_1, weight_1]
  rfl

theorem prod_2 (R : Fin 36864) (C : Fin 4096) : val_main_v50 (F := Ideal) x0 x2 (ix2 R C) = prod x0 x2 2 R C := by
  pointwise [val_main_v50, val_main_v49, val_main_v48]
  rfl

theorem weight_2 (R : Fin 36864) (C : Fin 4096) : val_main_v51 (F := Ideal) x1 (ix2 R C) = val_main_v31 (F := Ideal) x1 (ix2 R 2) := by
  rw [val_main_v51_apply, val_main_v47_apply]
  exact congrArg (val_main_v31 (F := Ideal) x1) (funext fun a => match a with | 0 => rfl | 1 => rfl)

theorem sum_2 (R : Fin 36864) (C : Fin 4096) : val_main_v53 (F := Ideal) x0 x1 x2 (ix2 R C) = val_main_v46 (F := Ideal) x0 x1 x2 (ix2 R C) + val_main_v31 (F := Ideal) x1 (ix2 R 2) * prod x0 x2 2 R C := by
  rw [val_main_v53_apply, val_main_v52_apply, prod_2, weight_2]
  rfl

theorem prod_3 (R : Fin 36864) (C : Fin 4096) : val_main_v57 (F := Ideal) x0 x2 (ix2 R C) = prod x0 x2 3 R C := by
  pointwise [val_main_v57, val_main_v56, val_main_v55]
  rfl

theorem weight_3 (R : Fin 36864) (C : Fin 4096) : val_main_v58 (F := Ideal) x1 (ix2 R C) = val_main_v31 (F := Ideal) x1 (ix2 R 3) := by
  rw [val_main_v58_apply, val_main_v54_apply]
  exact congrArg (val_main_v31 (F := Ideal) x1) (funext fun a => match a with | 0 => rfl | 1 => rfl)

theorem sum_3 (R : Fin 36864) (C : Fin 4096) : val_main_v60 (F := Ideal) x0 x1 x2 (ix2 R C) = val_main_v53 (F := Ideal) x0 x1 x2 (ix2 R C) + val_main_v31 (F := Ideal) x1 (ix2 R 3) * prod x0 x2 3 R C := by
  rw [val_main_v60_apply, val_main_v59_apply, prod_3, weight_3]
  rfl

theorem prod_4 (R : Fin 36864) (C : Fin 4096) : val_main_v64 (F := Ideal) x0 x2 (ix2 R C) = prod x0 x2 4 R C := by
  pointwise [val_main_v64, val_main_v63, val_main_v62]
  rfl

theorem weight_4 (R : Fin 36864) (C : Fin 4096) : val_main_v65 (F := Ideal) x1 (ix2 R C) = val_main_v31 (F := Ideal) x1 (ix2 R 4) := by
  rw [val_main_v65_apply, val_main_v61_apply]
  exact congrArg (val_main_v31 (F := Ideal) x1) (funext fun a => match a with | 0 => rfl | 1 => rfl)

theorem sum_4 (R : Fin 36864) (C : Fin 4096) : val_main_v67 (F := Ideal) x0 x1 x2 (ix2 R C) = val_main_v60 (F := Ideal) x0 x1 x2 (ix2 R C) + val_main_v31 (F := Ideal) x1 (ix2 R 4) * prod x0 x2 4 R C := by
  rw [val_main_v67_apply, val_main_v66_apply, prod_4, weight_4]
  rfl

theorem prod_5 (R : Fin 36864) (C : Fin 4096) : val_main_v71 (F := Ideal) x0 x2 (ix2 R C) = prod x0 x2 5 R C := by
  pointwise [val_main_v71, val_main_v70, val_main_v69]
  rfl

theorem weight_5 (R : Fin 36864) (C : Fin 4096) : val_main_v72 (F := Ideal) x1 (ix2 R C) = val_main_v31 (F := Ideal) x1 (ix2 R 5) := by
  rw [val_main_v72_apply, val_main_v68_apply]
  exact congrArg (val_main_v31 (F := Ideal) x1) (funext fun a => match a with | 0 => rfl | 1 => rfl)

theorem sum_5 (R : Fin 36864) (C : Fin 4096) : val_main_v74 (F := Ideal) x0 x1 x2 (ix2 R C) = val_main_v67 (F := Ideal) x0 x1 x2 (ix2 R C) + val_main_v31 (F := Ideal) x1 (ix2 R 5) * prod x0 x2 5 R C := by
  rw [val_main_v74_apply, val_main_v73_apply, prod_5, weight_5]
  rfl

theorem prod_6 (R : Fin 36864) (C : Fin 4096) : val_main_v78 (F := Ideal) x0 x2 (ix2 R C) = prod x0 x2 6 R C := by
  pointwise [val_main_v78, val_main_v77, val_main_v76]
  rfl

theorem weight_6 (R : Fin 36864) (C : Fin 4096) : val_main_v79 (F := Ideal) x1 (ix2 R C) = val_main_v31 (F := Ideal) x1 (ix2 R 6) := by
  rw [val_main_v79_apply, val_main_v75_apply]
  exact congrArg (val_main_v31 (F := Ideal) x1) (funext fun a => match a with | 0 => rfl | 1 => rfl)

theorem sum_6 (R : Fin 36864) (C : Fin 4096) : val_main_v81 (F := Ideal) x0 x1 x2 (ix2 R C) = val_main_v74 (F := Ideal) x0 x1 x2 (ix2 R C) + val_main_v31 (F := Ideal) x1 (ix2 R 6) * prod x0 x2 6 R C := by
  rw [val_main_v81_apply, val_main_v80_apply, prod_6, weight_6]
  rfl

theorem prod_7 (R : Fin 36864) (C : Fin 4096) : val_main_v85 (F := Ideal) x0 x2 (ix2 R C) = prod x0 x2 7 R C := by
  pointwise [val_main_v85, val_main_v84, val_main_v83]
  rfl

theorem weight_7 (R : Fin 36864) (C : Fin 4096) : val_main_v86 (F := Ideal) x1 (ix2 R C) = val_main_v31 (F := Ideal) x1 (ix2 R 7) := by
  rw [val_main_v86_apply, val_main_v82_apply]
  exact congrArg (val_main_v31 (F := Ideal) x1) (funext fun a => match a with | 0 => rfl | 1 => rfl)

theorem sum_7 (R : Fin 36864) (C : Fin 4096) : val_main_v88 (F := Ideal) x0 x1 x2 (ix2 R C) = val_main_v81 (F := Ideal) x0 x1 x2 (ix2 R C) + val_main_v31 (F := Ideal) x1 (ix2 R 7) * prod x0 x2 7 R C := by
  rw [val_main_v88_apply, val_main_v87_apply, prod_7, weight_7]
  rfl

theorem ref_sum (R : Fin 36864) (C : Fin 4096) : val_main_v89 (F := Ideal) x0 x1 x2 (ix2 R C)
    = ∑ e : Fin 8, val_main_v31 (F := Ideal) x1 (ix2 R e) * prod x0 x2 e R C := by
  rw [val_main_v89_apply]
  show val_main_v88 (F := Ideal) x0 x1 x2 (ix2 R C) = _
  rw [sum_7, sum_6, sum_5, sum_4, sum_3, sum_2, sum_1, sum_0, zero_add]
  simp only [Fin.sum_univ_succ, Fin.sum_univ_zero, add_zero, add_assoc]
  rfl

/-- An expert's weight: one where the row is the expert's and its tile is in use, else zero. -/
theorem weight (R : Fin 36864) (e : Fin 8) : val_main_v31 (F := Ideal) x1 (ix2 R e)
    = if val_main_v20 (F := Ideal) x1 (ix1 R) = BitVec.ofNat 32 e.val ∧ val_main_v26 (F := Ideal) x1 (ix1 R) = 1#1 then 1 else 0 := by
  have e1 : val_main_v27 (F := Ideal) x1 (ix2 R e) = (((IntOp.cmpi .eq (val_main_v20 (F := Ideal) x1 (ix1 R)) (BitVec.ofNat 32 e.val)).toNat : ℝ) : EReal) := by
    rw [val_main_v27_apply, val_main_call5_v4_apply, val_main_call5_v2_apply, val_main_call5_v0_apply, val_main_call5_v3_apply, val_main_call5_v1_apply]
    rw [show idx_main_call5_v0 (idx_main_call5_v2 (ix2 R e)) = ix1 R from funext fun a => match a with | 0 => rfl]
    rfl
  have e2 : val_main_v30 (F := Ideal) x1 (ix2 R e) = (((val_main_v26 (F := Ideal) x1 (ix1 R)).toNat : ℝ) : EReal) := by
    rw [val_main_v30_apply, val_main_v29_apply, val_main_v28_apply]
    rw [show idx_main_v28 (idx_main_v30 (ix2 R e)) = ix1 R from funext fun a => match a with | 0 => rfl]
    rfl
  rw [val_main_v31_apply, e1, e2]
  generalize val_main_v20 (F := Ideal) x1 (ix1 R) = w
  generalize val_main_v26 (F := Ideal) x1 (ix1 R) = b
  have hb : b = 0#1 ∨ b = 1#1 := by revert b; decide
  have hc : IntOp.cmpi .eq w (BitVec.ofNat 32 e.val) = BitVec.ofBool (decide (w = BitVec.ofNat 32 e.val)) := by
    simp [IntOp.cmpi]; rfl
  rw [hc]
  show ((_ : ℝ) : EReal) * ((_ : ℝ) : EReal) = _
  by_cases h : w = BitVec.ofNat 32 e.val <;> rcases hb with rfl | rfl <;> simp [h]

/-- The reference's value: its expert's product where the tile is in use, else zero. -/
theorem ref_at (R : Fin 36864) (C : Fin 4096) (e : Fin 8) (he : val_main_v20 (F := Ideal) x1 (ix1 R) = BitVec.ofNat 32 e.val) :
    val_main_v89 (F := Ideal) x0 x1 x2 (ix2 R C) = if val_main_v26 (F := Ideal) x1 (ix1 R) = 1#1 then prod x0 x2 e R C else 0 := by
  rw [ref_sum, Finset.sum_eq_single e]
  · rw [weight, he]
    by_cases h : val_main_v26 (F := Ideal) x1 (ix1 R) = 1#1
    · rw [if_pos ⟨rfl, h⟩, if_pos h, one_mul]
    · rw [if_neg (fun h' => h h'.2), if_neg h, zero_mul]
  · intro e' _ hne
    rw [weight, if_neg, zero_mul]
    rintro ⟨h', -⟩
    rw [he] at h'
    have := congrArg BitVec.toNat h'
    rw [BitVec.toNat_ofNat, BitVec.toNat_ofNat, Nat.mod_eq_of_lt (by omega), Nat.mod_eq_of_lt (by omega)] at this
    exact hne (Fin.ext this.symm)
  · intro h; exact absurd (Finset.mem_univ _) h

end Cert.Kernel5Ideal.Moe
end
-- ==== Proof.MoeDownWords.lean ====
/- THE EXPERTS' SECOND PRODUCT, its words: the expert of a row's tile and whether the tile is in use are the same in the
   reference, row by row, as in the call's tables, tile by tile. -/
module

public import proofs.«01_k».proof.Proof.MoeDownTab
public import proofs.«01_k».proof.Proof.MoeDownRef
public import Idealize.ShloMosaic.Lib.StableHlo.Predicate

@[expose] public section

set_option maxRecDepth 16384

noncomputable section

namespace Cert.Kernel5Ideal.Moe

open Cert.Kernel5Ideal Cert.Kernel5Ideal.Gen Idealize.ShloMosaic Idealize.ShloMosaic.TcCoe
open Idealize.SL.Sem
open Cert.Reference5Ideal (S36864 S36864x8)
open Cert.Reference5Ideal.Read

/-- A word's quotient, rounded down. -/
def fdiv (x y : BitVec 32) : BitVec 32 :=
  Scalar.select (IntOp.andi (IntOp.cmpi .ne (if x = 0 then 0 else if x.msb then -1 else 1) (if y = 0 then 0 else if y.msb then -1 else 1 : BitVec 32))
      (IntOp.cmpi .ne (IntOp.remsi .host x y) 0#32))
    (IntOp.subi (IntOp.divsi .host x y) 1#32) (IntOp.divsi .host x y)

theorem fdiv_row (a : Fin 72) (b : Fin 512) : fdiv (BitVec.ofNat 32 (a.val * 512 + b.val)) 512#32 = BitVec.ofNat 32 a.val := by
  have hn : a.val * 512 + b.val < 2 ^ 31 := by omega
  have hx : (BitVec.ofNat 32 (a.val * 512 + b.val)).msb = false := by
    rw [BitVec.msb_eq_false_iff_two_mul_lt, BitVec.toNat_ofNat, Nat.mod_eq_of_lt (by omega)]; omega
  have hd : IntOp.divsi .host (BitVec.ofNat 32 (a.val * 512 + b.val)) 512#32 = BitVec.ofNat 32 a.val := by
    unfold IntOp.divsi
    rw [if_neg (by unfold IntOp.SDivCorner; rintro (h | ⟨-, h⟩) <;> revert h <;> decide)]
    rw [BitVec.sdiv_eq, hx, show (512#32 : BitVec 32).msb = false from by decide]
    refine BitVec.eq_of_toNat_eq ?_
    show ((BitVec.ofNat 32 (a.val * 512 + b.val)).udiv 512#32).toNat = _
    rw [BitVec.udiv_eq, BitVec.toNat_udiv, BitVec.toNat_ofNat, BitVec.toNat_ofNat, BitVec.toNat_ofNat, Nat.mod_eq_of_lt (by omega), Nat.mod_eq_of_lt (by omega), Nat.mod_eq_of_lt (by omega)]
    omega
  unfold fdiv
  by_cases h0 : BitVec.ofNat 32 (a.val * 512 + b.val) = 0
  · rw [← hd, h0]; decide
  · rw [if_neg h0, hx, hd]
    generalize IntOp.remsi .host (BitVec.ofNat 32 (a.val * 512 + b.val)) 512#32 = r
    generalize BitVec.ofNat 32 a.val = w
    have : IntOp.cmpi .ne (if false = true then -1 else 1 : BitVec 32) (if (512#32 : BitVec 32) = 0 then 0 else if (512#32 : BitVec 32).msb then -1 else 1) = 0#1 := by decide
    rw [this]
    generalize IntOp.cmpi .ne r 0#32 = q
    have hq : q = 0#1 ∨ q = 1#1 := by revert q; decide
    rcases hq with rfl | rfl <;> rfl

theorem tile_start (R : Fin 36864) : val_main_v11 (F := Ideal) (ix1 R) = BitVec.ofNat 32 (R.val / 512) * 512#32 := by
  have h := fdiv_row ⟨R.val / 512, by omega⟩ ⟨R.val % 512, by omega⟩
  rw [show R.val / 512 * 512 + R.val % 512 = R.val by omega] at h
  rw [val_main_v11_apply]
  refine congrArg₂ (· * ·) (Eq.trans ?_ h) rfl
  rfl

theorem tile_no (R : Fin 36864) : val_main_v21 (F := Ideal) (ix1 R) = BitVec.ofNat 32 (R.val / 512) := by
  have h := fdiv_row ⟨R.val / 512, by omega⟩ ⟨0, by omega⟩
  have h' : BitVec.ofNat 32 (R.val / 512 * 512 + 0) = BitVec.ofNat 32 (R.val / 512) * 512#32 := by
    rw [Nat.add_zero, BitVec.ofNat_mul]
  have e := tile_start R
  refine Eq.trans ?_ h
  show _ = fdiv (BitVec.ofNat 32 (R.val / 512 * 512 + 0)) 512#32
  rw [h', ← e]
  rfl

theorem live_row (x1 : IVec S8 32) (R : Fin 36864) :
    val_main_v26 (F := Ideal) x1 (ix1 R) = 1#1 ↔ (BitVec.ofNat 32 (R.val / 512)).toInt < (val_main_v24 (F := Ideal) x1 (fun a => a.elim0)).toInt := by
  rw [val_main_v26_apply, val_main_v25_apply, tile_no]
  generalize val_main_v24 (F := Ideal) x1 = y
  show BitVec.ofBool (decide ((BitVec.ofNat 32 (R.val / 512)).toInt < (y _).toInt)) = 1#1 ↔ _
  by_cases h : (BitVec.ofNat 32 (R.val / 512)).toInt < (y (fun a => a.elim0)).toInt
  · simp only [h]; decide
  · simp only [h]; decide

theorem expert_row (x1 : IVec S8 32) (R : Fin 36864) :
    val_main_v20 (F := Ideal) x1 (ix1 R) = expertOf (val_main_v7 (F := Ideal) x1) (ix1 (⟨R.val / 512, by omega⟩ : Fin 72)) := by
  unfold expertOf
  rw [val_main_v20_apply]
  refine congrArg₂ IntOp.minsi ?_ rfl
  refine BitVec.eq_of_toNat_eq ?_
  unfold val_main_v18 val_main_v17
  refine (StableHlo.Predicate.toNat_reduce_count_cols (n := 36864) (m := 8) (by decide) _ _ _ _ _).trans (Eq.trans ?_ (StableHlo.Predicate.toNat_reduce_count_cols (n := 72) (m := 8) (by decide) _ _ _ _ _).symm)
  refine congrArg Finset.card (Finset.filter_congr fun q _ => ?_)
  refine iff_of_eq (congrArg (· = 1#1) ?_)
  rw [val_main_v16_apply, val_main_v14_apply, val_main_v12_apply, val_main_v15_apply, val_main_v13_apply]
  generalize val_main_v7 (F := Ideal) x1 = y
  refine congrArg₂ (IntOp.cmpi .sge) ?_ ?_
  · refine Eq.trans ?_ ((tile_start R).trans ?_)
    · exact congrArg (val_main_v11 (F := Ideal)) (funext fun a => match a with | 0 => rfl)
    · pointwise
      rfl
  · pointwise
    exact congrArg y (funext fun a => match a with | 0 => rfl)

variable (m : (ℓ : Loc nD τ sig) → Buf (Elt Ideal) ℓ)

/-- The counts. -/
abbrev cnt (c : Dev nD) : IVec S8 32 := m ((c : Thread nD τ).loc main_arg1)

/-! ## The host operations, stretch by stretch, from any contents `W` -/

section
variable (W : Valuation τ sig (Elt Ideal)) (x1 : IVec S8 32)

theorem of_v3 (p q r) (y : IVec S8 32) : (StableHlo.TRef.of main_v3 p q r : StableHlo.TRef sig ⟨S8, .i32⟩).ofBuf (Val := Elt Ideal) y = y := rfl
theorem of_v6 (p q r) (y : IVec S8 32) : (StableHlo.TRef.of main_v6 p q r : StableHlo.TRef sig ⟨S8, .i32⟩).ofBuf (Val := Elt Ideal) y = y := rfl
theorem of_c1 (p q r) (y : IVec S_ 32) : (StableHlo.TRef.of main_c_1 p q r : StableHlo.TRef sig ⟨S_, .i32⟩).ofBuf (Val := Elt Ideal) y = y := rfl
theorem to_v4 (p q r) (y : IVec S8 32) : (StableHlo.TRef.of main_v4 p q r : StableHlo.TRef sig ⟨S8, .i32⟩).toBuf (Val := Elt Ideal) y = y := rfl
theorem to_v7 (p q r) (y : IVec S8 32) : (StableHlo.TRef.of main_v7 p q r : StableHlo.TRef sig ⟨S8, .i32⟩).toBuf (Val := Elt Ideal) y = y := rfl

theorem s0_v3 : StableHlo.after hostOps0 W (Proc.devRef .tc main_v3) = val_main_v3 (F := Ideal) (W (Proc.devRef .tc main_arg1)) := by entry_read; rfl
theorem s0_c1 : StableHlo.after hostOps0 W (Proc.devRef .tc main_c_1) = constantI S_ 32 512#32 := by entry_read; rfl
theorem s1_v4 (h : W (Proc.devRef .tc main_v3) = val_main_v3 (F := Ideal) x1) (hc : W (Proc.devRef .tc main_c_1) = constantI S_ 32 512#32) :
    StableHlo.after hostOps0_1 W (Proc.devRef .tc main_v4) = val_main_v4 (F := Ideal) x1 := by entry_read; rw [h, hc]; simp only [StableHlo.TRef.ofBuf_toBuf, of_v3, of_c1, to_v4]; rfl
theorem s2_v6 (h : W (Proc.devRef .tc main_v4) = val_main_v4 (F := Ideal) x1) :
    StableHlo.after hostOps0_2 W (Proc.devRef .tc main_v6) = val_main_v6 (F := Ideal) x1 := by entry_read; rw [h]; rfl
theorem s3_v7 (h : W (Proc.devRef .tc main_v6) = val_main_v6 (F := Ideal) x1) :
    StableHlo.after hostOps0_3 W (Proc.devRef .tc main_v7) = val_main_v7 (F := Ideal) x1 := by entry_read; rw [h]; simp only [StableHlo.TRef.ofBuf_toBuf, of_v6, to_v7]; rfl
theorem s4_v7 : StableHlo.after hostOps0_4 W (Proc.devRef .tc main_v7) = W (Proc.devRef .tc main_v7) := by entry_read; rfl
theorem s4_v20 : StableHlo.after hostOps0_4 W (Proc.devRef .tc main_v20) = extractStridedSlice S1 ![7] (W (Proc.devRef .tc main_v7) : IVec S8 32) slices_S8_S1_7 := by entry_read; rfl
theorem s4_c6 : StableHlo.after hostOps0_4 W (Proc.devRef .tc main_c_6) = constantI S_ 32 512#32 := by entry_read; rfl
theorem s5_v7 : StableHlo.after hostOps0_5 W (Proc.devRef .tc main_v7) = W (Proc.devRef .tc main_v7) := by entry_read; rfl
theorem s5_v21 (e : IVec S1 32) (h : W (Proc.devRef .tc main_v20) = e) (hc : W (Proc.devRef .tc main_c_6) = constantI S_ 32 512#32) :
    (StableHlo.after hostOps0_5 W (Proc.devRef .tc main_v21) : IVec S1 32) (ix1 0) = fdiv (e (ix1 0)) 512#32 := by entry_read; rw [h, hc]; rfl
theorem s6_v7 : StableHlo.after hostOps0_6 W (Proc.devRef .tc main_v7) = W (Proc.devRef .tc main_v7) := by entry_read; rfl
theorem s6_v21 : StableHlo.after hostOps0_6 W (Proc.devRef .tc main_v21) = W (Proc.devRef .tc main_v21) := by entry_read; rfl
end

theorem V_chain (c : Dev nD) (b : Ref sig .tc) : V m c b
    = StableHlo.after hostOps0_6 (StableHlo.after hostOps0_5 (StableHlo.after hostOps0_4 (StableHlo.after hostOps0_3 (StableHlo.after hostOps0_2
        (StableHlo.after hostOps0_1 (StableHlo.after hostOps0 (fun b => m (c, b)))))))) (Proc.devRef .tc b) := by
  show StableHlo.after opss.flatten (fun b => m (c, b)) (Proc.devRef .tc b) = _
  simp only [opss, List.flatten_cons, List.flatten_nil, List.append_nil, StableHlo.after_append]

theorem V_ends (c : Dev nD) : V m c main_v7 = val_main_v7 (F := Ideal) (cnt m c) := by
  rw [V_chain, s6_v7, s5_v7, s4_v7]
  exact s3_v7 _ _ (s2_v6 _ _ (s1_v4 _ _ (s0_v3 _) (s0_c1 _)))

theorem V_used (c : Dev nD) : (V m c main_v21 : IVec S1 32) (ix1 0) = fdiv (val_main_v7 (F := Ideal) (cnt m c) (ix1 7)) 512#32 := by
  rw [V_chain, s6_v21]
  refine (s5_v21 _ _ (s4_v20 _) (s4_c6 _)).trans ?_
  rw [s3_v7 _ _ (s2_v6 _ _ (s1_v4 _ _ (s0_v3 _) (s0_c1 _)))]
  refine congrArg (fdiv · 512#32) ?_
  pointwise

theorem used_ref (x1 : IVec S8 32) : val_main_v24 (F := Ideal) x1 (fun a => a.elim0) = fdiv (val_main_v7 (F := Ideal) x1 (ix1 7)) 512#32 := by
  have h : val_main_v23 (F := Ideal) x1 (fun a => a.elim0) = val_main_v7 (F := Ideal) x1 (ix1 7) := by
    unfold val_main_v23
    pointwise [val_main_v22]
  rw [← h]
  rfl

end Cert.Kernel5Ideal.Moe
end
-- ==== Proof.MoeDownValue.lean ====
/- THE EXPERTS' SECOND PRODUCT, its value: every block the call leaves is the reference's, whatever the counts and the weights. -/
module

public import proofs.«01_k».proof.Proof.MoeDownRun
public import proofs.«01_k».proof.Proof.MoeDownWords

@[expose] public section

set_option maxRecDepth 16384

noncomputable section

namespace Cert.Kernel5Ideal.Moe

open Cert.Kernel5Ideal Cert.Kernel5Ideal.Gen Idealize.ShloMosaic Idealize.ShloMosaic.TcCoe
open Idealize.SL.Sem
open Cert.Reference5Ideal.Read (val_main_v89 val_main_v20 val_main_v26 val_main_v7 val_main_v24)

theorem pay_at (x : FVec Ideal S512x3584 .bf16) (g : FVec Ideal S1x3584x1024 .f32) (r : Fin 512) (k : Fin 1024) :
    k0_pay2 (F := Ideal) x (k0_pay1 (F := Ideal) g) (ix2 r k) = ∑ d : Fin 3584, x (ix2 r d) * g (ix3 0 d k) := by
  pointwise [k0_pay2, k0_pay1]

theorem zero_at (y : S512x1024.Idx) : k0_pay3 (F := Ideal) y = 0 := by
  show Ideal.ofBits .bf16 0x0000#16 = 0
  simp [Ideal.ofBits, Ideal.ieee]

variable (a : (pcfg0 (F := Ideal)).Adm)

theorem word {n : ℕ} (h : n < 288) : (BitVec.ofNat 32 n).toNat = n := by
  rw [BitVec.toNat_ofNat, Nat.mod_eq_of_lt (by omega)]
theorem point_lt (t : Fin (cfg0 a).N) : t.val < 288 := lt_of_lt_of_eq t.isLt N_0

theorem idx0 (t : Fin (cfg0 a).N) : ((cfg0 a).win 0).index t = ![t.val % 72, 0] := by
  show ![(BitVec.ofNat 32 (grid0.coords t 1).val).toNat, (0#32).toNat] = _
  have := point_lt a t
  rw [row_of, word (by omega)]
  rfl
theorem idx2 (t : Fin (cfg0 a).N) : ((cfg0 a).win 2).index t = ![t.val % 72, t.val / 72] := by
  show ![(BitVec.ofNat 32 (grid0.coords t 1).val).toNat, (BitVec.ofNat 32 (grid0.coords t 0).val).toNat] = _
  have := point_lt a t
  rw [row_of, col_of, word (n := t.val % 72) (by omega), word (n := t.val / 72) (by omega)]
theorem idxW (t : Fin (cfg0 a).N) : ![(tileW (tE a) (grid0.coords t)).toNat, (0#32).toNat, (BitVec.ofNat 32 (grid0.coords t 0).val).toNat]
    = ![(tE a (ix1 (⟨t.val % 72, Nat.mod_lt _ (by decide)⟩ : Fin 72))).toNat, 0, t.val / 72] := by
  have := point_lt a t
  have e : (⟨(grid0.coords t 1).val, (grid0.coords t 1).isLt⟩ : Fin 72) = ⟨t.val % 72, Nat.mod_lt _ (by decide)⟩ := Fin.ext (row_of t)
  rw [tile_word, e, col_of, word (n := t.val / 72) (by omega)]
  rfl

/-- Each point writes its block of the result back. -/
theorem flush2 (t : Fin (cfg0 a).N) : ((cfg0 a).win 2).flush t = true := by
  unfold Pipeline.Window.flush
  refine (Bool.and_eq_true _ _).mpr ⟨rfl, ?_⟩
  have ht := point_lt a t
  by_cases h : t.val + 1 = (cfg0 a).grid.N
  · exact (Bool.or_eq_true _ _).mpr (.inl (decide_eq_true h))
  · refine (Bool.or_eq_true _ _).mpr (.inr (decide_eq_true ⟨lt_of_le_of_ne t.isLt h, fun e => ?_⟩))
    rw [idx2, idx2] at e
    have e0 : (t.val + 1) % 72 = t.val % 72 := congrFun e 0
    omega

/-- The blocks of the result fill it. -/
theorem covers2 : ((cfg0 a).win 2).Covers := by
  refine ⟨fun (x : Fin 2) => ?_, fun β => ?_⟩
  · show 0 < S512x1024.size x
    revert x
    decide
  · have hb0 : (β (0 : Fin 2)).val < 72 := lt_of_lt_of_eq (β (0 : Fin 2)).isLt
      (show (S36864x4096.size 0 + S512x1024.size 0 - 1) / S512x1024.size 0 = 72 by decide)
    have hb1 : (β (1 : Fin 2)).val < 4 := lt_of_lt_of_eq (β (1 : Fin 2)).isLt
      (show (S36864x4096.size 1 + S512x1024.size 1 - 1) / S512x1024.size 1 = 4 by decide)
    have hN : (cfg0 a).N = 288 := N_0
    let t : Fin (cfg0 a).N := ⟨(β (1 : Fin 2)).val * 72 + (β (0 : Fin 2)).val, by omega⟩
    have ht : t.val = (β (1 : Fin 2)).val * 72 + (β (0 : Fin 2)).val := rfl
    refine ⟨t, flush2 a t, fun (x : Fin 2) => ⟨?_, .inl rfl⟩⟩
    refine (congrFun (idx2 a t) x).trans ?_
    match x with
    | 0 => show t.val % 72 = (β (0 : Fin 2)).val; omega
    | 1 => show t.val / 72 = (β (1 : Fin 2)).val; omega

variable (m : (ℓ : Loc nD τ sig) → Buf (Elt Ideal) ℓ)

/-- The arguments. -/
abbrev Xs (c : Dev nD) : FVec Ideal S36864x3584 .f32 := m ((c : Thread nD τ).loc main_arg0)
abbrev Wg (c : Dev nD) : FVec Ideal S8x3584x4096 .f32 := m ((c : Thread nD τ).loc main_arg2)

theorem rows_blk (c : Dev nD) (t : Fin (cfg0 a).N) (r : Fin 512) (d : Fin 3584) :
    xB m a c t (ix2 r d) = Xs m c (ix2 ⟨t.val % 72 * 512 + r.val, by omega⟩ d) := by
  refine Eq.trans (b := (V m c main_v22 : FVec Ideal S36864x3584 .bf16) (ix2 ⟨t.val % 72 * 512 + r.val, by omega⟩ d)) ?_ (by rw [V_rows]; rfl)
  have e := idx0 a t
  unfold xB
  blk_ext [iblk, e]

theorem gate_blk (c : Dev nD) (t : Fin (cfg0 a).N) (e : Fin 8) (he : (tE a (ix1 (⟨t.val % 72, Nat.mod_lt _ (by decide)⟩ : Fin 72))).toNat = e.val) (d : Fin 3584) (k : Fin 1024) :
    gB m a c t (ix3 0 d k) = Wg m c (ix3 e d ⟨t.val / 72 * 1024 + k.val, by have := lt_of_lt_of_eq t.isLt N_0; omega⟩) := by
  unfold Wg
  rw [← V_main_arg2 m c]
  have e1 := (index1 a t).trans (idxW a t)
  rw [he] at e1
  unfold gB
  blk_ext [iblk, e1]

/-- The block a point leaves, entry by entry. -/
theorem block_at (c : Dev nD) (t : Fin (cfg0 a).N) (e : Fin 8) (he : (tE a (ix1 (⟨t.val % 72, Nat.mod_lt _ (by decide)⟩ : Fin 72))).toNat = e.val) (r : Fin 512) (k : Fin 1024)
    (R : Fin 36864) (C : Fin 4096) (hR : R.val = t.val % 72 * 512 + r.val) (hC : C.val = t.val / 72 * 1024 + k.val) :
    oB m a c t (ix2 r k) = if (BitVec.ofNat 32 (t.val % 72)).toInt < (usedW (tU a)).toInt then prod (Xs m c) (Wg m c) e R C else 0 := by
  have hl : live a t ↔ (BitVec.ofNat 32 (t.val % 72)).toInt < (usedW (tU a)).toInt := by
    unfold live
    rw [cond2_iff, row_of]
  have eR : R = ⟨t.val % 72 * 512 + r.val, by omega⟩ := Fin.ext hR
  have eC : C = ⟨t.val / 72 * 1024 + k.val, by omega⟩ := Fin.ext hC
  unfold oB
  by_cases h : live a t
  · rw [if_pos h, if_pos (hl.mp h), pay_at]
    unfold prod
    rw [eR, eC]
    refine Finset.sum_congr rfl fun d _ => congrArg₂ (· * ·) ?_ ?_
    · exact rows_blk a m c t r d
    · exact gate_blk a m c t e he d k
  · rw [if_neg h, if_neg (fun h' => h (hl.mpr h'))]
    exact zero_at _

/-! ## At the tables the host code computes -/

theorem tE_eq (c : Dev nD) : tE (adm m) = expertOf (val_main_v7 (F := Ideal) (cnt m c)) := by
  obtain rfl : c = 0 := Subsingleton.elim _ _
  rw [← V_ends m 0]
  exact V_expert m 0

theorem used_eq (c : Dev nD) : usedW (tU (adm m)) = val_main_v24 (F := Ideal) (cnt m c) (fun a => a.elim0) := by
  obtain rfl : c = 0 := Subsingleton.elim _ _
  rw [used_ref, ← V_used m 0]
  unfold usedW
  exact congrArg (V m 0 main_v21 : IVec S1 32) (funext fun a => match a with | 0 => Subsingleton.elim (α := Fin 1) _ _)

theorem point (c : Dev nD) (t : Fin (cfg0 (adm m)).N) (y : S512x1024.Idx) (i : S36864x4096.Idx)
    (h0 : (i 0).val = t.val % 72 * 512 + (y 0).val) (h1 : (i 1).val = t.val / 72 * 1024 + (y 1).val) :
    oB m (adm m) c t y = val_main_v89 (F := Ideal) (Xs m c) (cnt m c) (Wg m c) i := by
  obtain ⟨r, k, rfl⟩ : ∃ r k, y = ix2 r k := ⟨y 0, y 1, by funext a; match a with | 0 => rfl | 1 => rfl⟩
  obtain ⟨R, C, rfl⟩ : ∃ R C, i = ix2 R C := ⟨i 0, i 1, by funext a; match a with | 0 => rfl | 1 => rfl⟩
  have h0 : R.val = t.val % 72 * 512 + r.val := h0
  have h1 : C.val = t.val / 72 * 1024 + k.val := h1
  have hd : R.val / 512 = t.val % 72 := by omega
  have hw := expert_row (cnt m c) R
  have hE := tE_eq m c
  have hT : (⟨R.val / 512, by omega⟩ : Fin 72) = ⟨t.val % 72, Nat.mod_lt _ (by decide)⟩ := Fin.ext hd
  rw [hT, ← hE] at hw
  have hlt : (tE (adm m) (ix1 (⟨t.val % 72, Nat.mod_lt _ (by decide)⟩ : Fin 72))).toNat < 8 := by rw [hE]; exact expert_lt _ _
  rw [block_at (adm m) m c t ⟨_, hlt⟩ rfl r k R C h0 h1,
    ref_at (Xs m c) (cnt m c) (Wg m c) R C ⟨_, hlt⟩ (hw.trans (BitVec.eq_of_toNat_eq (by exact (word (Nat.lt_of_lt_of_le hlt (by decide))).symm)))]
  refine if_congr ?_ rfl rfl
  rw [live_row, hd, used_eq m c]

/-- The result is the reference's. -/
theorem final (c : Dev nD) : (dats m (adm m) 0 c).arrAt 2 (cfg0 (adm m)).N
    = val_main_v89 (F := Ideal) (Xs m c) (cnt m c) (Wg m c) := by
  refine (dats m (adm m) 0 c).arrAt_eq_of_covers 2 _ (covers2 (adm m)) fun t _ y => ?_
  blk_simp
  rw [after0_2]
  refine point m c t y _ ?_ ?_
  all_goals (have e := idx2 (adm m) t; blk_simp [e] <;> try omega)

end Cert.Kernel5Ideal.Moe
end
-- ==== Proof.lean ====
module

public import proofs.«01_k».proof.Defs
public import proofs.«01_k».proof.Proof.Run
public import proofs.«01_k».proof.Proof.Value
public import proofs.«01_k».proof.Proof.Bits.Run
public import proofs.«01_k».proof.Proof.Bits.MoeRun
public import proofs.«01_k».proof.Proof.Bits.MoeDownRun
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Kernel2.Frame
public import proofs.«01_k».proof.Proof.Gen.Kernel3.Frame
public import proofs.«01_k».proof.Proof.FfnUp
public import proofs.«01_k».proof.Proof.FfnDown
public import proofs.«01_k».proof.Proof.MoeValue
public import proofs.«01_k».proof.Proof.MoeDownValue
public import proofs.«01_k».proof.Proof.Gen.Reference4Ideal.Run
public import proofs.«01_k».proof.Proof.Gen.Reference4Ideal.Read
public import proofs.«01_k».proof.Proof.Gen.Reference5Ideal.Run
public import proofs.«01_k».proof.Proof.Gen.Reference5Ideal.Read

@[expose] public section

noncomputable section

namespace Cert.Proof

open Idealize.ShloMosaic Idealize.SL.Sem Idealize.ShloMosaic.TcCoe

/-- The reference runs and leaves its arguments and the semaphores as they were. -/
theorem reference_frame : Cert.quiescent_ReferenceIdeal := fun m ρ _ =>
  (θ_run _ _ _).mono (fun r h => ⟨fun c => (h c).2, sem_eq_zero_of_no_sems (by decide) r.2⟩)
    (Cert.ReferenceIdeal.Value.run m ρ)

theorem reference_frame_pre [Cert.Pre_finite_queries_and_keys.Facts] : Cert.quiescent_ReferenceIdeal_pre_finite_queries_and_keys :=
  fun m ρ _ => reference_frame m ρ trivial

/-- From finite queries and keys, the kernel's result is the reference's. -/
theorem algebraic [Cert.Pre_finite_queries_and_keys.Facts] : Cert.algebraic_KernelIdeal_ReferenceIdeal_pre_finite_queries_and_keys := by
  pair_intro
  · run_from Cert.KernelIdeal.Run.run_main m g
  · refine (θ_run _ _ _).mono (fun r h c => ⟨((h c).1.trans (Cert.ReferenceIdeal.Read.val_main_v20_eq _ _ _ _ _)).trans ?_, (h c).2⟩)
      (Cert.ReferenceIdeal.Value.run m' g')
    obtain ⟨h0, h1, h2, -, h4, h5⟩ := hagree c
    obtain ⟨rq, rk, rkc⟩ := Cert.Pre_finite_queries_and_keys.reals _ _ _ _ _ _ (hpre c)
    rw [h0, h1, h2, h4, h5]
    exact (Cert.KernelIdeal.Run.final ⟨rq, rk, rkc⟩).symm

theorem reference2_frame : Cert.quiescent_Reference2Ideal := fun m ρ _ =>
  (θ_run _ _ _).mono (fun r h => ⟨fun c => (h c).2, sem_eq_zero_of_no_sems (by decide) r.2⟩)
    (Cert.Reference2Ideal.Value.run m ρ)

theorem reference3_frame : Cert.quiescent_Reference3Ideal := fun m ρ _ =>
  (θ_run _ _ _).mono (fun r h => ⟨fun c => (h c).2, sem_eq_zero_of_no_sems (by decide) r.2⟩)
    (Cert.Reference3Ideal.Value.run m ρ)

/-- The gated products of the feed-forward part are the reference's. -/
theorem algebraic2 : Cert.algebraic_Kernel2Ideal_Reference2Ideal := by
  pair_intro
  · run_from Cert.Kernel2Ideal.Value.run_blocks m g
  · refine (θ_run _ _ _).mono (fun r h c => ⟨((h c).1.trans (Cert.Reference2Ideal.Read.val_main_v11_eq _ _ _ _)).trans ?_, (h c).2⟩)
      (Cert.Reference2Ideal.Value.run m' g')
    obtain ⟨h0, h1, h2, h3⟩ := hagree c
    rw [h0, h1, h2, h3]
    exact (Cert.Kernel2Ideal.Value.final m c).symm

/-- The feed-forward part's second product, gated and added to the rows, is the reference's. -/
theorem algebraic3 : Cert.algebraic_Kernel3Ideal_Reference3Ideal := by
  pair_intro
  · run_from Cert.Kernel3Ideal.Value.run_blocks m g
  · refine (θ_run _ _ _).mono (fun r h c => ⟨((h c).1.trans (Cert.Reference3Ideal.Read.val_main_v10_eq _ _ _ _ _ _ _)).trans ?_, (h c).2⟩)
      (Cert.Reference3Ideal.Value.run m' g')
    obtain ⟨h0, h1, h2, h3, h4, h5, h6⟩ := hagree c
    rw [h0, h1, h2, h3, h4, h5, h6]
    exact (Cert.Kernel3Ideal.Value.final m c).symm

theorem reference4_frame : Cert.quiescent_Reference4Ideal := fun m ρ _ =>
  (θ_run _ _ _).mono (fun r h => ⟨fun c => (h c).2, sem_eq_zero_of_no_sems (by decide) r.2⟩)
    (Cert.Reference4Ideal.Value.run m ρ)

/-- The experts' first product is the reference's. -/
theorem algebraic4 : Cert.algebraic_Kernel4Ideal_Reference4Ideal := by
  pair_intro
  · run_from Cert.Kernel4Ideal.Moe.run_blocks m g
  · refine (θ_run _ _ _).mono (fun r h c => ⟨((h c).1.trans (Cert.Reference4Ideal.Read.val_main_v129_eq _)).trans ?_, (h c).2⟩)
      (Cert.Reference4Ideal.Value.run m' g')
    obtain ⟨h0, h1, h2, h3⟩ := hagree c
    refine Eq.trans ?_ (Cert.Kernel4Ideal.Moe.final m c).symm
    exact congr (congr (congrArg₂ (Cert.Reference4Ideal.Read.val_main_v129 (F := Ideal)) h0 h1) h2) h3

theorem reference5_frame : Cert.quiescent_Reference5Ideal := fun m ρ _ =>
  (θ_run _ _ _).mono (fun r h => ⟨fun c => (h c).2, sem_eq_zero_of_no_sems (by decide) r.2⟩)
    (Cert.Reference5Ideal.Value.run m ρ)

/-- The experts' second product is the reference's. -/
theorem algebraic5 : Cert.algebraic_Kernel5Ideal_Reference5Ideal := by
  pair_intro
  · run_from Cert.Kernel5Ideal.Moe.run_blocks m g
  · refine (θ_run _ _ _).mono (fun r h c => ⟨((h c).1.trans (Cert.Reference5Ideal.Read.val_main_v89_eq _)).trans ?_, (h c).2⟩)
      (Cert.Reference5Ideal.Value.run m' g')
    obtain ⟨h0, h1, h2⟩ := hagree c
    refine Eq.trans ?_ (Cert.Kernel5Ideal.Moe.final m c).symm
    exact congr (congrArg₂ (Cert.Reference5Ideal.Read.val_main_v89 (F := Ideal)) h0 h1) h2

theorem claim : Cert.Claim :=
  haveI := Cert.Pre_finite_queries_and_keys.facts
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite_queries_and_keys.facts,
    fun m ρ _ => Cert.Kernel.Run.frame m ρ, fun m ρ _ => Cert.KernelIdeal.Run.frame m ρ, fun m ρ _ => Cert.KernelIdeal.Run.frame m ρ,
    reference_frame, reference_frame_pre,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Moe.frame m ρ, fun m ρ _ => Cert.Kernel4Ideal.Moe.frame m ρ, reference4_frame,
    fun m ρ _ => Cert.Kernel5.Moe.frame m ρ, fun m ρ _ => Cert.Kernel5Ideal.Moe.frame m ρ, reference5_frame,
    IdealRules.named_const.statement Cert.KernelIdeal.κ "qscale" .f32 0x3E0293EE#32 _ rfl, algebraic,
    trivial, algebraic2, trivial, algebraic3, trivial, algebraic4, trivial, algebraic5⟩

end Cert.Proof

end
